-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4x8320x1024 : Shape := ⟨3, ![4, 8320, 1024]⟩
abbrev S1024 : Shape := ⟨1, ![1024]⟩
abbrev S1024x7832 : Shape := ⟨2, ![1024, 7832]⟩
abbrev S4x2304 : Shape := ⟨2, ![4, 2304]⟩
abbrev S6 : Shape := ⟨1, ![6]⟩
abbrev S128 : Shape := ⟨1, ![128]⟩
abbrev S_ : Shape := ⟨0, ![]⟩

class Facts : Prop where
  bcast_S_S4x8320x1024 : S_.BroadcastsInDim S4x8320x1024 (![] : Fin 0 → Fin S4x8320x1024.rank)
  reducesTo_S4x8320x1024_S_d0_1_2 : S4x8320x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x7832 : S_.BroadcastsInDim S1024x7832 (![] : Fin 0 → Fin S1024x7832.rank)
  reducesTo_S1024x7832_S_d0_1 : S1024x7832.ReducesTo [0, 1] S_
  bcast_S_S4x2304 : S_.BroadcastsInDim S4x2304 (![] : Fin 0 → Fin S4x2304.rank)
  reducesTo_S4x2304_S_d0_1 : S4x2304.ReducesTo [0, 1] S_
  bcast_S_S6 : S_.BroadcastsInDim S6 (![] : Fin 0 → Fin S6.rank)
  reducesTo_S6_S_d0 : S6.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S6 .f32) (main_arg5 : FVec F S6 .f32) (main_arg6 : FVec F S128 .f32) (main_v13 : IVec S_ 1) (main_v16 : IVec S4x2304 1) : IVec S_ 1 :=
  let main_c_5 : IVec S_ 1 := constantI S_ 1 1#1
  let main_v17 : IVec S_ 1 := (fun x v => Host.reduce IntOp.andi x v reducesTo_S4x2304_S_d0_1 h_S_) main_v16 main_c_5
  let main_v18 : IVec S_ 1 := andi main_v13 main_v17
  let main_v19 : FVec F S6 .f32 := Host.absf main_arg4
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  let main_v24 : FVec F S6 .f32 := Host.absf main_arg5
  let main_cst_8 : FVec F S_ .f32 := constant S_ .f32 0x7F800000#32
  let main_v25 : FVec F S6 .f32 := broadcastInDim S6 ![] bcast_S_S6 main_cst_8
  let main_v26 : IVec S6 1 := cmpf .olt main_v24 main_v25
  let main_c_9 : IVec S_ 1 := constantI S_ 1 1#1
  let main_v27 : IVec S_ 1 := (fun x v => Host.reduce IntOp.andi x v reducesTo_S6_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x8320x1024 .f32) (main_arg1 : FVec F S1024 .f32) (main_arg2 : FVec F S1024x7832 .f32) (main_arg3 : FVec F S4x2304 .f32) (main_arg4 : FVec F S6 .f32) (main_arg5 : FVec F S6 .f32) (main_arg6 : FVec F S128 .f32) : IVec S_ 1 :=
  let main_v0 : FVec F S4x8320x1024 .f32 := Host.absf main_arg0
  let main_cst : FVec F S_ .f32 := constant S_ .f32 0x7F800000#32
  let main_v1 : FVec F S4x8320x1024 .f32 := broadcastInDim S4x8320x1024 ![] bcast_S_S4x8320x1024 main_cst
  let main_v2 : IVec S4x8320x1024 1 := cmpf .olt main_v0 main_v1
  let main_c : IVec S_ 1 := constantI S_ 1 1#1
  let main_v3 : IVec S_ 1 := (fun x v => Host.reduce IntOp.andi x v reducesTo_S4x8320x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x7832 .f32 := Host.absf main_arg2
  let main_cst_2 : FVec F S_ .f32 := constant S_ .f32 0x7F800000#32
  let main_v10 : FVec F S1024x7832 .f32 := broadcastInDim S1024x7832 ![] bcast_S_S1024x7832 main_cst_2
  let main_v11 : IVec S1024x7832 1 := cmpf .olt main_v9 main_v10
  let main_c_3 : IVec S_ 1 := constantI S_ 1 1#1
  let main_v12 : IVec S_ 1 := (fun x v => Host.reduce IntOp.andi x v reducesTo_S1024x7832_S_d0_1 h_S_) main_v11 main_c_3
  let main_v13 : IVec S_ 1 := andi main_v8 main_v12
  let main_v14 : FVec F S4x2304 .f32 := Host.absf main_arg3
  let main_cst_4 : FVec F S_ .f32 := constant S_ .f32 0x7F800000#32
  let main_v15 : FVec F S4x2304 .f32 := broadcastInDim S4x2304 ![] bcast_S_S4x2304 main_cst_4
  let main_v16 : IVec S4x2304 1 := cmpf .olt main_v14 main_v15
  fn_part1 (F := F) main_arg4 main_arg5 main_arg6 main_v13 main_v16
-- ==== Kernel.lean ====
abbrev S4x8320x1024 : Shape := ⟨3, ![4, 8320, 1024]⟩
abbrev S1024 : Shape := ⟨1, ![1024]⟩
abbrev S1024x7832 : Shape := ⟨2, ![1024, 7832]⟩
abbrev S4x2304 : Shape := ⟨2, ![4, 2304]⟩
abbrev S6 : Shape := ⟨1, ![6]⟩
abbrev S128 : Shape := ⟨1, ![128]⟩
abbrev S1x1024 : Shape := ⟨2, ![1, 1024]⟩
abbrev S1024x3072 : Shape := ⟨2, ![1024, 3072]⟩
abbrev S1024x6 : Shape := ⟨2, ![1024, 6]⟩
abbrev S_ : Shape := ⟨0, ![]⟩
abbrev S1024x128 : Shape := ⟨2, ![1024, 128]⟩
abbrev S1024x3328 : Shape := ⟨2, ![1024, 3328]⟩
abbrev S1x128 : Shape := ⟨2, ![1, 128]⟩
abbrev S2x128 : Shape := ⟨2, ![2, 128]⟩
abbrev S8x128 : Shape := ⟨2, ![8, 128]⟩
abbrev S4x8320x768 : Shape := ⟨3, ![4, 8320, 768]⟩
abbrev S1x320x1024 : Shape := ⟨3, ![1, 320, 1024]⟩
abbrev S1x320x768 : Shape := ⟨3, ![1, 320, 768]⟩
abbrev S328x2304 : Shape := ⟨2, ![328, 2304]⟩
abbrev S320x768 : Shape := ⟨2, ![320, 768]⟩
abbrev S320x256 : Shape := ⟨2, ![320, 256]⟩
abbrev S6x128x128 : Shape := ⟨3, ![6, 128, 128]⟩
abbrev S8x2304 : Shape := ⟨2, ![8, 2304]⟩
abbrev S320x1024 : Shape := ⟨2, ![320, 1024]⟩
abbrev S320 : Shape := ⟨1, ![320]⟩
abbrev S320x1 : Shape := ⟨2, ![320, 1]⟩
abbrev S1024x2304 : Shape := ⟨2, ![1024, 2304]⟩
abbrev S320x2304 : Shape := ⟨2, ![320, 2304]⟩
abbrev S1024x768 : Shape := ⟨2, ![1024, 768]⟩
abbrev S1024x256 : Shape := ⟨2, ![1024, 256]⟩
abbrev S320x128 : Shape := ⟨2, ![320, 128]⟩
abbrev S64x64 : Shape := ⟨2, ![64, 64]⟩
abbrev S64x128 : Shape := ⟨2, ![64, 128]⟩
abbrev S128x64 : Shape := ⟨2, ![128, 64]⟩
abbrev S64x1 : Shape := ⟨2, ![64, 1]⟩
abbrev S1x64 : Shape := ⟨2, ![1, 64]⟩
abbrev S64x256 : Shape := ⟨2, ![64, 256]⟩
abbrev S1x1 : Shape := ⟨2, ![1, 1]⟩
abbrev S1x128x128 : Shape := ⟨3, ![1, 128, 128]⟩
abbrev S128x128 : Shape := ⟨2, ![128, 128]⟩
abbrev S64 : Shape := ⟨1, ![64]⟩
abbrev S1x64x128 : Shape := ⟨3, ![1, 64, 128]⟩

abbrev nBuf : Space → Nat
  | .hbm => 33
  | .vmem => 16
  | .smem => 0
  | _ => 0

abbrev bufTy : (tb : Table) → Fin (tcTables nBuf tb) → BufTy
  | .hbm, ⟨0, _⟩ => ⟨S4x8320x1024, .f32⟩
  | .hbm, ⟨1, _⟩ => ⟨S1024, .f32⟩
  | .hbm, ⟨2, _⟩ => ⟨S1024x7832, .f32⟩
  | .hbm, ⟨3, _⟩ => ⟨S4x2304, .f32⟩
  | .hbm, ⟨4, _⟩ => ⟨S6, .f32⟩
  | .hbm, ⟨5, _⟩ => ⟨S6, .f32⟩
  | .hbm, ⟨6, _⟩ => ⟨S128, .f32⟩
  | .hbm, ⟨7, _⟩ => ⟨S1x1024, .f32⟩
  | .hbm, ⟨8, _⟩ => ⟨S1024x3072, .f32⟩
  | .hbm, ⟨9, _⟩ => ⟨S1024x6, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x6, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x3328, .f32⟩
  | .hbm, ⟨18, _⟩ => ⟨S1024x3328, .bf16⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S1x128, .f32⟩
  | .hbm, ⟨27, _⟩ => ⟨S2x128, .f32⟩
  | .hbm, ⟨28, _⟩ => ⟨S_, .i32⟩
  | .hbm, ⟨29, _⟩ => ⟨S_, .f32⟩
  | .hbm, ⟨30, _⟩ => ⟨S8x128, .f32⟩
  | .hbm, ⟨31, _⟩ => ⟨S1x128, .f32⟩
  | .hbm, ⟨32, _⟩ => ⟨S4x8320x768, .f32⟩
  | .local _ .vmem, ⟨0, _⟩ => ⟨S1x320x1024, .f32⟩
  | .local _ .vmem, ⟨1, _⟩ => ⟨S1x320x1024, .f32⟩
  | .local _ .vmem, ⟨2, _⟩ => ⟨S1x1024, .f32⟩
  | .local _ .vmem, ⟨3, _⟩ => ⟨S1024x3328, .bf16⟩
  | .local _ .vmem, ⟨4, _⟩ => ⟨S4x2304, .f32⟩
  | .local _ .vmem, ⟨5, _⟩ => ⟨S8x128, .f32⟩
  | .local _ .vmem, ⟨6, _⟩ => ⟨S1x128, .f32⟩
  | .local _ .vmem, ⟨7, _⟩ => ⟨S1x320x768, .f32⟩
  | .local _ .vmem, ⟨8, _⟩ => ⟨S1x320x768, .f32⟩
  | .local _ .vmem, ⟨9, _⟩ => ⟨S328x2304, .f32⟩
  | .local _ .vmem, ⟨10, _⟩ => ⟨S320x768, .f32⟩
  | .local _ .vmem, ⟨11, _⟩ => ⟨S320x768, .f32⟩
  | .local _ .vmem, ⟨12, _⟩ => ⟨S320x768, .f32⟩
  | .local _ .vmem, ⟨13, _⟩ => ⟨S320x768, .f32⟩
  | .local _ .vmem, ⟨14, _⟩ => ⟨S320x256, .f32⟩
  | .local _ .vmem, ⟨15, _⟩ => ⟨S6x128x128, .f32⟩
  | _, _ => ⟨S4x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_call2_v0 : Ref sig .tc := ⟨.hbm, 20, rfl⟩
abbrev main_v8 : Ref sig .tc := ⟨.hbm, 21, rfl⟩
abbrev main_c_2 : Ref sig .tc := ⟨.hbm, 22, rfl⟩
abbrev main_call3_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_call4_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 26], ![false, false]⟩

@[reducible] def k0_t1_loop : Scf.Loop 32 :=
  let c0_i32_365 : BitVec 32 := 0#32
  let c5_i32 : BitVec 32 := 5#32
  let v627 : BitVec 32 := Scalar.addi c0_i32_365 c5_i32
  let c1_i32 : BitVec 32 := 1#32
  ⟨c0_i32_365, v627, c1_i32⟩
def k0_mult1 (k0_t1 : Fin k0_t1_loop.trips) : BitVec 32 :=
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  v628
def k0_off1 (k0_t1 : Fin k0_t1_loop.trips) : Fin 2 → Nat :=
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  let v629 : BitVec 32 := v628
  let v630 : Index := Scalar.indexCast v629
  let c0_367 : Index := 0#32
  ![v630.toNat, 0]
def k0_off2 (k0_t1 : Fin k0_t1_loop.trips) : Fin 2 → Nat :=
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  let v629 : BitVec 32 := v628
  let v645 : Index := Scalar.indexCast v629
  let c128_371 : Index := 128#32
  ![v645.toNat, 128]
def k0_off3 (k0_t1 : Fin k0_t1_loop.trips) : Fin 2 → Nat :=
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  let v629 : BitVec 32 := v628
  let v647 : Index := Scalar.indexCast v629
  let c0_372 : Index := 0#32
  ![v647.toNat, 0]
def k0_off4 (k0_t1 : Fin k0_t1_loop.trips) : Fin 3 → Nat :=
  let c0_429 : Index := 0#32
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  let v629 : BitVec 32 := v628
  let v885 : Index := Scalar.indexCast v629
  let c0_430 : Index := 0#32
  ![0, v885.toNat, 0]
def k0_off5 (k0_t1 : Fin k0_t1_loop.trips) : Fin 2 → Nat :=
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  let v629 : BitVec 32 := v628
  let v889 : Index := Scalar.indexCast v629
  let c128_431 : Index := 128#32
  ![v889.toNat, 128]
def k0_off6 (k0_t1 : Fin k0_t1_loop.trips) : Fin 3 → Nat :=
  let c0_488 : Index := 0#32
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  let v629 : BitVec 32 := v628
  let v1127 : Index := Scalar.indexCast v629
  let c128_489 : Index := 128#32
  ![0, v1127.toNat, 128]
def k0_off7 (k0_t1 : Fin k0_t1_loop.trips) : Fin 2 → Nat :=
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  let v629 : BitVec 32 := v628
  let v1131 : Index := Scalar.indexCast v629
  let c256_490 : Index := 256#32
  ![v1131.toNat, 256]
def k0_off8 (k0_t1 : Fin k0_t1_loop.trips) : Fin 3 → Nat :=
  let c0_547 : Index := 0#32
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  let v629 : BitVec 32 := v628
  let v1369 : Index := Scalar.indexCast v629
  let c256_548 : Index := 256#32
  ![0, v1369.toNat, 256]
def k0_off9 (k0_t1 : Fin k0_t1_loop.trips) : Fin 2 → Nat :=
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  let v629 : BitVec 32 := v628
  let v1373 : Index := Scalar.indexCast v629
  let c384_549 : Index := 384#32
  ![v1373.toNat, 384]
def k0_off10 (k0_t1 : Fin k0_t1_loop.trips) : Fin 3 → Nat :=
  let c0_606 : Index := 0#32
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  let v629 : BitVec 32 := v628
  let v1611 : Index := Scalar.indexCast v629
  let c384_607 : Index := 384#32
  ![0, v1611.toNat, 384]
def k0_off11 (k0_t1 : Fin k0_t1_loop.trips) : Fin 2 → Nat :=
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  let v629 : BitVec 32 := v628
  let v1615 : Index := Scalar.indexCast v629
  let c512_608 : Index := 512#32
  ![v1615.toNat, 512]
def k0_off12 (k0_t1 : Fin k0_t1_loop.trips) : Fin 3 → Nat :=
  let c0_664 : Index := 0#32
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  let v629 : BitVec 32 := v628
  let v1853 : Index := Scalar.indexCast v629
  let c512_665 : Index := 512#32
  ![0, v1853.toNat, 512]
def k0_off13 (k0_t1 : Fin k0_t1_loop.trips) : Fin 2 → Nat :=
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  let v629 : BitVec 32 := v628
  let v1857 : Index := Scalar.indexCast v629
  let c640_666 : Index := 640#32
  ![v1857.toNat, 640]
def k0_off14 (k0_t1 : Fin k0_t1_loop.trips) : Fin 3 → Nat :=
  let c0_723 : Index := 0#32
  let c0_i32_365 : BitVec 32 := 0#32
  let c1_i32 : BitVec 32 := 1#32
  let arg16 : BitVec 32 := Scf.iv c0_i32_365 c1_i32 k0_t1
  let c64_i32 : BitVec 32 := 64#32
  let v628 : BitVec 32 := Scalar.muli arg16 c64_i32
  let v629 : BitVec 32 := v628
  let v2095 : Index := Scalar.indexCast v629
  let c640_724 : Index := 640#32
  ![0, v2095.toNat, 640]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x2304 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x320x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x8320x1024 : Shape := ⟨3, ![4, 8320, 1024]⟩
abbrev S1024 : Shape := ⟨1, ![1024]⟩
abbrev S1024x7832 : Shape := ⟨2, ![1024, 7832]⟩
abbrev S4x2304 : Shape := ⟨2, ![4, 2304]⟩
abbrev S6 : Shape := ⟨1, ![6]⟩
abbrev S128 : Shape := ⟨1, ![128]⟩
abbrev S4x8208x1024 : Shape := ⟨3, ![4, 8208, 1024]⟩
abbrev S_ : Shape := ⟨0, ![]⟩
abbrev S4x8208 : Shape := ⟨2, ![4, 8208]⟩
abbrev S4x8208x1 : Shape := ⟨3, ![4, 8208, 1]⟩
abbrev S1x1x1024 : Shape := ⟨3, ![1, 1, 1024]⟩
abbrev S1024x3084 : Shape := ⟨2, ![1024, 3084]⟩
abbrev S4x8208x3084 : Shape := ⟨3, ![4, 8208, 3084]⟩
abbrev S4x8208x2304 : Shape := ⟨3, ![4, 8208, 2304]⟩
abbrev S4x8211x2304 : Shape := ⟨3, ![4, 8211, 2304]⟩
abbrev S1x2304 : Shape := ⟨2, ![1, 2304]⟩
abbrev S2304 : Shape := ⟨1, ![2304]⟩
abbrev S1x1x2304 : Shape := ⟨3, ![1, 1, 2304]⟩
abbrev S4x8208x768 : Shape := ⟨3, ![4, 8208, 768]⟩
abbrev S4x8208x6 : Shape := ⟨3, ![4, 8208, 6]⟩
abbrev S4x8208x6x128 : Shape := ⟨4, ![4, 8208, 6, 128]⟩
abbrev S1x1x6 : Shape := ⟨3, ![1, 1, 6]⟩
abbrev S4x8208x6x1 : Shape := ⟨4, ![4, 8208, 6, 1]⟩
abbrev S8208x4x6x128 : Shape := ⟨4, ![8208, 4, 6, 128]⟩
abbrev S8208x4x6 : Shape := ⟨3, ![8208, 4, 6]⟩
abbrev S4x6x128x128 : Shape := ⟨4, ![4, 6, 128, 128]⟩
abbrev S1x4x6x128 : Shape := ⟨4, ![1, 4, 6, 128]⟩
abbrev S4x6x128 : Shape := ⟨3, ![4, 6, 128]⟩
abbrev S1x4x6 : Shape := ⟨3, ![1, 4, 6]⟩
abbrev S4x6 : Shape := ⟨2, ![4, 6]⟩
abbrev S4x6x1 : Shape := ⟨3, ![4, 6, 1]⟩
abbrev S4x6x1x1 : Shape := ⟨4, ![4, 6, 1, 1]⟩
abbrev S4x6x128x1 : Shape := ⟨4, ![4, 6, 128, 1]⟩
abbrev S4x6x1x128 : Shape := ⟨4, ![4, 6, 1, 128]⟩
abbrev S1x1x128 : Shape := ⟨3, ![1, 1, 128]⟩
abbrev S4x8320x768 : Shape := ⟨3, ![4, 8320, 768]⟩

abbrev nBuf : Space → Nat
  | .hbm => 236
  | .vmem => 0
  | .smem => 0
  | _ => 0

abbrev hbmTy0_0 (i : Nat) : BufTy := match i % 128 with
  | 0 => ⟨S4x8320x1024, .f32⟩
  | 1 => ⟨S1024, .f32⟩
  | 2 => ⟨S1024x7832, .f32⟩
  | 3 => ⟨S4x2304, .f32⟩
  | 4 => ⟨S6, .f32⟩
  | 5 => ⟨S6, .f32⟩
  | 6 => ⟨S128, .f32⟩
  | 7 => ⟨S4x8208x1024, .f32⟩
  | 8 => ⟨S4x8208x1024, .f32⟩
  | 9 => ⟨S_, .f32⟩
  | 10 => ⟨S4x8208, .f32⟩
  | 11 => ⟨S4x8208x1, .f32⟩
  | 12 => ⟨S_, .f32⟩
  | 13 => ⟨S4x8208x1, .f32⟩
  | 14 => ⟨S4x8208x1, .f32⟩
  | 15 => ⟨S_, .f32⟩
  | 16 => ⟨S4x8208x1, .f32⟩
  | 17 => ⟨S4x8208x1, .f32⟩
  | 18 => ⟨S4x8208x1, .f32⟩
  | 19 => ⟨S4x8208x1024, .f32⟩
  | 20 => ⟨S4x8208x1024, .f32⟩
  | 21 => ⟨S1x1x1024, .f32⟩
  | 22 => ⟨S4x8208x1024, .f32⟩
  | 23 => ⟨S4x8208x1024, .f32⟩
  | 24 => ⟨S1024x3084, .f32⟩
  | 25 => ⟨S4x8208x3084, .f32⟩
  | 26 => ⟨S4x8208x2304, .f32⟩
  | 27 => ⟨S_, .i32⟩
  | 28 => ⟨S_, .f32⟩
  | 29 => ⟨S4x8211x2304, .f32⟩
  | 30 => ⟨S4x8208x2304, .f32⟩
  | 31 => ⟨S1x2304, .f32⟩
  | 32 => ⟨S2304, .f32⟩
  | 33 => ⟨S1x1x2304, .f32⟩
  | 34 => ⟨S4x8208x2304, .f32⟩
  | 35 => ⟨S4x8208x2304, .f32⟩
  | 36 => ⟨S_, .f32⟩
  | 37 => ⟨S4x8208x2304, .f32⟩
  | 38 => ⟨S4x8208x2304, .f32⟩
  | 39 => ⟨S4x8208x2304, .f32⟩
  | 40 => ⟨S1x2304, .f32⟩
  | 41 => ⟨S2304, .f32⟩
  | 42 => ⟨S1x1x2304, .f32⟩
  | 43 => ⟨S4x8208x2304, .f32⟩
  | 44 => ⟨S4x8208x2304, .f32⟩
  | 45 => ⟨S4x8208x2304, .f32⟩
  | 46 => ⟨S4x8208x2304, .f32⟩
  | 47 => ⟨S1x2304, .f32⟩
  | 48 => ⟨S2304, .f32⟩
  | 49 => ⟨S1x1x2304, .f32⟩
  | 50 => ⟨S4x8208x2304, .f32⟩
  | 51 => ⟨S4x8208x2304, .f32⟩
  | 52 => ⟨S4x8208x2304, .f32⟩
  | 53 => ⟨S4x8208x2304, .f32⟩
  | 54 => ⟨S1x2304, .f32⟩
  | 55 => ⟨S2304, .f32⟩
  | 56 => ⟨S1x1x2304, .f32⟩
  | 57 => ⟨S4x8208x2304, .f32⟩
  | 58 => ⟨S4x8208x2304, .f32⟩
  | 59 => ⟨S4x8208x2304, .f32⟩
  | 60 => ⟨S4x8208x2304, .f32⟩
  | 61 => ⟨S4x8208x2304, .f32⟩
  | 62 => ⟨S_, .f32⟩
  | 63 => ⟨S4x8208x2304, .f32⟩
  | 64 => ⟨S4x8208x2304, .f32⟩
  | 65 => ⟨S_, .f32⟩
  | 66 => ⟨S4x8208x2304, .f32⟩
  | 67 => ⟨S4x8208x2304, .f32⟩
  | 68 => ⟨S4x8208x2304, .f32⟩
  | 69 => ⟨S4x8208x768, .f32⟩
  | 70 => ⟨S4x8208x6, .f32⟩
  | 71 => ⟨S4x8208x6, .f32⟩
  | 72 => ⟨S4x8208x768, .f32⟩
  | 73 => ⟨S4x8208x6x128, .f32⟩
  | 74 => ⟨S4x8208x768, .f32⟩
  | 75 => ⟨S4x8208x6x128, .f32⟩
  | 76 => ⟨S4x8208x768, .f32⟩
  | 77 => ⟨S4x8208x6x128, .f32⟩
  | 78 => ⟨S6, .f32⟩
  | 79 => ⟨S6, .f32⟩
  | 80 => ⟨S1x1x6, .f32⟩
  | 81 => ⟨S4x8208x6, .f32⟩
  | 82 => ⟨S4x8208x6, .f32⟩
  | 83 => ⟨S_, .f32⟩
  | 84 => ⟨S4x8208x6, .f32⟩
  | 85 => ⟨S4x8208x6, .f32⟩
  | 86 => ⟨S4x8208x6, .f32⟩
  | 87 => ⟨S4x8208x6, .f32⟩
  | 88 => ⟨S4x8208x6, .f32⟩
  | 89 => ⟨S4x8208x6, .f32⟩
  | 90 => ⟨S4x8208x6, .f32⟩
  | 91 => ⟨S1x1x6, .f32⟩
  | 92 => ⟨S4x8208x6, .f32⟩
  | 93 => ⟨S4x8208x6, .f32⟩
  | 94 => ⟨S4x8208x6, .f32⟩
  | 95 => ⟨S4x8208x6, .f32⟩
  | 96 => ⟨S_, .f32⟩
  | 97 => ⟨S4x8208x6, .f32⟩
  | 98 => ⟨S4x8208x6, .f32⟩
  | 99 => ⟨S_, .f32⟩
  | 100 => ⟨S4x8208x6, .f32⟩
  | 101 => ⟨S4x8208x6, .f32⟩
  | 102 => ⟨S4x8208x6x128, .f32⟩
  | 103 => ⟨S4x8208x6x128, .f32⟩
  | 104 => ⟨S_, .f32⟩
  | 105 => ⟨S4x8208x6, .f32⟩
  | 106 => ⟨S4x8208x6x1, .f32⟩
  | 107 => ⟨S_, .f32⟩
  | 108 => ⟨S4x8208x6x1, .f32⟩
  | 109 => ⟨S4x8208x6x1, .f32⟩
  | 110 => ⟨S4x8208x6x1, .f32⟩
  | 111 => ⟨S4x8208x6x128, .f32⟩
  | 112 => ⟨S4x8208x6x128, .f32⟩
  | 113 => ⟨S4x8208x6x128, .f32⟩
  | 114 => ⟨S_, .f32⟩
  | 115 => ⟨S4x8208x6, .f32⟩
  | 116 => ⟨S4x8208x6x1, .f32⟩
  | 117 => ⟨S_, .f32⟩
  | 118 => ⟨S4x8208x6x1, .f32⟩
  | 119 => ⟨S4x8208x6x1, .f32⟩
  | 120 => ⟨S4x8208x6x1, .f32⟩
  | 121 => ⟨S4x8208x6x128, .f32⟩
  | 122 => ⟨S4x8208x6x128, .f32⟩
  | 123 => ⟨S8208x4x6x128, .f32⟩
  | 124 => ⟨S8208x4x6x128, .f32⟩
  | 125 => ⟨S8208x4x6x128, .f32⟩
  | 126 => ⟨S8208x4x6, .f32⟩
  | 127 => ⟨S8208x4x6, .f32⟩
  | _ => ⟨S4x8320x1024, .f32⟩

abbrev hbmTy0_1 (i : Nat) : BufTy := match i % 128 with
  | 0 => ⟨S8208x4x6x128, .f32⟩
  | 1 => ⟨S_, .f32⟩
  | 2 => ⟨S4x6x128x128, .f32⟩
  | 3 => ⟨S_, .f32⟩
  | 4 => ⟨S8208x4x6x128, .f32⟩
  | 5 => ⟨S_, .i32⟩
  | 6 => ⟨S8208x4x6x128, .f32⟩
  | 7 => ⟨S8208x4x6x128, .f32⟩
  | 8 => ⟨S8208x4x6x128, .f32⟩
  | 9 => ⟨S8208x4x6, .f32⟩
  | 10 => ⟨S8208x4x6, .f32⟩
  | 11 => ⟨S8208x4x6x128, .f32⟩
  | 12 => ⟨S128, .f32⟩
  | 13 => ⟨S_, .i32⟩
  | 14 => ⟨S4x6x128x128, .f32⟩
  | 15 => ⟨S8208x4x6x128, .f32⟩
  | 16 => ⟨S_, .i32⟩
  | 17 => ⟨S_, .i1⟩
  | 18 => ⟨S_, .i32⟩
  | 19 => ⟨S_, .i32⟩
  | 20 => ⟨S_, .i32⟩
  | 21 => ⟨S1x4x6x128, .f32⟩
  | 22 => ⟨S4x6x128, .f32⟩
  | 23 => ⟨S_, .i32⟩
  | 24 => ⟨S_, .i32⟩
  | 25 => ⟨S_, .i32⟩
  | 26 => ⟨S1x4x6x128, .f32⟩
  | 27 => ⟨S4x6x128, .f32⟩
  | 28 => ⟨S_, .i32⟩
  | 29 => ⟨S_, .i32⟩
  | 30 => ⟨S_, .i32⟩
  | 31 => ⟨S1x4x6x128, .f32⟩
  | 32 => ⟨S4x6x128, .f32⟩
  | 33 => ⟨S_, .i32⟩
  | 34 => ⟨S_, .i32⟩
  | 35 => ⟨S1x4x6, .f32⟩
  | 36 => ⟨S4x6, .f32⟩
  | 37 => ⟨S_, .i32⟩
  | 38 => ⟨S_, .i32⟩
  | 39 => ⟨S1x4x6, .f32⟩
  | 40 => ⟨S4x6, .f32⟩
  | 41 => ⟨S_, .i32⟩
  | 42 => ⟨S_, .i32⟩
  | 43 => ⟨S_, .i32⟩
  | 44 => ⟨S1x4x6x128, .f32⟩
  | 45 => ⟨S4x6x128, .f32⟩
  | 46 => ⟨S4x6x1, .f32⟩
  | 47 => ⟨S4x6x128, .f32⟩
  | 48 => ⟨S4x6x128, .f32⟩
  | 49 => ⟨S4x6x128, .f32⟩
  | 50 => ⟨S4x6, .f32⟩
  | 51 => ⟨S4x6x1x1, .f32⟩
  | 52 => ⟨S4x6x128x1, .f32⟩
  | 53 => ⟨S4x6x1x128, .f32⟩
  | 54 => ⟨S4x6x128x128, .f32⟩
  | 55 => ⟨S4x6x128x128, .f32⟩
  | 56 => ⟨S4x6x128x128, .f32⟩
  | 57 => ⟨S4x6x128x128, .f32⟩
  | 58 => ⟨S4x6x128x128, .f32⟩
  | 59 => ⟨S4x6x128x128, .f32⟩
  | 60 => ⟨S4x6x128x1, .f32⟩
  | 61 => ⟨S4x6x1x128, .f32⟩
  | 62 => ⟨S4x6x128x128, .f32⟩
  | 63 => ⟨S4x6x128x128, .f32⟩
  | 64 => ⟨S4x6x128x128, .f32⟩
  | 65 => ⟨S4x6x128x128, .f32⟩
  | 66 => ⟨S_, .f32⟩
  | 67 => ⟨S4x6x128, .f32⟩
  | 68 => ⟨S4x6x128, .f32⟩
  | 69 => ⟨S4x6x128, .f32⟩
  | 70 => ⟨S4x6x128, .f32⟩
  | 71 => ⟨S_, .f32⟩
  | 72 => ⟨S4x6, .f32⟩
  | 73 => ⟨S4x6x1, .f32⟩
  | 74 => ⟨S_, .f32⟩
  | 75 => ⟨S4x6x1, .f32⟩
  | 76 => ⟨S4x6x1, .f32⟩
  | 77 => ⟨S_, .f32⟩
  | 78 => ⟨S4x6x1, .f32⟩
  | 79 => ⟨S4x6x1, .f32⟩
  | 80 => ⟨S4x6x1, .f32⟩
  | 81 => ⟨S4x6x128, .f32⟩
  | 82 => ⟨S4x6x128, .f32⟩
  | 83 => ⟨S1x1x128, .f32⟩
  | 84 => ⟨S4x6x128, .f32⟩
  | 85 => ⟨S4x6x128, .f32⟩
  | 86 => ⟨S4x6x128, .f32⟩
  | 87 => ⟨S4x6x128, .f32⟩
  | 88 => ⟨S_, .f32⟩
  | 89 => ⟨S4x6x128, .f32⟩
  | 90 => ⟨S4x6x128, .f32⟩
  | 91 => ⟨S_, .f32⟩
  | 92 => ⟨S4x6x128, .f32⟩
  | 93 => ⟨S4x6x128, .f32⟩
  | 94 => ⟨S4x6x128, .f32⟩
  | 95 => ⟨S4x6x128, .f32⟩
  | 96 => ⟨S1x4x6x128, .f32⟩
  | 97 => ⟨S_, .i32⟩
  | 98 => ⟨S_, .i32⟩
  | 99 => ⟨S_, .i32⟩
  | 100 => ⟨S8208x4x6x128, .f32⟩
  | 101 => ⟨S_, .i32⟩
  | 102 => ⟨S_, .i32⟩
  | 103 => ⟨S4x8208x6x128, .f32⟩
  | 104 => ⟨S4x8208x768, .f32⟩
  | 105 => ⟨S_, .i32⟩
  | 106 => ⟨S_, .f32⟩
  | 107 => ⟨S4x8320x768, .f32⟩
  | _ => ⟨S4x8320x1024, .f32⟩

abbrev hbmTy (i : Nat) : BufTy := match i / 128 with
  | 0 => hbmTy0_0 i
  | 1 => hbmTy0_1 i
  | _ => ⟨S4x8320x1024, .f32⟩

abbrev bufTy : (tb : Table) → Fin (tcTables nBuf tb) → BufTy
  | .hbm, ⟨i, _⟩ => hbmTy i
  | _, _ => ⟨S4x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_3 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_5 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_6 : Ref sig .tc := ⟨.hbm, 96, rfl⟩
abbrev main_v80 : Ref sig .tc := ⟨.hbm, 97, rfl⟩
abbrev main_v81 : Ref sig .tc := ⟨.hbm, 98, rfl⟩
abbrev main_cst_7 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_8 : Ref sig .tc := ⟨.hbm, 104, rfl⟩
abbrev main_v86 : Ref sig .tc := ⟨.hbm, 105, rfl⟩
abbrev main_v87 : Ref sig .tc := ⟨.hbm, 106, rfl⟩
abbrev main_cst_9 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_10 : Ref sig .tc := ⟨.hbm, 114, rfl⟩
abbrev main_v94 : Ref sig .tc := ⟨.hbm, 115, rfl⟩
abbrev main_v95 : Ref sig .tc := ⟨.hbm, 116, rfl⟩
abbrev main_cst_11 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_12 : Ref sig .tc := ⟨.hbm, 129, rfl⟩
abbrev main_v107 : Ref sig .tc := ⟨.hbm, 130, rfl⟩
abbrev main_cst_13 : Ref sig .tc := ⟨.hbm, 131, rfl⟩
abbrev main_v108 : Ref sig .tc := ⟨.hbm, 132, rfl⟩
abbrev main_c_14 : Ref sig .tc := ⟨.hbm, 133, rfl⟩
abbrev main_v109_0 : Ref sig .tc := ⟨.hbm, 134, rfl⟩
abbrev main_v109_1 : Ref sig .tc := ⟨.hbm, 135, rfl⟩
abbrev main_v109_2 : Ref sig .tc := ⟨.hbm, 136, rfl⟩
abbrev main_v109_3 : Ref sig .tc := ⟨.hbm, 137, rfl⟩
abbrev main_v109_4 : Ref sig .tc := ⟨.hbm, 138, rfl⟩
abbrev main_v109_5 : Ref sig .tc := ⟨.hbm, 139, rfl⟩
abbrev main_v109_6 : Ref sig .tc := ⟨.hbm, 140, rfl⟩
abbrev main_v109_7 : Ref sig .tc := ⟨.hbm, 141, rfl⟩
abbrev main_v109_8 : Ref sig .tc := ⟨.hbm, 142, rfl⟩
abbrev main_v109_9 : Ref sig .tc := ⟨.hbm, 143, rfl⟩
abbrev main_while0c_c_25 : Ref sig .tc := ⟨.hbm, 144, rfl⟩
abbrev main_while0c_v113 : Ref sig .tc := ⟨.hbm, 145, rfl⟩
abbrev main_while0b_call1_c : Ref sig .tc := ⟨.hbm, 146, rfl⟩
abbrev main_while0b_call1_c_0 : Ref sig .tc := ⟨.hbm, 147, rfl⟩
abbrev main_while0b_call1_c_1 : Ref sig .tc := ⟨.hbm, 148, rfl⟩
abbrev main_while0b_call1_v0 : Ref sig .tc := ⟨.hbm, 149, rfl⟩
abbrev main_while0b_v113 : Ref sig .tc := ⟨.hbm, 150, rfl⟩
abbrev main_while0b_call2_c : Ref sig .tc := ⟨.hbm, 151, rfl⟩
abbrev main_while0b_call2_c_0 : Ref sig .tc := ⟨.hbm, 152, rfl⟩
abbrev main_while0b_call2_c_1 : Ref sig .tc := ⟨.hbm, 153, rfl⟩
abbrev main_while0b_call2_v0 : Ref sig .tc := ⟨.hbm, 154, rfl⟩
abbrev main_while0b_v114 : Ref sig .tc := ⟨.hbm, 155, rfl⟩
abbrev main_while0b_call3_c : Ref sig .tc := ⟨.hbm, 156, rfl⟩
abbrev main_while0b_call3_c_0 : Ref sig .tc := ⟨.hbm, 157, rfl⟩
abbrev main_while0b_call3_c_1 : Ref sig .tc := ⟨.hbm, 158, rfl⟩
abbrev main_while0b_call3_v0 : Ref sig .tc := ⟨.hbm, 159, rfl⟩
abbrev main_while0b_v115 : Ref sig .tc := ⟨.hbm, 160, rfl⟩
abbrev main_while0b_call4_c : Ref sig .tc := ⟨.hbm, 161, rfl⟩
abbrev main_while0b_call4_c_0 : Ref sig .tc := ⟨.hbm, 162, rfl⟩
abbrev main_while0b_call4_v0 : Ref sig .tc := ⟨.hbm, 163, rfl⟩
abbrev main_while0b_v116 : Ref sig .tc := ⟨.hbm, 164, rfl⟩
abbrev main_while0b_call5_c : Ref sig .tc := ⟨.hbm, 165, rfl⟩
abbrev main_while0b_call5_c_0 : Ref sig .tc := ⟨.hbm, 166, rfl⟩
abbrev main_while0b_call5_v0 : Ref sig .tc := ⟨.hbm, 167, rfl⟩
abbrev main_while0b_v117 : Ref sig .tc := ⟨.hbm, 168, rfl⟩
abbrev main_while0b_call6_c : Ref sig .tc := ⟨.hbm, 169, rfl⟩
abbrev main_while0b_call6_c_0 : Ref sig .tc := ⟨.hbm, 170, rfl⟩
abbrev main_while0b_call6_c_1 : Ref sig .tc := ⟨.hbm, 171, rfl⟩
abbrev main_while0b_call6_v0 : Ref sig .tc := ⟨.hbm, 172, rfl⟩
abbrev main_while0b_v118 : Ref sig .tc := ⟨.hbm, 173, rfl⟩
abbrev main_while0b_v119 : Ref sig .tc := ⟨.hbm, 174, rfl⟩
abbrev main_while0b_v120 : Ref sig .tc := ⟨.hbm, 175, rfl⟩
abbrev main_while0b_v121 : Ref sig .tc := ⟨.hbm, 176, rfl⟩
abbrev main_while0b_v122 : Ref sig .tc := ⟨.hbm, 177, rfl⟩
abbrev main_while0b_v123 : Ref sig .tc := ⟨.hbm, 178, rfl⟩
abbrev main_while0b_v124 : Ref sig .tc := ⟨.hbm, 179, rfl⟩
abbrev main_while0b_v125 : Ref sig .tc := ⟨.hbm, 180, rfl⟩
abbrev main_while0b_v126 : Ref sig .tc := ⟨.hbm, 181, rfl⟩
abbrev main_while0b_v127 : Ref sig .tc := ⟨.hbm, 182, rfl⟩
abbrev main_while0b_v128 : Ref sig .tc := ⟨.hbm, 183, rfl⟩
abbrev main_while0b_v129 : Ref sig .tc := ⟨.hbm, 184, rfl⟩
abbrev main_while0b_v130 : Ref sig .tc := ⟨.hbm, 185, rfl⟩
abbrev main_while0b_v131 : Ref sig .tc := ⟨.hbm, 186, rfl⟩
abbrev main_while0b_v132 : Ref sig .tc := ⟨.hbm, 187, rfl⟩
abbrev main_while0b_v133 : Ref sig .tc := ⟨.hbm, 188, rfl⟩
abbrev main_while0b_v134 : Ref sig .tc := ⟨.hbm, 189, rfl⟩
abbrev main_while0b_v135 : Ref sig .tc := ⟨.hbm, 190, rfl⟩
abbrev main_while0b_v136 : Ref sig .tc := ⟨.hbm, 191, rfl⟩
abbrev main_while0b_v137 : Ref sig .tc := ⟨.hbm, 192, rfl⟩
abbrev main_while0b_v138 : Ref sig .tc := ⟨.hbm, 193, rfl⟩
abbrev main_while0b_cst_25 : Ref sig .tc := ⟨.hbm, 194, rfl⟩
abbrev main_while0b_v139 : Ref sig .tc := ⟨.hbm, 195, rfl⟩
abbrev main_while0b_v140 : Ref sig .tc := ⟨.hbm, 196, rfl⟩
abbrev main_while0b_v141 : Ref sig .tc := ⟨.hbm, 197, rfl⟩
abbrev main_while0b_v142 : Ref sig .tc := ⟨.hbm, 198, rfl⟩
abbrev main_while0b_cst_26 : Ref sig .tc := ⟨.hbm, 199, rfl⟩
abbrev main_while0b_v143 : Ref sig .tc := ⟨.hbm, 200, rfl⟩
abbrev main_while0b_v144 : Ref sig .tc := ⟨.hbm, 201, rfl⟩
abbrev main_while0b_cst_27 : Ref sig .tc := ⟨.hbm, 202, rfl⟩
abbrev main_while0b_v145 : Ref sig .tc := ⟨.hbm, 203, rfl⟩
abbrev main_while0b_v146 : Ref sig .tc := ⟨.hbm, 204, rfl⟩
abbrev main_while0b_cst_28 : Ref sig .tc := ⟨.hbm, 205, rfl⟩
abbrev main_while0b_v147 : Ref sig .tc := ⟨.hbm, 206, rfl⟩
abbrev main_while0b_v148 : Ref sig .tc := ⟨.hbm, 207, rfl⟩
abbrev main_while0b_v149 : Ref sig .tc := ⟨.hbm, 208, rfl⟩
abbrev main_while0b_v150 : Ref sig .tc := ⟨.hbm, 209, rfl⟩
abbrev main_while0b_v151 : Ref sig .tc := ⟨.hbm, 210, rfl⟩
abbrev main_while0b_v152 : Ref sig .tc := ⟨.hbm, 211, rfl⟩
abbrev main_while0b_v153 : Ref sig .tc := ⟨.hbm, 212, rfl⟩
abbrev main_while0b_v154 : Ref sig .tc := ⟨.hbm, 213, rfl⟩
abbrev main_while0b_v155 : Ref sig .tc := ⟨.hbm, 214, rfl⟩
abbrev main_while0b_v156 : Ref sig .tc := ⟨.hbm, 215, rfl⟩
abbrev main_while0b_cst_29 : Ref sig .tc := ⟨.hbm, 216, rfl⟩
abbrev main_while0b_v157 : Ref sig .tc := ⟨.hbm, 217, rfl⟩
abbrev main_while0b_v158 : Ref sig .tc := ⟨.hbm, 218, rfl⟩
abbrev main_while0b_cst_30 : Ref sig .tc := ⟨.hbm, 219, rfl⟩
abbrev main_while0b_v159 : Ref sig .tc := ⟨.hbm, 220, rfl⟩
abbrev main_while0b_v160 : Ref sig .tc := ⟨.hbm, 221, rfl⟩
abbrev main_while0b_v161 : Ref sig .tc := ⟨.hbm, 222, rfl⟩
abbrev main_while0b_v162 : Ref sig .tc := ⟨.hbm, 223, rfl⟩
abbrev main_while0b_call7_v0 : Ref sig .tc := ⟨.hbm, 224, rfl⟩
abbrev main_while0b_call7_c : Ref sig .tc := ⟨.hbm, 225, rfl⟩
abbrev main_while0b_call7_c_0 : Ref sig .tc := ⟨.hbm, 226, rfl⟩
abbrev main_while0b_call7_c_1 : Ref sig .tc := ⟨.hbm, 227, rfl⟩
abbrev main_while0b_v163 : Ref sig .tc := ⟨.hbm, 228, rfl⟩
abbrev main_while0b_c_31 : Ref sig .tc := ⟨.hbm, 229, rfl⟩
abbrev main_while0b_v164 : Ref sig .tc := ⟨.hbm, 230, rfl⟩
abbrev main_v110 : Ref sig .tc := ⟨.hbm, 231, rfl⟩
abbrev main_v111 : Ref sig .tc := ⟨.hbm, 232, rfl⟩
abbrev main_c_15 : Ref sig .tc := ⟨.hbm, 233, rfl⟩
abbrev main_call8_v0 : Ref sig .tc := ⟨.hbm, 234, rfl⟩
abbrev main_v112 : Ref sig .tc := ⟨.hbm, 235, rfl⟩

abbrev nD : Nat := 1
abbrev τ : Topo := Topo.v7x

variable {F : FTy → Type} [FloatOps F]

abbrev main_while0_count : Scf.Loop 32 := ⟨0#32, 8208#32, 1#32⟩
-- ==== Kernel2.lean ====
abbrev S4x8320x1024 : Shape := ⟨3, ![4, 8320, 1024]⟩
abbrev S4x8320x768 : Shape := ⟨3, ![4, 8320, 768]⟩
abbrev S4x8320x512 : Shape := ⟨3, ![4, 8320, 512]⟩
abbrev S2048x1024 : Shape := ⟨2, ![2048, 1024]⟩
abbrev S1024 : Shape := ⟨1, ![1024]⟩
abbrev S768x1024 : Shape := ⟨2, ![768, 1024]⟩
abbrev S512x1024 : Shape := ⟨2, ![512, 1024]⟩
abbrev S4x192x1024 : Shape := ⟨3, ![4, 192, 1024]⟩
abbrev S_ : Shape := ⟨0, ![]⟩
abbrev S4x256x1024 : Shape := ⟨3, ![4, 256, 1024]⟩
abbrev S1024x1024 : Shape := ⟨2, ![1024, 1024]⟩
abbrev S1x1024 : Shape := ⟨2, ![1, 1024]⟩
abbrev S1x320x1024 : Shape := ⟨3, ![1, 320, 1024]⟩
abbrev S1x320x768 : Shape := ⟨3, ![1, 320, 768]⟩
abbrev S1x320x512 : Shape := ⟨3, ![1, 320, 512]⟩
abbrev S320x768 : Shape := ⟨2, ![320, 768]⟩
abbrev S320x1024 : Shape := ⟨2, ![320, 1024]⟩
abbrev S320x512 : Shape := ⟨2, ![320, 512]⟩
abbrev S320 : Shape := ⟨1, ![320]⟩
abbrev S320x1 : Shape := ⟨2, ![320, 1]⟩

abbrev nBuf : Space → Nat
  | .hbm => 19
  | .vmem => 14
  | .smem => 0
  | _ => 0

abbrev bufTy : (tb : Table) → Fin (tcTables nBuf tb) → BufTy
  | .hbm, ⟨0, _⟩ => ⟨S4x8320x1024, .f32⟩
  | .hbm, ⟨1, _⟩ => ⟨S4x8320x768, .f32⟩
  | .hbm, ⟨2, _⟩ => ⟨S4x8320x512, .f32⟩
  | .hbm, ⟨3, _⟩ => ⟨S4x8320x1024, .f32⟩
  | .hbm, ⟨4, _⟩ => ⟨S2048x1024, .f32⟩
  | .hbm, ⟨5, _⟩ => ⟨S1024, .f32⟩
  | .hbm, ⟨6, _⟩ => ⟨S768x1024, .f32⟩
  | .hbm, ⟨7, _⟩ => ⟨S768x1024, .bf16⟩
  | .hbm, ⟨8, _⟩ => ⟨S512x1024, .f32⟩
  | .hbm, ⟨9, _⟩ => ⟨S512x1024, .bf16⟩
  | .hbm, ⟨10, _⟩ => ⟨S768x1024, .f32⟩
  | .hbm, ⟨11, _⟩ => ⟨S4x192x1024, .f32⟩
  | .hbm, ⟨12, _⟩ => ⟨S_, .i32⟩
  | .hbm, ⟨13, _⟩ => ⟨S_, .f32⟩
  | .hbm, ⟨14, _⟩ => ⟨S4x256x1024, .f32⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S4x8320x1024, .f32⟩
  | .local _ .vmem, ⟨0, _⟩ => ⟨S1x320x1024, .f32⟩
  | .local _ .vmem, ⟨1, _⟩ => ⟨S1x320x1024, .f32⟩
  | .local _ .vmem, ⟨2, _⟩ => ⟨S1x320x768, .f32⟩
  | .local _ .vmem, ⟨3, _⟩ => ⟨S1x320x768, .f32⟩
  | .local _ .vmem, ⟨4, _⟩ => ⟨S1x320x512, .f32⟩
  | .local _ .vmem, ⟨5, _⟩ => ⟨S1x320x512, .f32⟩
  | .local _ .vmem, ⟨6, _⟩ => ⟨S1x320x1024, .f32⟩
  | .local _ .vmem, ⟨7, _⟩ => ⟨S1x320x1024, .f32⟩
  | .local _ .vmem, ⟨8, _⟩ => ⟨S768x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x320x1024, .f32⟩
  | .local _ .vmem, ⟨13, _⟩ => ⟨S1x320x1024, .f32⟩
  | _, _ => ⟨S4x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 26], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x320x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x320x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x8320x1024 : Shape := ⟨3, ![4, 8320, 1024]⟩
abbrev S4x8320x768 : Shape := ⟨3, ![4, 8320, 768]⟩
abbrev S4x8320x512 : Shape := ⟨3, ![4, 8320, 512]⟩
abbrev S2048x1024 : Shape := ⟨2, ![2048, 1024]⟩
abbrev S1024 : Shape := ⟨1, ![1024]⟩
abbrev S4x8320x4x256 : Shape := ⟨4, ![4, 8320, 4, 256]⟩
abbrev S4x8320x4x192 : Shape := ⟨4, ![4, 8320, 4, 192]⟩
abbrev S4x8320x2048 : Shape := ⟨3, ![4, 8320, 2048]⟩
abbrev S_ : Shape := ⟨0, ![]⟩
abbrev S4x8320 : Shape := ⟨2, ![4, 8320]⟩
abbrev S4x8320x1 : Shape := ⟨3, ![4, 8320, 1]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x8320x1024, .f32⟩
  | .hbm, ⟨1, _⟩ => ⟨S4x8320x768, .f32⟩
  | .hbm, ⟨2, _⟩ => ⟨S4x8320x512, .f32⟩
  | .hbm, ⟨3, _⟩ => ⟨S4x8320x1024, .f32⟩
  | .hbm, ⟨4, _⟩ => ⟨S2048x1024, .f32⟩
  | .hbm, ⟨5, _⟩ => ⟨S1024, .f32⟩
  | .hbm, ⟨6, _⟩ => ⟨S4x8320x4x256, .f32⟩
  | .hbm, ⟨7, _⟩ => ⟨S4x8320x4x192, .f32⟩
  | .hbm, ⟨8, _⟩ => ⟨S4x8320x768, .f32⟩
  | .hbm, ⟨9, _⟩ => ⟨S4x8320x2048, .f32⟩
  | .hbm, ⟨10, _⟩ => ⟨S4x8320x1024, .f32⟩
  | .hbm, ⟨11, _⟩ => ⟨S4x8320x1024, .f32⟩
  | .hbm, ⟨12, _⟩ => ⟨S_, .f32⟩
  | .hbm, ⟨13, _⟩ => ⟨S4x8320, .f32⟩
  | .hbm, ⟨14, _⟩ => ⟨S4x8320x1, .f32⟩
  | .hbm, ⟨15, _⟩ => ⟨S_, .f32⟩
  | .hbm, ⟨16, _⟩ => ⟨S4x8320x1, .f32⟩
  | .hbm, ⟨17, _⟩ => ⟨S4x8320x1, .f32⟩
  | .hbm, ⟨18, _⟩ => ⟨S_, .f32⟩
  | .hbm, ⟨19, _⟩ => ⟨S4x8320x1, .f32⟩
  | .hbm, ⟨20, _⟩ => ⟨S4x8320x1, .f32⟩
  | .hbm, ⟨21, _⟩ => ⟨S4x8320x1, .f32⟩
  | .hbm, ⟨22, _⟩ => ⟨S4x8320x1024, .f32⟩
  | .hbm, ⟨23, _⟩ => ⟨S4x8320x1024, .f32⟩
  | .hbm, ⟨24, _⟩ => ⟨S1x1x1024, .f32⟩
  | .hbm, ⟨25, _⟩ => ⟨S4x8320x1024, .f32⟩
  | .hbm, ⟨26, _⟩ => ⟨S4x8320x1024, .f32⟩
  | .hbm, ⟨27, _⟩ => ⟨S4x8320x1024, .f32⟩
  | _, _ => ⟨S4x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.Out.Spec.lean ====
/- The layer's last step, row by row: the three mixers' outputs times the output weights, normed, added to the layer's input.
   Both programs are read as `rowOf`, on extended reals: nothing here asks for finite arguments. -/
module

public import Idealize.ShloMosaic.PureOps.Ideal

@[expose] public section

noncomputable section

namespace Cert.Out

open Idealize.ShloMosaic Finset

/-- A row `o` scaled by the reciprocal root of its mean square (plus the norm's constant) and by the weights `n`, added to `h`. -/
def rowOf (h o n : Fin 1024 → EReal) (d : Fin 1024) : EReal :=
  h d + o d * Ideal.rsqrt (Ideal.div (∑ j : Fin 1024, o j * o j) (Ideal.ofBits .f32 0x44800000#32) + Ideal.ofBits .f32 0x358637BD#32) * n d

/-- The lane of the third mixer's padded heads that holds its lane `k`: heads of 192 lanes lie 256 apart. -/
def lane (k : Fin 768) : Fin 1024 := ⟨256 * (k.val / 192) + k.val % 192, by omega⟩

/-- The three mixers' outputs times the output weights. -/
def mix (a : Fin 768 → EReal) (b : Fin 512 → EReal) (c : Fin 1024 → EReal) (w : Fin 2048 → Fin 1024 → EReal) (d : Fin 1024) : EReal :=
  (∑ k : Fin 768, a k * w ⟨k.val, by omega⟩ d) + (∑ k : Fin 512, b k * w ⟨768 + k.val, by omega⟩ d)
    + ∑ k : Fin 768, c (lane k) * w ⟨1280 + k.val, by omega⟩ d

/-- A sum over 2048 rows in three pieces. -/
theorem sum_three (f : Fin 2048 → EReal) :
    ∑ k : Fin 2048, f k = (∑ k : Fin 768, f ⟨k.val, by omega⟩) + (∑ k : Fin 512, f ⟨768 + k.val, by omega⟩) + ∑ k : Fin 768, f ⟨1280 + k.val, by omega⟩ := by
  have e1 : ∑ k : Fin 2048, f k = (∑ k : Fin 1280, f ⟨k.val, by omega⟩) + ∑ k : Fin 768, f ⟨1280 + k.val, by omega⟩ := Fin.sum_univ_add (a := 1280) (b := 768) f
  have e2 : (∑ k : Fin 1280, f ⟨k.val, by omega⟩) = (∑ k : Fin 768, f ⟨k.val, by omega⟩) + ∑ k : Fin 512, f ⟨768 + k.val, by omega⟩ :=
    Fin.sum_univ_add (a := 768) (b := 512) (fun k : Fin (768 + 512) => f ⟨k.val, by omega⟩)
  rw [e1, e2]

theorem sum_prod {n m : ℕ} (f : Fin (n * m) → EReal) : ∑ k : Fin (n * m), f k = ∑ g : Fin n, ∑ i : Fin m, f (finProdFinEquiv (g, i)) :=
  (Fintype.sum_equiv finProdFinEquiv (fun x => f (finProdFinEquiv x)) f (fun _ => rfl)).symm.trans (Fintype.sum_prod_type _)

/-- A sum over the padded lanes is the sum over the lanes that hold something. -/
theorem sum_lanes (f : Fin 1024 → EReal) (hz : ∀ (g : Fin 4) (i : Fin 64), f ⟨256 * g.val + (192 + i.val), by omega⟩ = 0) :
    ∑ k : Fin 1024, f k = ∑ k : Fin 768, f (lane k) := by
  refine (sum_prod (n := 4) (m := 256) f).trans (Eq.trans ?_ (sum_prod (n := 4) (m := 192) (fun k => f (lane k))).symm)
  refine Finset.sum_congr rfl fun g _ => ?_
  refine (Fin.sum_univ_add (a := 192) (b := 64) (fun i => f (finProdFinEquiv (g, i)))).trans ?_
  have h0 : ∑ i : Fin 64, f (finProdFinEquiv (g, Fin.natAdd 192 i)) = 0 := by
    refine Finset.sum_eq_zero fun i _ => Eq.trans (congrArg f (Fin.ext ?_)) (hz g i)
    show 192 + i.val + 256 * g.val = 256 * g.val + (192 + i.val)
    omega
  refine (congrArg (_ + ·) h0).trans ((add_zero _).trans (Finset.sum_congr rfl fun i _ => congrArg f (Fin.ext ?_)))
  show i.val + 256 * g.val = 256 * ((i.val + 192 * g.val) / 192) + (i.val + 192 * g.val) % 192
  omega

end Cert.Out

end
-- ==== Proof.Out.Kernel.lean ====
/- The output projection as the kernel computes it: each grid point's block, the weights as the host laid them out, and the
   array the call returns. -/
module

public import proofs.«01_k».proof.Proof.Out.Spec
public import proofs.«01_k».proof.Proof.Gen.Kernel2Ideal.Value
public import Idealize.ShloMosaic.Lib.Pointwise
public import Idealize.ShloMosaic.Lib.KernelVsHost
public import Idealize.ShloMosaic.Lib.Pipeline.ValueKit

@[expose] public section

set_option maxRecDepth 16384

noncomputable section

namespace Cert.Out.K

open Idealize.ShloMosaic Idealize.ShloMosaic.TcCoe Idealize.ShloMosaic.Tactic Idealize.ShloMosaic.Pointwise
open Cert.Kernel2Ideal Cert.Kernel2Ideal.Gen Cert.Kernel2Ideal.Value

/-! ### One block -/

/-- The product and norm of a block, at a row. -/
theorem pay_at (x1 : Vec Ideal S1x320x768 .f32) (x4 : Vec Ideal S768x1024 .bf16) (x2 : Vec Ideal S1x320x512 .f32) (x5 : Vec Ideal S512x1024 .bf16)
    (x3 : Vec Ideal S1x320x1024 .f32) (x6 : Vec Ideal S1024x1024 .bf16) (o : Fin 1024 → EReal) (r : Fin 320)
    (ho : ∀ d, (∑ k : Fin 768, x1 (ix3 0 r k) * x4 (ix2 k d)) + (∑ k : Fin 512, x2 (ix3 0 r k) * x5 (ix2 k d))
      + (∑ k : Fin 1024, x3 (ix3 0 r k) * x6 (ix2 k d)) = o d) (d : Fin 1024) :
    k0_pay3 x1 x4 x2 x5 x3 x6 (ix2 r d) =
      o d * Ideal.rsqrt (Ideal.div (∑ j : Fin 1024, o j * o j) (Ideal.ofBits .f32 0x44800000#32) + Ideal.ofBits .f32 0x358637BD#32) := by
  pointwise [k0_pay3]
  simp only [ho]

variable (m : (ℓ : Loc nD τ sig) → Buf (Elt Ideal) ℓ) (c : Dev nD)

/-- Every window's block index (decided over the grid). -/
theorem idx : ∀ t : Fin cfg0.N, win0_0.index t = ![t.val / 26, t.val % 26, 0] ∧ win0_1.index t = ![t.val / 26, t.val % 26, 0]
    ∧ win0_2.index t = ![t.val / 26, t.val % 26, 0] ∧ win0_3.index t = ![t.val / 26, t.val % 26, 0]
    ∧ win0_4.index t = ![0, 0] ∧ win0_5.index t = ![0, 0] ∧ win0_6.index t = ![0, 0] ∧ win0_7.index t = ![0, 0]
    ∧ win0_8.index t = ![t.val / 26, t.val % 26, 0] ∧ t.val / 26 < 4 :=
  (by decide +kernel : ∀ t : Fin grid0.N, _)

/-- The sequence a point works on, and the position of its row `r`. -/
def batch (t : Fin cfg0.N) : Fin 4 := ⟨t.val / 26, (idx t).2.2.2.2.2.2.2.2.2⟩
def pos (t : Fin cfg0.N) (r : Fin 320) : Fin 8320 := ⟨320 * (t.val % 26) + r.val, by omega⟩

theorem blk0 (t : Fin cfg0.N) (r : Fin 320) (d : Fin 1024) : iblk m c 0 t (ix3 0 r d) = m ((c : Thread nD τ).loc main_arg0) (ix3 (batch t) (pos t r) d) := by
  unfold batch pos
  blk_ext! [iblk, V, idx t]
theorem blk1 (t : Fin cfg0.N) (r : Fin 320) (d : Fin 768) : iblk m c 1 t (ix3 0 r d) = m ((c : Thread nD τ).loc main_arg1) (ix3 (batch t) (pos t r) d) := by
  unfold batch pos
  blk_ext! [iblk, V, idx t]
theorem blk2 (t : Fin cfg0.N) (r : Fin 320) (d : Fin 512) : iblk m c 2 t (ix3 0 r d) = m ((c : Thread nD τ).loc main_arg2) (ix3 (batch t) (pos t r) d) := by
  unfold batch pos
  blk_ext! [iblk, V, idx t]
theorem blk3 (t : Fin cfg0.N) (r : Fin 320) (d : Fin 1024) : iblk m c 3 t (ix3 0 r d) = m ((c : Thread nD τ).loc main_arg3) (ix3 (batch t) (pos t r) d) := by
  unfold batch pos
  blk_ext! [iblk, V, idx t]
theorem blk4 (t : Fin cfg0.N) (k : Fin 768) (d : Fin 1024) : iblk m c 4 t (ix2 k d) = V m c main_v1 (ix2 k d) := by blk_ext! [iblk, idx t]
theorem blk5 (t : Fin cfg0.N) (k : Fin 512) (d : Fin 1024) : iblk m c 5 t (ix2 k d) = V m c main_v3 (ix2 k d) := by blk_ext! [iblk, idx t]
theorem blk6 (t : Fin cfg0.N) (k : Fin 1024) (d : Fin 1024) : iblk m c 6 t (ix2 k d) = V m c main_v8 (ix2 k d) := by blk_ext! [iblk, idx t]
theorem blk7 (t : Fin cfg0.N) (d : Fin 1024) : iblk m c 7 t (ix2 0 d) = V m c main_v9 (ix2 0 d) := by blk_ext! [iblk, idx t]

/-! ### The weights as the host lays them out -/

theorem V1 (k : Fin 768) (d : Fin 1024) : V m c main_v1 (ix2 k d) = m ((c : Thread nD τ).loc main_arg4) (ix2 ⟨k.val, by omega⟩ d) := by
  simp only [V, hostOps0, hostOps0_1, hostOps0_2, List.flatten_cons, List.flatten_nil, List.append_nil, List.cons_append, List.nil_append]
  entry_read
  pointwise

theorem V3 (k : Fin 512) (d : Fin 1024) : V m c main_v3 (ix2 k d) = m ((c : Thread nD τ).loc main_arg4) (ix2 ⟨768 + k.val, by omega⟩ d) := by
  simp only [V, hostOps0, hostOps0_1, hostOps0_2, List.flatten_cons, List.flatten_nil, List.append_nil, List.cons_append, List.nil_append]
  entry_read
  pointwise

theorem V9 (d : Fin 1024) : V m c main_v9 (ix2 0 d) = m ((c : Thread nD τ).loc main_arg5) (ix1 d) := by
  simp only [V, hostOps0, hostOps0_1, hostOps0_2, List.flatten_cons, List.flatten_nil, List.append_nil, List.cons_append, List.nil_append]
  entry_read
  pointwise

/-- The third mixer's rows of the weights: four heads of 192 rows, each followed by 64 rows of zeros. -/
def hostC (w : Vec Ideal S2048x1024 .f32) : Vec Ideal S4x256x1024 .f32 :=
  pad S4x256x1024 ![0, 0, 0] ![0, 64, 0] ![0, 0, 0]
    (shapeCast S4x192x1024 (extractStridedSlice S768x1024 ![1280, 0] w slices_S2048x1024_S768x1024_1280_0) shapeCasts_S768x1024_S4x192x1024)
    (sitofp (F := Ideal) FTy.f32 (constantI S_ 32 0#32)) pads_S4x192x1024_S4x256x1024_000_0640_000 h_S_

theorem V8 : V m c main_v8 = truncf (F := Ideal) FTy.bf16 (shapeCast S1024x1024 (hostC (m ((c : Thread nD τ).loc main_arg4))) shapeCasts_S4x256x1024_S1024x1024) bitsLt_bf16_f32 := by
  simp only [V, hostOps0, hostOps0_1, hostOps0_2, List.flatten_cons, List.flatten_nil, List.append_nil, List.cons_append, List.nil_append]
  entry_read
  rfl

theorem cast8 (x : Vec Ideal S4x256x1024 .f32) (g : Fin 4) (i : Fin 256) (k : Fin 1024) (d : Fin 1024) (hk : k.val = 256 * g.val + i.val) :
    shapeCast S1024x1024 x shapeCasts_S4x256x1024_S1024x1024 (ix2 k d) = x (ix3 g i d) := by
  refine shapeCast_apply x _ _ _ ?_
  rw [Shape.rowMajor_val_two, Shape.rowMajor_val_three]
  show (g.val * 256 + i.val) * 1024 + d.val = k.val * 1024 + d.val
  rw [hk]; ring

theorem cast5 (x : Vec Ideal S768x1024 .f32) (g : Fin 4) (i : Fin 192) (k : Fin 768) (d : Fin 1024) (hk : k.val = 192 * g.val + i.val) :
    shapeCast S4x192x1024 x shapeCasts_S768x1024_S4x192x1024 (ix3 g i d) = x (ix2 k d) := by
  refine shapeCast_apply x _ _ _ ?_
  rw [Shape.rowMajor_val_two, Shape.rowMajor_val_three]
  show k.val * 1024 + d.val = (g.val * 192 + i.val) * 1024 + d.val
  rw [hk]; ring

/-- Padding at rows that hold something, and past them. -/
theorem pad_in (x : Vec Ideal S4x192x1024 .f32) (v : Vec Ideal S_ .f32) (g : Fin 4) (i : Fin 192) (d : Fin 1024) :
    pad S4x256x1024 ![0, 0, 0] ![0, 64, 0] ![0, 0, 0] x v pads_S4x192x1024_S4x256x1024_000_0640_000 h_S_ (ix3 g ⟨i.val, by omega⟩ d) = x (ix3 g i d) := by
  pointwise

theorem pad_out (x : Vec Ideal S4x192x1024 .f32) (g : Fin 4) (i : Fin 64) (d : Fin 1024) :
    pad S4x256x1024 ![0, 0, 0] ![0, 64, 0] ![0, 0, 0] x (sitofp (F := Ideal) FTy.f32 (constantI S_ 32 0#32)) pads_S4x192x1024_S4x256x1024_000_0640_000 h_S_
      (ix3 g ⟨192 + i.val, by omega⟩ d) = 0 := by
  refine (pad_apply_of_not_inside _ _ _ _ _ _ _ _ (1 : Fin 3) fun h => ?_).trans ?_
  · have h2 : (192 + i.val - 0) / (0 + 1) < 192 := h.2.2
    omega
  · show (((0#32 : BitVec 32).toInt : ℝ) : EReal) = _
    simp

theorem V8_in (k : Fin 768) (d : Fin 1024) : V m c main_v8 (ix2 (lane k) d) = m ((c : Thread nD τ).loc main_arg4) (ix2 ⟨1280 + k.val, by omega⟩ d) := by
  have hg : k.val / 192 < 4 := by omega
  have hi : k.val % 192 < 192 := Nat.mod_lt _ (by norm_num)
  have hi' : k.val % 192 < 256 := by omega
  have e1 := cast8 (hostC (m ((c : Thread nD τ).loc main_arg4))) ⟨k.val / 192, hg⟩ ⟨k.val % 192, hi'⟩ (lane k) d rfl
  refine (congrFun (V8 m c) _).trans (e1.trans ?_)
  refine (pad_in _ _ ⟨k.val / 192, hg⟩ ⟨k.val % 192, hi⟩ d).trans ?_
  refine (cast5 _ ⟨k.val / 192, hg⟩ ⟨k.val % 192, hi⟩ k d (Nat.div_add_mod _ _).symm).trans ?_
  pointwise

theorem V8_out (g : Fin 4) (i : Fin 64) (d : Fin 1024) : V m c main_v8 (ix2 ⟨256 * g.val + (192 + i.val), by omega⟩ d) = (0 : EReal) := by
  have hi : 192 + i.val < 256 := by omega
  have e1 := cast8 (hostC (m ((c : Thread nD τ).loc main_arg4))) g ⟨192 + i.val, hi⟩ ⟨256 * g.val + (192 + i.val), by omega⟩ d rfl
  exact (congrFun (V8 m c) _).trans (e1.trans (pad_out _ g i d))

/-! ### The array -/

/-- Row `p` of sequence `b`, before the norm. -/
def mixK (b : Fin 4) (p : Fin 8320) : Fin 1024 → EReal :=
  mix (fun k => m ((c : Thread nD τ).loc main_arg1) (ix3 b p k)) (fun k => m ((c : Thread nD τ).loc main_arg2) (ix3 b p k))
    (fun k => m ((c : Thread nD τ).loc main_arg3) (ix3 b p k)) (fun k d => m ((c : Thread nD τ).loc main_arg4) (ix2 k d))

/-- The three products of a block add up to the row's `mix`: the padded lanes meet rows of zeros. -/
theorem mix_eq (t : Fin cfg0.N) (r : Fin 320) (x1 : Vec Ideal S1x320x768 .f32) (x4 : Vec Ideal S768x1024 .bf16) (x2 : Vec Ideal S1x320x512 .f32)
    (x5 : Vec Ideal S512x1024 .bf16) (x3 : Vec Ideal S1x320x1024 .f32) (x6 : Vec Ideal S1024x1024 .bf16)
    (e1 : x1 = iblk m c 1 t) (e2 : x2 = iblk m c 2 t) (e3 : x3 = iblk m c 3 t) (e4 : x4 = iblk m c 4 t) (e5 : x5 = iblk m c 5 t) (e6 : x6 = iblk m c 6 t) (d : Fin 1024) :
    (∑ k : Fin 768, x1 (ix3 0 r k) * x4 (ix2 k d)) + (∑ k : Fin 512, x2 (ix3 0 r k) * x5 (ix2 k d))
      + (∑ k : Fin 1024, x3 (ix3 0 r k) * x6 (ix2 k d)) = mixK m c (batch t) (pos t r) d := by
  have z (k : Fin 1024) : x6 (ix2 k d) = V m c main_v8 (ix2 k d) := (congrFun e6 _).trans (blk6 m c t k d)
  unfold mixK mix
  refine congrArg₂ (· + ·) (congrArg₂ (· + ·) (Finset.sum_congr rfl fun k _ => ?_) (Finset.sum_congr rfl fun k _ => ?_)) ?_
  · exact congrArg₂ (· * ·) ((congrFun e1 _).trans (blk1 m c t r k)) ((congrFun e4 _).trans ((blk4 m c t k d).trans (V1 m c k d)))
  · exact congrArg₂ (· * ·) ((congrFun e2 _).trans (blk2 m c t r k)) ((congrFun e5 _).trans ((blk5 m c t k d).trans (V3 m c k d)))
  · refine (sum_lanes _ fun g i => ?_).trans (Finset.sum_congr rfl fun k _ => ?_)
    · exact (congrArg (_ * ·) ((z _).trans (V8_out m c g i d))).trans (mul_zero _)
    · exact congrArg₂ (· * ·) ((congrFun e3 _).trans (blk3 m c t r (lane k))) ((z _).trans (V8_in m c k d))

/-- A block's rows, from what its loads hold. -/
theorem row_at (x0 : Vec Ideal S1x320x1024 .f32) (x1 : Vec Ideal S1x320x768 .f32) (x4 : Vec Ideal S768x1024 .bf16) (x2 : Vec Ideal S1x320x512 .f32)
    (x5 : Vec Ideal S512x1024 .bf16) (x3 : Vec Ideal S1x320x1024 .f32) (x6 : Vec Ideal S1024x1024 .bf16) (x7 : Vec Ideal S1x1024 .f32)
    (h o n : Fin 1024 → EReal) (r : Fin 320) (h0 : ∀ d, x0 (ix3 0 r d) = h d) (h7 : ∀ d, x7 (ix2 0 d) = n d)
    (ho : ∀ d, (∑ k : Fin 768, x1 (ix3 0 r k) * x4 (ix2 k d)) + (∑ k : Fin 512, x2 (ix3 0 r k) * x5 (ix2 k d))
      + (∑ k : Fin 1024, x3 (ix3 0 r k) * x6 (ix2 k d)) = o d) (d : Fin 1024) :
    out0_8 x0 x1 x2 x3 x4 x5 x6 x7 (ix3 0 r d) = rowOf h o n d := by
  have z3 : (![0, 0, 0] : Fin 3 → ℕ) = fun _ => 0 := by decide
  have z2 : (![0, 0] : Fin 2 → ℕ) = fun _ => 0 := by decide
  unfold out0_8
  rw [canon8_eq, View.ld_unit_zero (S := S1x320x1024) z3 _ x0, View.ld_unit_zero (S := S1x320x768) z3 _ x1, View.ld_unit_zero (S := S1x320x512) z3 _ x2,
    View.ld_unit_zero (S := S1x320x1024) z3 _ x3, View.ld_unit_zero (S := S768x1024) z2 _ x4, View.ld_unit_zero (S := S512x1024) z2 _ x5,
    View.ld_unit_zero (S := S1024x1024) z2 _ x6, View.ld_unit_zero (S := S1x1024) z2 _ x7]
  refine congrArg₂ (· + ·) ((congrArg x0 ?_).trans (h0 d)) (congrArg₂ (· * ·) ((congrArg _ ?_).trans (pay_at x1 x4 x2 x5 x3 x6 o r ho d)) ((congrArg x7 ?_).trans (h7 d)))
  · funext a
    match a with
    | ⟨0, _⟩ => rfl
    | ⟨1, _⟩ => rfl
    | ⟨2, _⟩ => rfl
  · funext a
    match a with
    | ⟨0, _⟩ => rfl
    | ⟨1, _⟩ => rfl
  · funext a
    match a with
    | ⟨0, _⟩ => rfl
    | ⟨1, _⟩ => rfl

/-- The array the call returns. -/
def G (b : Fin 4) (p : Fin 8320) : Fin 1024 → EReal :=
  rowOf (fun d => m ((c : Thread nD τ).loc main_arg0) (ix3 b p d)) (mixK m c b p) (fun d => m ((c : Thread nD τ).loc main_arg5) (ix1 d))

theorem out_at (t : Fin cfg0.N) (r : Fin 320) (d : Fin 1024) :
    out0_8 (iblk m c 0 t) (iblk m c 1 t) (iblk m c 2 t) (iblk m c 3 t) (iblk m c 4 t) (iblk m c 5 t) (iblk m c 6 t) (iblk m c 7 t) (ix3 0 r d)
      = G m c (batch t) (pos t r) d :=
  row_at _ _ _ _ _ _ _ _ _ _ _ r (fun d => blk0 m c t r d) (fun d => (blk7 m c t d).trans (V9 m c d))
    (fun d => mix_eq m c t r _ _ _ _ _ _ rfl rfl rfl rfl rfl rfl d) d

theorem N_eq : cfg0.N = 104 := (by decide +kernel : grid0.N = 104)

theorem flush_all : ∀ t : Fin cfg0.N, (cfg0.win 8).flush t = true := (by decide +kernel : ∀ t : Fin grid0.N, win0_8.flush t = true)

/-- The array after the run, row by row. -/
theorem array_at (b : Fin 4) (p : Fin 8320) (d : Fin 1024) : (dats m 0 c).arrAt 8 cfg0.N (ix3 b p d) = G m c b p d := by
  have hlt : 26 * b.val + p.val / 320 < cfg0.N := by rw [N_eq]; omega
  have hr : p.val % 320 < 320 := Nat.mod_lt _ (by norm_num)
  have hb : batch ⟨26 * b.val + p.val / 320, hlt⟩ = b := Fin.ext (by show (26 * b.val + p.val / 320) / 26 = b.val; omega)
  have hp : pos ⟨26 * b.val + p.val / 320, hlt⟩ ⟨p.val % 320, hr⟩ = p :=
    Fin.ext (by show 320 * ((26 * b.val + p.val / 320) % 26) + p.val % 320 = p.val; omega)
  have e := congrFun (blocks8 m c ⟨26 * b.val + p.val / 320, hlt⟩ (flush_all _)) (ix3 0 ⟨p.val % 320, hr⟩ d)
  rw [flushed8] at e
  have ho := out_at m c ⟨26 * b.val + p.val / 320, hlt⟩ ⟨p.val % 320, hr⟩ d
  rw [hb, hp] at ho
  have hi := (idx ⟨26 * b.val + p.val / 320, hlt⟩).2.2.2.2.2.2.2.2.1
  refine Eq.trans (congrArg _ ?_) (e.trans (Eq.trans (congrArg _ ?_) ho))
  · funext a
    match a with
    | ⟨0, _⟩ =>
      refine Fin.ext ?_
      show b.val = win0_8.index ⟨26 * b.val + p.val / 320, hlt⟩ (0 : Fin 3) * 1 + 1 * 0
      rw [hi]
      show b.val = (26 * b.val + p.val / 320) / 26 * 1 + 1 * 0
      omega
    | ⟨1, _⟩ =>
      refine Fin.ext ?_
      show p.val = win0_8.index ⟨26 * b.val + p.val / 320, hlt⟩ (1 : Fin 3) * 320 + 1 * (p.val % 320)
      rw [hi]
      show p.val = (26 * b.val + p.val / 320) % 26 * 320 + 1 * (p.val % 320)
      omega
    | ⟨2, _⟩ =>
      refine Fin.ext ?_
      show d.val = win0_8.index ⟨26 * b.val + p.val / 320, hlt⟩ (2 : Fin 3) * 1024 + 1 * d.val
      rw [hi]
      show d.val = 0 * 1024 + 1 * d.val
      omega
  · funext a
    match a with
    | ⟨0, _⟩ => rfl
    | ⟨1, _⟩ => rfl
    | ⟨2, _⟩ => rfl

end Cert.Out.K

end
-- ==== Proof.Out.Ref.lean ====
/- The layer's last step as the reference writes it. -/
module

public import proofs.«01_k».proof.Proof.Out.Spec
public import proofs.«01_k».proof.Proof.Gen.Reference2Ideal.Run
public import Idealize.ShloMosaic.Lib.Pointwise

@[expose] public section

set_option maxRecDepth 16384

noncomputable section

namespace Cert.Out.R

open Idealize.ShloMosaic Idealize.ShloMosaic.Pointwise
open Cert.Reference2Ideal Cert.Reference2Ideal.Gen

/-- The third mixer's heads without their padding. -/
def heads (a3 : FVec Ideal S4x8320x1024 .f32) : FVec Ideal S4x8320x768 .f32 :=
  shapeCast S4x8320x768 (extractStridedSlice S4x8320x4x192 ![0, 0, 0, 0] (shapeCast S4x8320x4x256 a3 shapeCasts_S4x8320x1024_S4x8320x4x256)
    slices_S4x8320x4x256_S4x8320x4x192_0_0_0_0) shapeCasts_S4x8320x4x192_S4x8320x768

/-- The three mixers' outputs side by side. -/
def side (a1 : FVec Ideal S4x8320x768 .f32) (a2 : FVec Ideal S4x8320x512 .f32) (x : FVec Ideal S4x8320x768 .f32) : FVec Ideal S4x8320x2048 .f32 :=
  concatenate S4x8320x2048 2 [⟨S4x8320x768, a1⟩, ⟨S4x8320x512, a2⟩, ⟨S4x8320x768, x⟩] concatenates_S4x8320x768_S4x8320x512_S4x8320x768_S4x8320x2048_d2

/-- Their product with the output weights. -/
def prod (x : FVec Ideal S4x8320x2048 .f32) (w : FVec Ideal S2048x1024 .f32) : FVec Ideal S4x8320x1024 .f32 :=
  Host.dotGeneral dot_S4x8320x2048_S2048x1024_S4x8320x1024_2_0_01_1_n_n none x w

/-- The norm of each row and the layer's input added. -/
def fin (h o : FVec Ideal S4x8320x1024 .f32) (n : FVec Ideal S1024 .f32) : FVec Ideal S4x8320x1024 .f32 :=
  addf h (mulf (mulf o (broadcastInDim S4x8320x1024 ![0, 1, 2] bcast_S4x8320x1_S4x8320x1024_0_1_2
      (Host.rsqrt (addf (Host.divf (broadcastInDim S4x8320x1 ![0, 1] bcast_S4x8320_S4x8320x1_0_1
            (Host.reduceAdd (mulf o o) (constant S_ .f32 0x00000000#32) reducesTo_S4x8320x1024_S4x8320_d2 h_S_))
          (broadcastInDim S4x8320x1 ![] bcast_S_S4x8320x1 (constant S_ .f32 0x44800000#32)))
        (broadcastInDim S4x8320x1 ![] bcast_S_S4x8320x1 (constant S_ .f32 0x358637BD#32))))))
    (broadcastInDim S4x8320x1024 ![0, 1, 2] bcast_S1x1x1024_S4x8320x1024_0_1_2 (broadcastInDim S1x1x1024 ![2] bcast_S1024_S1x1x1024_2 n)))

theorem join_at (x : FVec Ideal S4x8320x4x192 .f32) (b : Fin 4) (p : Fin 8320) (g : Fin 4) (i : Fin 192) (k : Fin 768) (hk : k.val = 192 * g.val + i.val) :
    shapeCast S4x8320x768 x shapeCasts_S4x8320x4x192_S4x8320x768 (ix3 b p k) = x (ix4 b p g i) := by
  refine shapeCast_apply x _ _ _ ?_
  rw [Shape.rowMajor_val_four, Shape.rowMajor_val_three]
  show ((b.val * 8320 + p.val) * 4 + g.val) * 192 + i.val = (b.val * 8320 + p.val) * 768 + k.val
  rw [hk]; ring

theorem split_at (x : FVec Ideal S4x8320x1024 .f32) (b : Fin 4) (p : Fin 8320) (g : Fin 4) (i : Fin 256) (k : Fin 1024) (hk : k.val = 256 * g.val + i.val) :
    shapeCast S4x8320x4x256 x shapeCasts_S4x8320x1024_S4x8320x4x256 (ix4 b p g i) = x (ix3 b p k) := by
  refine shapeCast_apply x _ _ _ ?_
  rw [Shape.rowMajor_val_four, Shape.rowMajor_val_three]
  show (b.val * 8320 + p.val) * 1024 + k.val = ((b.val * 8320 + p.val) * 4 + g.val) * 256 + i.val
  rw [hk]; ring

theorem slice_at (x : FVec Ideal S4x8320x4x256 .f32) (b : Fin 4) (p : Fin 8320) (g : Fin 4) (i : Fin 192) :
    extractStridedSlice S4x8320x4x192 ![0, 0, 0, 0] x slices_S4x8320x4x256_S4x8320x4x192_0_0_0_0 (ix4 b p g i) = x (ix4 b p g ⟨i.val, by omega⟩) := by
  pointwise

theorem heads_at (a3 : FVec Ideal S4x8320x1024 .f32) (b : Fin 4) (p : Fin 8320) (k : Fin 768) : heads a3 (ix3 b p k) = a3 (ix3 b p (lane k)) := by
  have hg : k.val / 192 < 4 := by omega
  have hi : k.val % 192 < 192 := Nat.mod_lt _ (by norm_num)
  exact (join_at _ b p ⟨k.val / 192, hg⟩ ⟨k.val % 192, hi⟩ k (Nat.div_add_mod _ _).symm).trans
    ((slice_at _ b p _ _).trans (split_at a3 b p _ _ (lane k) rfl))

theorem side0 (a1 : FVec Ideal S4x8320x768 .f32) (a2 : FVec Ideal S4x8320x512 .f32) (x : FVec Ideal S4x8320x768 .f32) (b : Fin 4) (p : Fin 8320) (k : Fin 768) :
    side a1 a2 x (ix3 b p ⟨k.val, by omega⟩) = a1 (ix3 b p k) := by
  pointwise [side]
theorem side1 (a1 : FVec Ideal S4x8320x768 .f32) (a2 : FVec Ideal S4x8320x512 .f32) (x : FVec Ideal S4x8320x768 .f32) (b : Fin 4) (p : Fin 8320) (k : Fin 512) :
    side a1 a2 x (ix3 b p ⟨768 + k.val, by omega⟩) = a2 (ix3 b p k) := by
  pointwise [side]
theorem side2 (a1 : FVec Ideal S4x8320x768 .f32) (a2 : FVec Ideal S4x8320x512 .f32) (x : FVec Ideal S4x8320x768 .f32) (b : Fin 4) (p : Fin 8320) (k : Fin 768) :
    side a1 a2 x (ix3 b p ⟨1280 + k.val, by omega⟩) = x (ix3 b p k) := by
  have e : (⟨1280 + k.val, by omega⟩ : Fin 2048) = ⟨768 + (512 + k.val), by omega⟩ := Fin.ext (by show 1280 + k.val = 768 + (512 + k.val); omega)
  rw [e]
  pointwise [side]

theorem prod_at (x : FVec Ideal S4x8320x2048 .f32) (w : FVec Ideal S2048x1024 .f32) (b : Fin 4) (p : Fin 8320) (d : Fin 1024) :
    prod x w (ix3 b p d) = ∑ k : Fin 2048, x (ix3 b p k) * w (ix2 k d) := by
  pointwise [prod]

theorem fin_at (h o : FVec Ideal S4x8320x1024 .f32) (n : FVec Ideal S1024 .f32) (b : Fin 4) (p : Fin 8320) (d : Fin 1024) :
    fin h o n (ix3 b p d) = rowOf (fun d => h (ix3 b p d)) (fun d => o (ix3 b p d)) (fun d => n (ix1 d)) d := by
  pointwise [fin, rowOf]

theorem mix_eq (a1 : FVec Ideal S4x8320x768 .f32) (a2 : FVec Ideal S4x8320x512 .f32) (a3 : FVec Ideal S4x8320x1024 .f32) (w : FVec Ideal S2048x1024 .f32)
    (b : Fin 4) (p : Fin 8320) (d : Fin 1024) :
    prod (side a1 a2 (heads a3)) w (ix3 b p d) =
      mix (fun k => a1 (ix3 b p k)) (fun k => a2 (ix3 b p k)) (fun k => a3 (ix3 b p k)) (fun k d => w (ix2 k d)) d := by
  refine (prod_at _ _ b p d).trans ((sum_three _).trans ?_)
  unfold mix
  refine congrArg₂ (· + ·) (congrArg₂ (· + ·) (Finset.sum_congr rfl fun k _ => ?_) (Finset.sum_congr rfl fun k _ => ?_)) (Finset.sum_congr rfl fun k _ => ?_)
  · exact congrArg (· * _) (side0 a1 a2 _ b p k)
  · exact congrArg (· * _) (side1 a1 a2 _ b p k)
  · exact congrArg (· * _) ((side2 a1 a2 _ b p k).trans (heads_at a3 b p k))

/-- The reference's result, row by row. -/
theorem result_at (h : FVec Ideal S4x8320x1024 .f32) (a1 : FVec Ideal S4x8320x768 .f32) (a2 : FVec Ideal S4x8320x512 .f32) (a3 : FVec Ideal S4x8320x1024 .f32)
    (w : FVec Ideal S2048x1024 .f32) (n : FVec Ideal S1024 .f32) (b : Fin 4) (p : Fin 8320) (d : Fin 1024) :
    fin h (prod (side a1 a2 (heads a3)) w) n (ix3 b p d) =
      rowOf (fun d => h (ix3 b p d)) (mix (fun k => a1 (ix3 b p k)) (fun k => a2 (ix3 b p k)) (fun k => a3 (ix3 b p k)) (fun k d => w (ix2 k d)))
        (fun d => n (ix1 d)) d := by
  rw [fin_at, show (fun d => prod (side a1 a2 (heads a3)) w (ix3 b p d)) = _ from funext fun d => mix_eq a1 a2 a3 w b p d]

end Cert.Out.R

end
-- ==== Proof.KP.Indep.lean ====
/- What a trip of the chunk loop writes does not depend on what the output block held before. -/
module

public import proofs.«01_k».proof.Proof.Gen.Kernel.Loops

@[expose] public section

set_option maxRecDepth 16384

noncomputable section

namespace Cert.Kernel.Gen

open Idealize.ShloMosaic Idealize.ShloMosaic.TcCoe Idealize.ShloMosaic.Tactic

variable {F : FTy → Type} [FloatOps F]

/-- One trip's pieces are the same whatever the output block held. -/
theorem tripL_indep (𝒱 : Variants) (c : Dev nD) (bd : Option 𝒱.V) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (v625 : Vec F S1x128 .f32) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty)  (k : Fin k0_t1_loop.trips) (f f' : BufTy.Contents (Elt F) arg8.view.ty) (G_arg15 : BufTy.Contents (Elt F) arg15.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 k f G_arg15 = tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 k f' G_arg15 := by
  unfold tripL_k0_t1 trip_k0_t1
  rfl

/-- The pieces of the first `n` trips are the same whatever the output block held. -/
theorem pb_indep (𝒱 : Variants) (c : Dev nD) (bd : Option 𝒱.V) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (v625 : Vec F S1x128 .f32) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty)  (f f' : BufTy.Contents (Elt F) arg8.view.ty) (G_arg15 : BufTy.Contents (Elt F) arg15.view.ty) (n : ℕ) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 f G_arg15 n = pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 f' G_arg15 n := by
  induction n with
  | zero => rfl
  | succ n ih =>
    rw [pb_k0_t1.eq_2, pb_k0_t1.eq_2]
    unfold pb_k0_t1Step
    split
    · rw [ih, tripL_indep (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 _ _ (arg8.view.writes (Elt F) f' (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 f' G_arg15 n).1)]
    · exact ih

end Cert.Kernel.Gen

end
-- ==== Proof.KI.Runs.lean ====
/- The cases of the kernel body and the staging buffers on which it runs. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 26) — by arithmetic of the point. -/
theorem hcond0_0 : ∀ t : Fin cfg0.N, cond0_0 (grid0.coords t) ↔ t.val % 26 = 0 :=
  (fun t => by
    have ht : t.val < 104 := Nat.lt_of_lt_of_eq t.isLt N_0
    have e0 : (grid0.coords t 0).val = t.val / 26 % 4 := Pipeline.Grid.coords_val t 0 (by decide) rfl
    have e1 : (grid0.coords t 1).val = t.val / 1 % 26 := Pipeline.Grid.coords_val t 1 (by decide) rfl
    simp only [cond0_0, e0, e1]
    word_cmp
   : ∀ t : Fin grid0.N, cond0_0 (grid0.coords t) ↔ t.val % 26 = 0)

/-! ## The kernel body on any staging memrefs: a subtype the run finds -/

/-- One staging buffer of output window 6, through which its contents are stated (`View.read_writes_of_cover`: the
    choice does not matter). -/
abbrev VO0_6 : View sig .tc .vmem S1x320x768 .f32 := (Memref.whole cc0_stg6_0 : Memref sig .tc .vmem S1x320x768 .f32).view
/-- Each window's current staging memref at point `t`, spelled as the pipeline passes it (`bodyAt0`), and its wholeness. -/
abbrev ms0_0 (t : Fin cfg0.N) : Memref sig .tc .vmem S1x320x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x3328 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x2304 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x320x768 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S328x2304 .f32 := Memref.whole cc0_scratch0
abbrev scM0_1 : Memref sig .tc .vmem S320x768 .f32 := Memref.whole cc0_scratch1
abbrev scM0_2 : Memref sig .tc .vmem S320x768 .f32 := Memref.whole cc0_scratch2
abbrev scM0_3 : Memref sig .tc .vmem S320x768 .f32 := Memref.whole cc0_scratch3
abbrev scM0_4 : Memref sig .tc .vmem S320x768 .f32 := Memref.whole cc0_scratch4
abbrev scM0_5 : Memref sig .tc .vmem S320x256 .f32 := Memref.whole cc0_scratch5
abbrev scM0_6 : Memref sig .tc .vmem S6x128x128 .f32 := Memref.whole cc0_scratch6
/-- The scratch `arg9` the kernel carries between points, as a view: what it holds is stated through it. -/
abbrev VS0_0 : View sig .tc .vmem S328x2304 .f32 := scM0_0.view
/-- The scratch `arg15` the kernel carries between points, as a view: what it holds is stated through it. -/
abbrev VS0_6 : View sig .tc .vmem S6x128x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Gen

end
-- ==== Proof.KI.Indep.lean ====
/- What a trip of the chunk loop writes does not depend on what the output block held before. -/
module

public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic

variable {F : FTy → Type} [FloatOps F]

/-- One trip's pieces are the same whatever the output block held. -/
theorem tripL_indep (𝒱 : Variants) (c : Dev nD) (bd : Option 𝒱.V) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (v625 : Vec F S1x128 .f32) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty)  (k : Fin k0_t1_loop.trips) (f f' : BufTy.Contents (Elt F) arg8.view.ty) (G_arg15 : BufTy.Contents (Elt F) arg15.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 k f G_arg15 = tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 k f' G_arg15 := by
  unfold tripL_k0_t1 trip_k0_t1
  rfl

/-- The pieces of the first `n` trips are the same whatever the output block held. -/
theorem pb_indep (𝒱 : Variants) (c : Dev nD) (bd : Option 𝒱.V) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (v625 : Vec F S1x128 .f32) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty)  (f f' : BufTy.Contents (Elt F) arg8.view.ty) (G_arg15 : BufTy.Contents (Elt F) arg15.view.ty) (n : ℕ) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 f G_arg15 n = pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 f' G_arg15 n := by
  induction n with
  | zero => rfl
  | succ n ih =>
    rw [pb_k0_t1.eq_2, pb_k0_t1.eq_2]
    unfold pb_k0_t1Step
    split
    · rw [ih, tripL_indep (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 _ _ (arg8.view.writes (Elt F) f' (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 f' G_arg15 n).1)]
    · exact ih

end Cert.KernelIdeal.Gen

end
-- ==== Proof.KI.RunA.lean ====
/- The kernel body at the first tile of a batch: it runs, and stores the pieces that the run finds. -/
module

public import proofs.«01_k».proof.Proof.KI.Runs
public import proofs.«01_k».proof.Proof.KI.Indep

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1196000 in
/-- What the body's stores leave in each output's staging memref, as pieces (last first) IN CASE A (`scf.if` 0 taken: points 0, 26, 52, 78), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : cond0_0 i)
    (x0 : Vec F S1x320x1024 .f32) (x1 : Vec F S1x1024 .f32) (x2 : Vec F S1024x3328 .bf16) (x3 : Vec F S4x2304 .f32) (x4 : Vec F S8x128 .f32) (x5 : Vec F S1x128 .f32) :
    Σ' (L6 : List (View.Piece (Elt F) S1x320x768 .f32)), Σ' (LS0 : List (View.Piece (Elt F) S328x2304 .f32)), { LS6 : List (View.Piece (Elt F) S6x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS6)) -∗ K ⟨⟩))
          ⊢ wp frame (wpE (defs₀ (F := F)) Variants.none c none) E (cc0_deltanet i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_deltanet_eq_skeleton]; unfold cc0_deltanet_skel
    simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    simp only [pb_indep (F := F) (arg8 := arg8) (f := f6) (f' := arg8.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _; iexact HS6

end Cert.KernelIdeal.Gen

end
-- ==== Proof.KI.RunB.lean ====
/- The kernel body at a later tile of a batch: it runs, and stores the pieces that the run finds. -/
module

public import proofs.«01_k».proof.Proof.KI.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1172000 in
/-- What the body's stores leave in each output's staging memref, as pieces (last first) IN CASE B (`scf.if` 0 not taken: points 1, 2, … 103: 100 of 104), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : ¬cond0_0 i)
    (x0 : Vec F S1x320x1024 .f32) (x1 : Vec F S1x1024 .f32) (x2 : Vec F S1024x3328 .bf16) (x3 : Vec F S4x2304 .f32) (x4 : Vec F S8x128 .f32) (x5 : Vec F S1x128 .f32) (xs0 : Vec F S328x2304 .f32) (xs6 : Vec F S6x128x128 .f32) :
    Σ' (L6 : List (View.Piece (Elt F) S1x320x768 .f32)), Σ' (LS0 : List (View.Piece (Elt F) S328x2304 .f32)), { LS6 : List (View.Piece (Elt F) S6x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS6)) -∗ K ⟨⟩))
          ⊢ wp frame (wpE (defs₀ (F := F)) Variants.none c none) E (cc0_deltanet i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_deltanet_eq_skeleton]; unfold cc0_deltanet_skel
    simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg15.eq_unread hfs6
    sl_exec (disch := first | sl_exact hc0)
    sl_step
    simp only [pb_indep (F := F) (arg8 := arg8) (f := f6) (f' := arg8.view.junk)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _; iexact HS6

end Cert.KernelIdeal.Gen

end
-- ==== Proof.KI.Frame.lean ====
/- The launch terminates, leaves its arguments as they were and every semaphore at zero. -/
module

public import proofs.«01_k».proof.Proof.KI.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (30 stores of `S1x64x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : cond0_0 i)
    (x0 : Vec F S1x320x1024 .f32) (x1 : Vec F S1x1024 .f32) (x2 : Vec F S1024x3328 .bf16) (x3 : Vec F S4x2304 .f32) (x4 : Vec F S8x128 .f32) (x5 : Vec F S1x128 .f32) (y : S1x320x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).1 S1x64x128.size (by sl_kernel_rfl) y

/-- What case A leaves in output 6's staging buffer: its pieces read back over junk. -/
def out0_A_6 (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : cond0_0 i)
    (x0 : Vec F S1x320x1024 .f32) (x1 : Vec F S1x1024 .f32) (x2 : Vec F S1024x3328 .bf16) (x3 : Vec F S4x2304 .f32) (x4 : Vec F S8x128 .f32) (x5 : Vec F S1x128 .f32) : Vec F S1x320x768 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).1)

/-- Case A's pieces for scratch `arg9`, which the kernel carries between points, cover it: 3 pieces (stores and landed copies) of several sizes (`S320x2304`, `S8x2304`) tiling it when cut into blocks of `![8, 2304]` (Lib/Ring.lean `Piece.tiledBy`). -/
theorem scover0_A_0 (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : cond0_0 i)
    (x0 : Vec F S1x320x1024 .f32) (x1 : Vec F S1x1024 .f32) (x2 : Vec F S1024x3328 .bf16) (x3 : Vec F S4x2304 .f32) (x4 : Vec F S8x128 .f32) (x5 : Vec F S1x128 .f32) (y : S328x2304.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.1 ![8, 2304] (by sl_kernel_rfl) y

/-- What case A leaves in scratch `arg9`: its pieces read back over junk. -/
def sout0_A_0 (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : cond0_0 i)
    (x0 : Vec F S1x320x1024 .f32) (x1 : Vec F S1x1024 .f32) (x2 : Vec F S1024x3328 .bf16) (x3 : Vec F S4x2304 .f32) (x4 : Vec F S8x128 .f32) (x5 : Vec F S1x128 .f32) : Vec F S328x2304 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.1)

/-- Case A's pieces for scratch `arg15`, which the kernel carries between points, cover it: one of them a store of the WHOLE buffer (Lib/Ring.lean `sl_whole_mem`). -/
theorem scover0_A_6 (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : cond0_0 i)
    (x0 : Vec F S1x320x1024 .f32) (x1 : Vec F S1x1024 .f32) (x2 : Vec F S1024x3328 .bf16) (x3 : Vec F S4x2304 .f32) (x4 : Vec F S8x128 .f32) (x5 : Vec F S1x128 .f32) (y : S6x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.1 (by sl_whole_mem) y

/-- What case A leaves in scratch `arg15`: its pieces read back over junk. -/
def sout0_A_6 (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : cond0_0 i)
    (x0 : Vec F S1x320x1024 .f32) (x1 : Vec F S1x1024 .f32) (x2 : Vec F S1024x3328 .bf16) (x3 : Vec F S4x2304 .f32) (x4 : Vec F S8x128 .f32) (x5 : Vec F S1x128 .f32) : Vec F S6x128x128 .f32 :=
  VS0_6.read (Elt F) (VS0_6.writes (Elt F) VS0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.1)

/-- Case B's pieces for output 6 tile its block (30 stores of `S1x64x128`, checked by the kernel's evaluation: Lib/Ring.lean `Piece.tiledL`, linear in the pieces, through a loop's `@[irreducible]` trip theorem too), so they cover it. -/
theorem cover0_B_6 (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : ¬cond0_0 i)
    (x0 : Vec F S1x320x1024 .f32) (x1 : Vec F S1x1024 .f32) (x2 : Vec F S1024x3328 .bf16) (x3 : Vec F S4x2304 .f32) (x4 : Vec F S8x128 .f32) (x5 : Vec F S1x128 .f32) (xs0 : Vec F S328x2304 .f32) (xs6 : Vec F S6x128x128 .f32) (y : S1x320x768.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6).1 S1x64x128.size (by sl_kernel_rfl) y

/-- What case B leaves in output 6's staging buffer: its pieces read back over junk. -/
def out0_B_6 (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : ¬cond0_0 i)
    (x0 : Vec F S1x320x1024 .f32) (x1 : Vec F S1x1024 .f32) (x2 : Vec F S1024x3328 .bf16) (x3 : Vec F S4x2304 .f32) (x4 : Vec F S8x128 .f32) (x5 : Vec F S1x128 .f32) (xs0 : Vec F S328x2304 .f32) (xs6 : Vec F S6x128x128 .f32) : Vec F S1x320x768 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6).1)

/-- Case B's pieces for scratch `arg9`, which the kernel carries between points, cover it: 2 pieces (stores and landed copies) of several sizes (`S320x2304`, `S8x2304`) tiling it when cut into blocks of `![8, 2304]` (Lib/Ring.lean `Piece.tiledBy`). -/
theorem scover0_B_0 (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : ¬cond0_0 i)
    (x0 : Vec F S1x320x1024 .f32) (x1 : Vec F S1x1024 .f32) (x2 : Vec F S1024x3328 .bf16) (x3 : Vec F S4x2304 .f32) (x4 : Vec F S8x128 .f32) (x5 : Vec F S1x128 .f32) (xs0 : Vec F S328x2304 .f32) (xs6 : Vec F S6x128x128 .f32) (y : S328x2304.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6).2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6).2.1 ![8, 2304] (by sl_kernel_rfl) y

/-- What case B leaves in scratch `arg9`: its pieces read back over junk. -/
def sout0_B_0 (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : ¬cond0_0 i)
    (x0 : Vec F S1x320x1024 .f32) (x1 : Vec F S1x1024 .f32) (x2 : Vec F S1024x3328 .bf16) (x3 : Vec F S4x2304 .f32) (x4 : Vec F S8x128 .f32) (x5 : Vec F S1x128 .f32) (xs0 : Vec F S328x2304 .f32) (xs6 : Vec F S6x128x128 .f32) : Vec F S328x2304 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6).2.1)

/-- Case B's pieces for scratch `arg15`, which the kernel carries between points, cover it: 30 pieces of `S1x128x128` tiling it (Lib/Ring.lean `Piece.tiledL`). -/
theorem scover0_B_6 (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : ¬cond0_0 i)
    (x0 : Vec F S1x320x1024 .f32) (x1 : Vec F S1x1024 .f32) (x2 : Vec F S1024x3328 .bf16) (x3 : Vec F S4x2304 .f32) (x4 : Vec F S8x128 .f32) (x5 : Vec F S1x128 .f32) (xs0 : Vec F S328x2304 .f32) (xs6 : Vec F S6x128x128 .f32) (y : S6x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6).2.2.1 S1x128x128.size (by sl_kernel_rfl) y

/-- What case B leaves in scratch `arg15`: its pieces read back over junk. -/
def sout0_B_6 (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : ¬cond0_0 i)
    (x0 : Vec F S1x320x1024 .f32) (x1 : Vec F S1x1024 .f32) (x2 : Vec F S1024x3328 .bf16) (x3 : Vec F S4x2304 .f32) (x4 : Vec F S8x128 .f32) (x5 : Vec F S1x128 .f32) (xs0 : Vec F S328x2304 .f32) (xs6 : Vec F S6x128x128 .f32) : Vec F S6x128x128 .f32 :=
  VS0_6.read (Elt F) (VS0_6.writes (Elt F) VS0_6.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x320x768 .f32 × Vec F S328x2304 .f32 × Vec F S6x128x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 26 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 26 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 26 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 104 := lt_of_lt_of_eq t.isLt (show cfg0.N = 104 from N_0)
  by_cases h0 : t.val % 26 = 0
  · by_cases hz : t.val = 0
    · rw [PhiS_castSucc m c t, PhiS_zero m c _ _ hz, PhiA0_eq]
      rw [outsAt0_A m c t h0]
      unfold out0_A_6 sout0_A_0 sout0_A_6; (try dsimp only)
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, ⟨%e6, H6⟩, ⟨%es0, HS0⟩, HS1, HS2, HS3, HS4, HS5, ⟨%es6, HS6⟩⟩
      isplitl [HS0 HS1 HS2 HS3 HS4 HS5 HS6 Hg]
      · isplitl [HS0 HS1 HS2 HS3 HS4 HS5 HS6]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _)
          isplitl [HS1]
          · iexact HS1
          isplitl [HS2]
          · iexact HS2
          isplitl [HS3]
          · iexact HS3
          isplitl [HS4]
          · iexact HS4
          isplitl [HS5]
          · iexact HS5
          unfold owns; iexists _; isplitr
          swap; · iexact HS6
          ipureintro; exact View.read_writes_of_cover _ _ _ _ _ (scover0_A_6 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_6 sout0_A_0 sout0_A_6; (try dsimp only)
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexact HS1
      isplitl [HS2]; · iexact HS2
      isplitl [HS3]; · iexact HS3
      isplitl [HS4]; · iexact HS4
      isplitl [HS5]; · iexact HS5
      isplitl [HS6]; · iexists _; iexact HS6
      iintro ⟨H0, H1, H2, H3, H4, H5, ⟨%e6, H6⟩, ⟨%es0, HS0⟩, HS1, HS2, HS3, HS4, HS5, ⟨%es6, HS6⟩⟩
      isplitl [HS0 HS1 HS2 HS3 HS4 HS5 HS6 Hg]
      · isplitl [HS0 HS1 HS2 HS3 HS4 HS5 HS6]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _)
          isplitl [HS1]
          · iexact HS1
          isplitl [HS2]
          · iexact HS2
          isplitl [HS3]
          · iexact HS3
          isplitl [HS4]
          · iexact HS4
          isplitl [HS5]
          · iexact HS5
          unfold owns; iexists _; isplitr
          swap; · iexact HS6
          ipureintro; exact View.read_writes_of_cover _ _ _ _ _ (scover0_A_6 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _ _ _ _ _)
  · by_cases hz : t.val = 0
    · exfalso; have hN : t.val < 104 := lt_of_lt_of_eq t.isLt (show cfg0.N = 104 from N_0); omega
    · rw [PhiS_castSucc m c t, PhiS_pos m c _ _ hz]
      rw [outsAt0_B m c t h0]
      unfold out0_B_6 sout0_B_0 sout0_B_6; (try dsimp only)
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, ⟨%e6, H6⟩, ⟨%es0, HS0⟩, HS1, HS2, HS3, HS4, HS5, ⟨%es6, HS6⟩⟩
      isplitl [HS0 HS1 HS2 HS3 HS4 HS5 HS6 Hg]
      · isplitl [HS0 HS1 HS2 HS3 HS4 HS5 HS6]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _)
          isplitl [HS1]
          · iexact HS1
          isplitl [HS2]
          · iexact HS2
          isplitl [HS3]
          · iexact HS3
          isplitl [HS4]
          · iexact HS4
          isplitl [HS5]
          · iexact HS5
          unfold owns; iexists _; isplitr
          swap; · iexact HS6
          ipureintro; exact View.read_writes_of_cover _ _ _ _ _ (scover0_B_6 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 104 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.KI.Value.lean ====
/- What the launch leaves in its result, block by block, as a fold over the grid. -/
module

public import proofs.«01_k».proof.Proof.KI.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 26 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 26 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed6, outsAt0_B m c t h0]

/-- The index map sends distinct grid points to distinct block indices (decided over the 104 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S4x8320x768.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v15) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v15) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post6 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 26)
    stores the scratch whole without reading what it held, and `acc` does not enter there (nor where no point meets the
    conditions: `acc`, never read). -/
def scAt0_0 (c : Dev nD) (n : ℕ) (hb : n < cfg0.N) (acc : Vec F S328x2304 .f32) : Vec F S328x2304 .f32 :=
  if h0 : n % 26 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2

/-- WHAT CARRIED SCRATCH 0 HOLDS after point `t`: the fold of its run up to `t`, from the reset at the run's first point
    `26·(t / 26)` (Lib/Pipeline/Value.lean `Pipeline.eq_accAt_of_mod`, by the frame's `outsAt0_κ`; without enumerating the points). -/
theorem soutsAt0_0_eq (c : Dev nD) (t : Fin cfg0.N) :
    (outsAt0 m c t.val t.isLt).2.1 = Pipeline.accAt (fun n h => scAt0_0 m c n h (VS0_0.read (Elt F) VS0_0.junk)) (scAt0_0 m c) (26 * (t.val / 26)) (t.val % 26)
      (by have h1 := t.isLt; have h2 := Nat.div_add_mod t.val 26; omega) :=
  Pipeline.eq_accAt_of_mod (fun n h => (outsAt0 m c n h).2.1) 26 (fun n h => scAt0_0 m c n h (VS0_0.read (Elt F) VS0_0.junk)) (scAt0_0 m c)
    (fun n h hn => by
      have hN := lt_of_lt_of_eq h (show cfg0.N = 104 from N_0)
      by_cases h0 : n % 26 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 104 from N_0)
      by_cases h0 : (n + 1) % 26 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## Carried scratch 6: what each point leaves in it, and its fold -/

/-- What point `n` leaves in carried scratch 6, over what the point before left in it (`acc`): the case the conditions'
    closed forms select at `n`, the frame's own term for it (`Gen.sout0_κ_6`; anything else the case takes of the point
    before, another carried scratch or an output it reads back, stays `Gen.outsAt0`'s at `n - 1`); a case at the points ≡ 0 (mod 26)
    stores the scratch whole without reading what it held, and `acc` does not enter there (nor where no point meets the
    conditions: `acc`, never read). -/
def scAt0_6 (c : Dev nD) (n : ℕ) (hb : n < cfg0.N) (acc : Vec F S6x128x128 .f32) : Vec F S6x128x128 .f32 :=
  if h0 : n % 26 = 0 then
    sout0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
  else
    sout0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc

/-- WHAT CARRIED SCRATCH 6 HOLDS after point `t`: the fold of its run up to `t`, from the reset at the run's first point
    `26·(t / 26)` (Lib/Pipeline/Value.lean `Pipeline.eq_accAt_of_mod`, by the frame's `outsAt0_κ`; without enumerating the points). -/
theorem soutsAt0_6_eq (c : Dev nD) (t : Fin cfg0.N) :
    (outsAt0 m c t.val t.isLt).2.2 = Pipeline.accAt (fun n h => scAt0_6 m c n h (VS0_6.read (Elt F) VS0_6.junk)) (scAt0_6 m c) (26 * (t.val / 26)) (t.val % 26)
      (by have h1 := t.isLt; have h2 := Nat.div_add_mod t.val 26; omega) :=
  Pipeline.eq_accAt_of_mod (fun n h => (outsAt0 m c n h).2.2) 26 (fun n h => scAt0_6 m c n h (VS0_6.read (Elt F) VS0_6.junk)) (scAt0_6 m c)
    (fun n h hn => by
      have hN := lt_of_lt_of_eq h (show cfg0.N = 104 from N_0)
      by_cases h0 : n % 26 = 0
      all_goals first | (exfalso; omega) | (rw [outsAt0_A m c ⟨n, h⟩ h0]; dsimp only; unfold scAt0_6; rw [dif_pos h0] <;> try rfl) | (rw [outsAt0_B m c ⟨n, h⟩ h0]; dsimp only; unfold scAt0_6; rw [dif_neg h0] <;> try rfl))
    (fun n h hn => by
      have hN := lt_of_lt_of_eq h (show cfg0.N = 104 from N_0)
      by_cases h0 : (n + 1) % 26 = 0
      all_goals first | (exfalso; omega) | (rw [outsAt0_A m c ⟨n + 1, h⟩ h0]; dsimp only; unfold scAt0_6; rw [dif_pos h0] <;> try rfl) | (rw [outsAt0_B m c ⟨n + 1, h⟩ h0]; dsimp only; unfold scAt0_6; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x320x768 .f32 × Vec F S328x2304 .f32 × Vec F S6x128x128 .f32 :=
  ((VO0_6.read (Elt F) VO0_6.junk, VS0_0.read (Elt F) VS0_0.junk, VS0_6.read (Elt F) VS0_6.junk) : Vec F S1x320x768 .f32 × Vec F S328x2304 .f32 × Vec F S6x128x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x320x768 .f32 × Vec F S328x2304 .f32 × Vec F S6x128x128 .f32) : Vec F S1x320x768 .f32 × Vec F S328x2304 .f32 × Vec F S6x128x128 .f32 :=
  if h0 : n % 26 = 0 then
    (out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), sout0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)))
  else
    (out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.1 acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.1 acc.2.2, sout0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.1 acc.2.2)

/-- `stAt0` at a point of case A: that case's contents. -/
theorem stAt0_A (c : Dev nD) (t : Fin cfg0.N) (acc : Vec F S1x320x768 .f32 × Vec F S328x2304 .f32 × Vec F S6x128x128 .f32) (h0 : t.val % 26 = 0) :
    stAt0 m c t.val t.isLt acc = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t)) :=
  (dif_pos h0).trans rfl

/-- `stAt0` at a point of case B: that case's contents, over `acc`. -/
theorem stAt0_B (c : Dev nD) (t : Fin cfg0.N) (acc : Vec F S1x320x768 .f32 × Vec F S328x2304 .f32 × Vec F S6x128x128 .f32) (h0 : ¬t.val % 26 = 0) :
    stAt0 m c t.val t.isLt acc = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) acc.2.1 acc.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) acc.2.1 acc.2.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) acc.2.1 acc.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 104 from N_0)
  have e := Pipeline.eq_accAt_of_mod (fun n h => outsAt0 m c n h) 104 (fun n h => stAt0 m c n h junk0) (stAt0 m c)
    (fun n h _ => by
      have hN := lt_of_lt_of_eq h (show cfg0.N = 104 from N_0)
      obtain rfl : n = 0 := by omega
      exact outsAt0_zero m c h)
    (fun n h _ => outsAt0_succ m c n h)
    (by decide) n hn (by have := Nat.div_add_mod n 104; omega)
  have hd : n / 104 = 0 := Nat.div_eq_of_lt hN
  have hm : n % 104 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 6 -/

/-- The block of the array that holds index `i`, numbered in the order the points write the blocks back (one per point),
    `i`'s place in it, and the point that writes it back. -/
abbrev run6Of (i : S4x8320x768.Idx) : ℕ := 26 * ((i 0).val / 1 - 0) + 1 * ((i 1).val / 320 - 0) + 1 * ((i 2).val / 768 - 0)
set_option backward.proofsInPublic true in
abbrev loc6Of (i : S4x8320x768.Idx) : S1x320x768.Idx := fun a => match a with
  | ⟨0, _⟩ => ⟨(i 0).val % 1, Nat.mod_lt _ (by decide)⟩
  | ⟨1, _⟩ => ⟨(i 1).val % 320, Nat.mod_lt _ (by decide)⟩
  | ⟨2, _⟩ => ⟨(i 2).val % 768, Nat.mod_lt _ (by decide)⟩
abbrev pt6Of (i : S4x8320x768.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v15) := fun i =>
  if h : pt6Of i < cfg0.N then
    (Pipeline.accAt (fun n h => stAt0 m c n h junk0) (stAt0 m c) 0 (pt6Of i) (by omega)).1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 3) ∧ win0_6.index t (0 : Fin 3) ≤ 3
    ∧ 0 ≤ win0_6.index t (1 : Fin 3) ∧ win0_6.index t (1 : Fin 3) ≤ 25
    ∧ 0 ≤ win0_6.index t (2 : Fin 3) ∧ win0_6.index t (2 : Fin 3) ≤ 0
    ∧ 26 * (win0_6.index t (0 : Fin 3) - 0) + 1 * (win0_6.index t (1 : Fin 3) - 0) + 1 * (win0_6.index t (2 : Fin 3) - 0) = t.val :=
  (by decide +kernel : ∀ t : Fin grid0.N, _)

/-- Every block of the box is SOME flushing point's: `onto6Pt`, the point that writes back the block at place `q` of the box. -/
abbrev onto6Pt (q0 : Fin 4) (q1 : Fin 26) (q2 : Fin 1) : Fin grid0.N :=
  ⟨26 * q0.val + 1 * q1.val + 1 * q2.val, lt_of_lt_of_eq (by omega) N_0.symm⟩
theorem idx_onto6 : ∀ (q0 : Fin 4) (q1 : Fin 26) (q2 : Fin 1), ∃ t : Fin cfg0.N, (cfg0.win 6).flush t = true ∧ win0_6.index t = ![q0.val + 0, q1.val + 0, q2.val + 0] :=
  fun q0 q1 q2 => ⟨onto6Pt q0 q1 q2, (by decide +kernel : ∀ (q0 : Fin 4) (q1 : Fin 26) (q2 : Fin 1), win0_6.flush (onto6Pt q0 q1 q2) = true ∧ win0_6.index (onto6Pt q0 q1 q2) = ![q0.val + 0, q1.val + 0, q2.val + 0]) q0 q1 q2⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  obtain ⟨e0, e1, e2, e3⟩ := idx_facts6 t
  funext y
  have hy0 : (y 0).val < 1 := (y 0).isLt
  have hy1 : (y 1).val < 320 := (y 1).isLt
  have hy2 : (y 2).val < 768 := (y 2).isLt
  have hb0 : (((cfg0.win 6).blk t).view.emb y 0).val = win0_6.index t (0 : Fin 3) * 1 + 1 * (y 0).val := rfl
  have hb1 : (((cfg0.win 6).blk t).view.emb y 1).val = win0_6.index t (1 : Fin 3) * 320 + 1 * (y 1).val := rfl
  have hb2 : (((cfg0.win 6).blk t).view.emb y 2).val = win0_6.index t (2 : Fin 3) * 768 + 1 * (y 2).val := rfl
  have hr : run6Of (((cfg0.win 6).blk t).view.emb y) = t.val := by
    show 26 * ((((cfg0.win 6).blk t).view.emb y 0).val / 1 - 0) + 1 * ((((cfg0.win 6).blk t).view.emb y 1).val / 320 - 0) + 1 * ((((cfg0.win 6).blk t).view.emb y 2).val / 768 - 0) = _
    rw [hb0, hb1, hb2]
    rw [show (win0_6.index t (0 : Fin 3) * 1 + 1 * (y 0).val) / 1 = win0_6.index t (0 : Fin 3) from by omega]; rw [show (win0_6.index t (1 : Fin 3) * 320 + 1 * (y 1).val) / 320 = win0_6.index t (1 : Fin 3) from by omega]; rw [show (win0_6.index t (2 : Fin 3) * 768 + 1 * (y 2).val) / 768 = win0_6.index t (2 : Fin 3) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1 = (y 0).val; rw [hb0]; omega
    | ⟨1, _⟩ => show (((cfg0.win 6).blk t).view.emb y 1).val % 320 = (y 1).val; rw [hb1]; omega
    | ⟨2, _⟩ => show (((cfg0.win 6).blk t).view.emb y 2).val % 768 = (y 2).val; rw [hb2]; omega
  have hp : pt6Of (((cfg0.win 6).blk t).view.emb y) = t.val := by
    exact hr
  show (Pipeline.accAt (fun n h => stAt0 m c n h junk0) (stAt0 m c) 0 t.val _).1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S4x8320x768.Idx) :
    i ∈ ((cfg0.win 6).blk t).view.set ↔ ∀ a : Fin 3, win0_6.index t a * S1x320x768.size a ≤ (i a).val ∧ (i a).val < win0_6.index t a * S1x320x768.size a + S1x320x768.size a := by
  show i ∈ ((View.whole main_v15).slice (win0_6.rect t)).set ↔ _
  rw [View.set_slice_whole, Rect.mem_set_unit]
  exact Iff.rfl

/-- THE COVERED INDICES: in some flushing point's block iff inside the box those blocks fill. -/
theorem covered_iff6 (i : S4x8320x768.Idx) :
    (∃ t : Fin cfg0.N, (cfg0.win 6).flush t = true ∧ i ∈ ((cfg0.win 6).blk t).view.set) ↔ 0 ≤ (i 0).val ∧ (i 0).val < 4 ∧ 0 ≤ (i 1).val ∧ (i 1).val < 8320 ∧ 0 ≤ (i 2).val ∧ (i 2).val < 768 := by
  constructor
  · rintro ⟨t, -, hi⟩
    rw [mem_blk6] at hi
    have b0 : win0_6.index t (0 : Fin 3) * 1 ≤ (i 0).val ∧ (i 0).val < win0_6.index t (0 : Fin 3) * 1 + 1 := hi 0
    have b1 : win0_6.index t (1 : Fin 3) * 320 ≤ (i 1).val ∧ (i 1).val < win0_6.index t (1 : Fin 3) * 320 + 320 := hi 1
    have b2 : win0_6.index t (2 : Fin 3) * 768 ≤ (i 2).val ∧ (i 2).val < win0_6.index t (2 : Fin 3) * 768 + 768 := hi 2
    obtain ⟨e0, e1, e2, e3⟩ := idx_facts6 t
    omega
  · intro h
    have hi0 : (i 0).val < 4 := (i 0).isLt
    have hi1 : (i 1).val < 8320 := (i 1).isLt
    have hi2 : (i 2).val < 768 := (i 2).isLt
    obtain ⟨t, hft, ht⟩ := idx_onto6 ⟨(i 0).val / 1 - 0, by omega⟩ ⟨(i 1).val / 320 - 0, by omega⟩ ⟨(i 2).val / 768 - 0, by omega⟩
    have q0 : win0_6.index t (0 : Fin 3) = (i 0).val / 1 - 0 + 0 := congrFun ht 0
    have q1 : win0_6.index t (1 : Fin 3) = (i 1).val / 320 - 0 + 0 := congrFun ht 1
    have q2 : win0_6.index t (2 : Fin 3) = (i 2).val / 768 - 0 + 0 := congrFun ht 2
    refine ⟨t, hft, ?_⟩
    rw [mem_blk6]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 320 ≤ (i 1).val ∧ (i 1).val < win0_6.index t (1 : Fin 3) * 320 + 320; omega
    | ⟨2, _⟩ => show win0_6.index t (2 : Fin 3) * 768 ≤ (i 2).val ∧ (i 2).val < win0_6.index t (2 : Fin 3) * 768 + 768; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 4 := (i 0).isLt; have h1 : (i 1).val < 8320 := (i 1).isLt; have h2 : (i 2).val < 768 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v15) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post6 m r h c).trans (final6 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Value

end
-- ==== Proof.RefI.StepRun.lean ====
/- GENERATED, UNTRUSTED — DO NOT EDIT. The reference `ReferenceIdeal`'s generated run (Gen/ReferenceIdeal/Run.lean) stated over the
   step of Gen/ReferenceIdeal/Step.lean: at a valuation that HOLDS a state (the state at the carried buffers the body writes, the set-up
   values at the loop's constants, the trip's number at its counters) every value of one trip is that module's, one lemma
   each, so one application of the run's `STEP` keeps holding with `step` applied; what @main leaves before the loop holds
   `init`; and the run's results are the fields of `step` iterated from `init`. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v109_8) = s.main_v109_8
  f_9 : V0 (Proc.devRef .tc main_v109_9) = s.main_v109_9
  f_0 : V0 (Proc.devRef .tc main_v109_0) = s.main_v109_0
  f_1 : V0 (Proc.devRef .tc main_v109_1) = s.main_v109_1
  f_2 : V0 (Proc.devRef .tc main_v109_2) = s.main_v109_2
  f_3 : V0 (Proc.devRef .tc main_v109_3) = s.main_v109_3
  f_4 : V0 (Proc.devRef .tc main_v109_4) = s.main_v109_4
  f_5 : V0 (Proc.devRef .tc main_v109_5) = s.main_v109_5
  f_6 : V0 (Proc.devRef .tc main_v109_6) = s.main_v109_6
  n_7 : V0 (Proc.devRef .tc main_v109_7) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x4x6x128 (V0 (Proc.devRef .tc main_v109_0)) (fun k => (((![V0 (Proc.devRef .tc main_v109_7), constantI S_ 32 0#32, constantI S_ 32 0#32, constantI S_ 32 0#32] : Fin 4 → (⟨S_, .i32⟩ : BufTy).Contents (Elt F))) k (Shape.Idx.first h_S_)).toInt) sliceFits_S8208x4x6x128_S1x4x6x128 : (Proc.devRef .tc main_while0b_call1_v0 : DevRef τ sig).ty.Contents (Elt F)) = Cert.ReferenceIdeal.Step.b3 j s := by
  unfold Cert.ReferenceIdeal.Step.b3
  rw [← al_0 h, ← al_1 h, ← al_2 h, h.f_0, h.n_7]
  try rfl
set_option maxRecDepth 8192 in
theorem al_4 (h : Holds V0 s j) : (shapeCast S4x6x128 (Host.dynamicSlice S1x4x6x128 (V0 (Proc.devRef .tc main_v109_0)) (fun k => (((![V0 (Proc.devRef .tc main_v109_7), constantI S_ 32 0#32, constantI S_ 32 0#32, constantI S_ 32 0#32] : Fin 4 → (⟨S_, .i32⟩ : BufTy).Contents (Elt F))) k (Shape.Idx.first h_S_)).toInt) sliceFits_S8208x4x6x128_S1x4x6x128) shapeCasts_S1x4x6x128_S4x6x128 : (Proc.devRef .tc main_while0b_v113 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call2_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call2_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call2_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x4x6x128 (V0 (Proc.devRef .tc main_v109_1)) (fun k => (((![V0 (Proc.devRef .tc main_v109_7), constantI S_ 32 0#32, constantI S_ 32 0#32, constantI S_ 32 0#32] : Fin 4 → (⟨S_, .i32⟩ : BufTy).Contents (Elt F))) k (Shape.Idx.first h_S_)).toInt) sliceFits_S8208x4x6x128_S1x4x6x128 : (Proc.devRef .tc main_while0b_call2_v0 : DevRef τ sig).ty.Contents (Elt F)) = Cert.ReferenceIdeal.Step.b8 j s := by
  unfold Cert.ReferenceIdeal.Step.b8
  rw [← al_5 h, ← al_6 h, ← al_7 h, h.f_1, h.n_7]
  try rfl
set_option maxRecDepth 8192 in
theorem al_9 (h : Holds V0 s j) : (res_main_while0b_v114 V0 : (Proc.devRef .tc main_while0b_v114 : DevRef τ sig).ty.Contents (Elt F)) = Cert.ReferenceIdeal.Step.b9 j s := by
  unfold res_main_while0b_v114 Cert.ReferenceIdeal.Step.b9
  rw [← al_8 h]
  try rfl
set_option maxRecDepth 8192 in
theorem al_10 (h : Holds V0 s j) : (constantI S_ 32 0#32 : (Proc.devRef .tc main_while0b_call3_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call3_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call3_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x4x6x128 (V0 (Proc.devRef .tc main_v109_2)) (fun k => (((![V0 (Proc.devRef .tc main_v109_7), constantI S_ 32 0#32, constantI S_ 32 0#32, constantI S_ 32 0#32] : Fin 4 → (⟨S_, .i32⟩ : BufTy).Contents (Elt F))) k (Shape.Idx.first h_S_)).toInt) sliceFits_S8208x4x6x128_S1x4x6x128 : (Proc.devRef .tc main_while0b_call3_v0 : DevRef τ sig).ty.Contents (Elt F)) = Cert.ReferenceIdeal.Step.b13 j s := by
  unfold Cert.ReferenceIdeal.Step.b13
  rw [← al_10 h, ← al_11 h, ← al_12 h, h.f_2, h.n_7]
  try rfl
set_option maxRecDepth 8192 in
theorem al_14 (h : Holds V0 s j) : (shapeCast S4x6x128 (Host.dynamicSlice S1x4x6x128 (V0 (Proc.devRef .tc main_v109_2)) (fun k => (((![V0 (Proc.devRef .tc main_v109_7), constantI S_ 32 0#32, constantI S_ 32 0#32, constantI S_ 32 0#32] : Fin 4 → (⟨S_, .i32⟩ : BufTy).Contents (Elt F))) k (Shape.Idx.first h_S_)).toInt) sliceFits_S8208x4x6x128_S1x4x6x128) shapeCasts_S1x4x6x128_S4x6x128 : (Proc.devRef .tc main_while0b_v115 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call4_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call4_c_0 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x4x6 (V0 (Proc.devRef .tc main_v109_3)) (fun k => (((![V0 (Proc.devRef .tc main_v109_7), constantI S_ 32 0#32, constantI S_ 32 0#32] : Fin 3 → (⟨S_, .i32⟩ : BufTy).Contents (Elt F))) k (Shape.Idx.first h_S_)).toInt) sliceFits_S8208x4x6_S1x4x6 : (Proc.devRef .tc main_while0b_call4_v0 : DevRef τ sig).ty.Contents (Elt F)) = Cert.ReferenceIdeal.Step.b17 j s := by
  unfold Cert.ReferenceIdeal.Step.b17
  rw [← al_15 h, ← al_16 h, h.f_3, h.n_7]
  try rfl
set_option maxRecDepth 8192 in
theorem al_18 (h : Holds V0 s j) : (shapeCast S4x6 (Host.dynamicSlice S1x4x6 (V0 (Proc.devRef .tc main_v109_3)) (fun k => (((![V0 (Proc.devRef .tc main_v109_7), constantI S_ 32 0#32, constantI S_ 32 0#32] : Fin 3 → (⟨S_, .i32⟩ : BufTy).Contents (Elt F))) k (Shape.Idx.first h_S_)).toInt) sliceFits_S8208x4x6_S1x4x6) shapeCasts_S1x4x6_S4x6 : (Proc.devRef .tc main_while0b_v116 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (constantI S_ 32 0#32 : (Proc.devRef .tc main_while0b_call5_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call5_c_0 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x4x6 (V0 (Proc.devRef .tc main_v109_4)) (fun k => (((![V0 (Proc.devRef .tc main_v109_7), constantI S_ 32 0#32, constantI S_ 32 0#32] : Fin 3 → (⟨S_, .i32⟩ : BufTy).Contents (Elt F))) k (Shape.Idx.first h_S_)).toInt) sliceFits_S8208x4x6_S1x4x6 : (Proc.devRef .tc main_while0b_call5_v0 : DevRef τ sig).ty.Contents (Elt F)) = Cert.ReferenceIdeal.Step.b21 j s := by
  unfold Cert.ReferenceIdeal.Step.b21
  rw [← al_19 h, ← al_20 h, h.f_4, h.n_7]
  try rfl
set_option maxRecDepth 8192 in
theorem al_22 (h : Holds V0 s j) : (shapeCast S4x6 (Host.dynamicSlice S1x4x6 (V0 (Proc.devRef .tc main_v109_4)) (fun k => (((![V0 (Proc.devRef .tc main_v109_7), constantI S_ 32 0#32, constantI S_ 32 0#32] : Fin 3 → (⟨S_, .i32⟩ : BufTy).Contents (Elt F))) k (Shape.Idx.first h_S_)).toInt) sliceFits_S8208x4x6_S1x4x6) shapeCasts_S1x4x6_S4x6 : (Proc.devRef .tc main_while0b_v117 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (constantI S_ 32 0#32 : (Proc.devRef .tc main_while0b_call6_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call6_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call6_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x4x6x128 (V0 (Proc.devRef .tc main_v109_5)) (fun k => (((![V0 (Proc.devRef .tc main_v109_7), constantI S_ 32 0#32, constantI S_ 32 0#32, constantI S_ 32 0#32] : Fin 4 → (⟨S_, .i32⟩ : BufTy).Contents (Elt F))) k (Shape.Idx.first h_S_)).toInt) sliceFits_S8208x4x6x128_S1x4x6x128 : (Proc.devRef .tc main_while0b_call6_v0 : DevRef τ sig).ty.Contents (Elt F)) = Cert.ReferenceIdeal.Step.b26 j s := by
  unfold Cert.ReferenceIdeal.Step.b26
  rw [← al_23 h, ← al_24 h, ← al_25 h, h.f_5, h.n_7]
  try rfl
set_option maxRecDepth 8192 in
theorem al_27 (h : Holds V0 s j) : (res_main_while0b_v118 V0 : (Proc.devRef .tc main_while0b_v118 : DevRef τ sig).ty.Contents (Elt F)) = Cert.ReferenceIdeal.Step.b27 j s := by
  unfold res_main_while0b_v118 Cert.ReferenceIdeal.Step.b27
  rw [← al_26 h]
  try rfl
set_option maxRecDepth 8192 in
theorem al_28 (h : Holds V0 s j) : (broadcastInDim S4x6x1 ![0, 1] bcast_S4x6_S4x6x1_0_1 (shapeCast S4x6 (Host.dynamicSlice S1x4x6 (V0 (Proc.devRef .tc main_v109_4)) (fun k => (((![V0 (Proc.devRef .tc main_v109_7), constantI S_ 32 0#32, constantI S_ 32 0#32] : Fin 3 → (⟨S_, .i32⟩ : BufTy).Contents (Elt F))) k (Shape.Idx.first h_S_)).toInt) sliceFits_S8208x4x6_S1x4x6) shapeCasts_S1x4x6_S4x6) : (Proc.devRef .tc main_while0b_v119 : DevRef τ sig).ty.Contents (Elt F)) = Cert.ReferenceIdeal.Step.b28 j s := by
  unfold Cert.ReferenceIdeal.Step.b28
  rw [← al_22 h]
  try rfl
set_option maxRecDepth 8192 in
theorem al_29 (h : Holds V0 s j) : (broadcastInDim S4x6x128 ![0, 1, 2] bcast_S4x6x1_S4x6x128_0_1_2 (broadcastInDim S4x6x1 ![0, 1] bcast_S4x6_S4x6x1_0_1 (shapeCast S4x6 (Host.dynamicSlice S1x4x6 (V0 (Proc.devRef .tc main_v109_4)) (fun k => (((![V0 (Proc.devRef .tc main_v109_7), constantI S_ 32 0#32, constantI S_ 32 0#32] : Fin 3 → (⟨S_, .i32⟩ : BufTy).Contents (Elt F))) k (Shape.Idx.first h_S_)).toInt) sliceFits_S8208x4x6_S1x4x6) shapeCasts_S1x4x6_S4x6)) : (Proc.devRef .tc main_while0b_v120 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (res_main_while0b_v121 V0 : (Proc.devRef .tc main_while0b_v121 : DevRef τ sig).ty.Contents (Elt F)) = Cert.ReferenceIdeal.Step.b30 j s := by
  unfold res_main_while0b_v121 Cert.ReferenceIdeal.Step.b30
  rw [← al_9 h, ← al_29 h]
  try rfl
set_option maxRecDepth 8192 in
theorem al_31 (h : Holds V0 s j) : (Host.dotGeneral dot_S4x6x128_S4x6x128x128_S4x6x128_2_2_n_3_01_01 none (res_main_while0b_v114 V0) (V0 (Proc.devRef .tc main_v109_8)) : (Proc.devRef .tc main_while0b_v122 : DevRef τ sig).ty.Contents (Elt F)) = Cert.ReferenceIdeal.Step.b31 j s := by
  unfold Cert.ReferenceIdeal.Step.b31
  rw [← al_9 h, h.f_8]
  try rfl
set_option maxRecDepth 8192 in
theorem al_32 (h : Holds V0 s j) : (Host.exp (shapeCast S4x6 (Host.dynamicSlice S1x4x6 (V0 (Proc.devRef .tc main_v109_3)) (fun k => (((![V0 (Proc.devRef .tc main_v109_7), constantI S_ 32 0#32, constantI S_ 32 0#32] : Fin 3 → (⟨S_, .i32⟩ : BufTy).Contents (Elt F))) k (Shape.Idx.first h_S_)).toInt) sliceFits_S8208x4x6_S1x4x6) shapeCasts_S1x4x6_S4x6) : (Proc.devRef .tc main_while0b_v123 : DevRef τ sig).ty.Contents (Elt F)) = Cert.ReferenceIdeal.Step.b32 j s := by
  unfold Cert.ReferenceIdeal.Step.b32
  rw [← al_18 h]
  try rfl
set_option maxRecDepth 8192 in
theorem al_33 (h : Holds V0 s j) : (broadcastInDim S4x6x1x1 ![0, 1] bcast_S4x6_S4x6x1x1_0_1 (Host.exp (shapeCast S4x6 (Host.dynamicSlice S1x4x6 (V0 (Proc.devRef .tc main_v109_3)) (fun k => (((![V0 (Proc.devRef .tc main_v109_7), constantI S_ 32 0#32, constantI S_ 32 0#32] : Fin 3 → (⟨S_, .i32⟩ : BufTy).Contents (Elt F))) k (Shape.Idx.first h_S_)).toInt) sliceFits_S8208x4x6_S1x4x6) shapeCasts_S1x4x6_S4x6)) : (Proc.devRef .tc main_while0b_v124 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (broadcastInDim S4x6x128x1 ![0, 1, 2] bcast_S4x6x128_S4x6x128x1_0_1_2 (res_main_while0b_v121 V0) : (Proc.devRef .tc main_while0b_v125 : DevRef τ sig).ty.Contents (Elt F)) = Cert.ReferenceIdeal.Step.b34 j s := by
  unfold Cert.ReferenceIdeal.Step.b34
  rw [← al_30 h]
  try rfl
set_option maxRecDepth 8192 in
theorem al_35 (h : Holds V0 s j) : (broadcastInDim S4x6x1x128 ![0, 1, 3] bcast_S4x6x128_S4x6x1x128_0_1_3 (Host.dotGeneral dot_S4x6x128_S4x6x128x128_S4x6x128_2_2_n_3_01_01 none (res_main_while0b_v114 V0) (V0 (Proc.devRef .tc main_v109_8))) : (Proc.devRef .tc main_while0b_v126 : DevRef τ sig).ty.Contents (Elt F)) = Cert.ReferenceIdeal.Step.b35 j s := by
  unfold Cert.ReferenceIdeal.Step.b35
  rw [← al_31 h]
  try rfl
set_option maxRecDepth 8192 in
theorem al_36 (h : Holds V0 s j) : (broadcastInDim S4x6x128x128 ![0, 1, 2, 3] bcast_S4x6x128x1_S4x6x128x128_0_1_2_3 (broadcastInDim S4x6x128x1 ![0, 1, 2] bcast_S4x6x128_S4x6x128x1_0_1_2 (res_main_while0b_v121 V0)) : (Proc.devRef .tc main_while0b_v127 : DevRef τ sig).ty.Contents (Elt F)) = Cert.ReferenceIdeal.Step.b36 j s := by
  unfold Cert.ReferenceIdeal.Step.b36
  rw [← al_34 h]
  try rfl
set_option maxRecDepth 8192 in
theorem al_37 (h : Holds V0 s j) : (broadcastInDim S4x6x128x128 ![0, 1, 2, 3] bcast_S4x6x1x128_S4x6x128x128_0_1_2_3 (broadcastInDim S4x6x1x128 ![0, 1, 3] bcast_S4x6x128_S4x6x1x128_0_1_3 (Host.dotGeneral dot_S4x6x128_S4x6x128x128_S4x6x128_2_2_n_3_01_01 none (res_main_while0b_v114 V0) (V0 (Proc.devRef .tc main_v109_8)))) : (Proc.devRef .tc main_while0b_v128 : DevRef τ sig).ty.Contents (Elt F)) = Cert.ReferenceIdeal.Step.b37 j s := by
  unfold Cert.ReferenceIdeal.Step.b37
  rw [← al_35 h]
  try rfl
set_option maxRecDepth 8192 in
theorem al_38 (h : Holds V0 s j) : (mulf (broadcastInDim S4x6x128x128 ![0, 1, 2, 3] bcast_S4x6x128x1_S4x6x128x128_0_1_2_3 (broadcastInDim S4x6x128x1 ![0, 1, 2] bcast_S4x6x128_S4x6x128x1_0_1_2 (res_main_while0b_v121 V0))) (broadcastInDim S4x6x128x128 ![0, 1, 2, 3] bcast_S4x6x1x128_S4x6x128x128_0_1_2_3 (broadcastInDim S4x6x1x128 ![0, 1, 3] bcast_S4x6x128_S4x6x1x128_0_1_3 (Host.dotGeneral dot_S4x6x128_S4x6x128x128_S4x6x128_2_2_n_3_01_01 none (res_main_while0b_v114 V0) (V0 (Proc.devRef .tc main_v109_8))))) : (Proc.devRef .tc main_while0b_v129 : DevRef τ sig).ty.Contents (Elt F)) = Cert.ReferenceIdeal.Step.b38 j s := by
  unfold Cert.ReferenceIdeal.Step.b38
  rw [← al_36 h, ← al_37 h]
  try rfl
set_option maxRecDepth 8192 in
theorem al_39 (h : Holds V0 s j) : (subf (V0 (Proc.devRef .tc main_v109_8)) (mulf (broadcastInDim S4x6x128x128 ![0, 1, 2, 3] bcast_S4x6x128x1_S4x6x128x128_0_1_2_3 (broadcastInDim S4x6x128x1 ![0, 1, 2] bcast_S4x6x128_S4x6x128x1_0_1_2 (res_main_while0b_v121 V0))) (broadcastInDim S4x6x128x128 ![0, 1, 2, 3] bcast_S4x6x1x128_S4x6x128x128_0_1_2_3 (broadcastInDim S4x6x1x128 ![0, 1, 3] bcast_S4x6x128_S4x6x1x128_0_1_3 (Host.dotGeneral dot_S4x6x128_S4x6x128x128_S4x6x128_2_2_n_3_01_01 none (res_main_while0b_v114 V0) (V0 (Proc.devRef .tc main_v109_8)))))) : (Proc.devRef .tc main_while0b_v130 : DevRef τ sig).ty.Contents (Elt F)) = Cert.ReferenceIdeal.Step.b39 j s := by
  unfold Cert.ReferenceIdeal.Step.b39
  rw [← al_38 h, h.f_8]
  try rfl
set_option maxRecDepth 8192 in
theorem al_40 (h : Holds V0 s j) : (broadcastInDim S4x6x128x128 ![0, 1, 2, 3] bcast_S4x6x1x1_S4x6x128x128_0_1_2_3 (broadcastInDim S4x6x1x1 ![0, 1] bcast_S4x6_S4x6x1x1_0_1 (Host.exp (shapeCast S4x6 (Host.dynamicSlice S1x4x6 (V0 (Proc.devRef .tc main_v109_3)) (fun k => (((![V0 (Proc.devRef .tc main_v109_7), constantI S_ 32 0#32, constantI S_ 32 0#32] : Fin 3 → (⟨S_, .i32⟩ : BufTy).Contents (Elt F))) k (Shape.Idx.first h_S_)).toInt) sliceFits_S8208x4x6_S1x4x6) shapeCasts_S1x4x6_S4x6))) : (Proc.devRef .tc main_while0b_v131 : DevRef τ sig).ty.Contents (Elt F)) = Cert.ReferenceIdeal.Step.b40 j s := by
  unfold Cert.ReferenceIdeal.Step.b40
  rw [← al_33 h]
  try rfl
set_option maxRecDepth 8192 in
theorem al_41 (h : Holds V0 s j) : (mulf (broadcastInDim S4x6x128x128 ![0, 1, 2, 3] bcast_S4x6x1x1_S4x6x128x128_0_1_2_3 (broadcastInDim S4x6x1x1 ![0, 1] bcast_S4x6_S4x6x1x1_0_1 (Host.exp (shapeCast S4x6 (Host.dynamicSlice S1x4x6 (V0 (Proc.devRef .tc main_v109_3)) (fun k => (((![V0 (Proc.devRef .tc main_v109_7), constantI S_ 32 0#32, constantI S_ 32 0#32] : Fin 3 → (⟨S_, .i32⟩ : BufTy).Contents (Elt F))) k (Shape.Idx.first h_S_)).toInt) sliceFits_S8208x4x6_S1x4x6) shapeCasts_S1x4x6_S4x6)))) (subf (V0 (Proc.devRef .tc main_v109_8)) (mulf (broadcastInDim S4x6x128x128 ![0, 1, 2, 3] bcast_S4x6x128x1_S4x6x128x128_0_1_2_3 (broadcastInDim S4x6x128x1 ![0, 1, 2] bcast_S4x6x128_S4x6x128x1_0_1_2 (res_main_while0b_v121 V0))) (broadcastInDim S4x6x128x128 ![0, 1, 2, 3] bcast_S4x6x1x128_S4x6x128x128_0_1_2_3 (broadcastInDim S4x6x1x128 ![0, 1, 3] bcast_S4x6x128_S4x6x1x128_0_1_3 (Host.dotGeneral dot_S4x6x128_S4x6x128x128_S4x6x128_2_2_n_3_01_01 none (res_main_while0b_v114 V0) (V0 (Proc.devRef .tc main_v109_8))))))) : (Proc.devRef .tc main_while0b_v132 : DevRef τ sig).ty.Contents (Elt F)) = Cert.ReferenceIdeal.Step.b41 j s := by
  unfold Cert.ReferenceIdeal.Step.b41
  rw [← al_40 h, ← al_39 h]
  try rfl
set_option maxRecDepth 8192 in
theorem al_42 (h : Holds V0 s j) : (broadcastInDim S4x6x128x1 ![0, 1, 2] bcast_S4x6x128_S4x6x128x1_0_1_2 (res_main_while0b_v121 V0) : (Proc.devRef .tc main_while0b_v133 : DevRef τ sig).ty.Contents (Elt F)) = Cert.ReferenceIdeal.Step.b42 j s := by
  unfold Cert.ReferenceIdeal.Step.b42
  rw [← al_30 h]
  try rfl
set_option maxRecDepth 8192 in
theorem al_43 (h : Holds V0 s j) : (broadcastInDim S4x6x1x128 ![0, 1, 3] bcast_S4x6x128_S4x6x1x128_0_1_3 (shapeCast S4x6x128 (Host.dynamicSlice S1x4x6x128 (V0 (Proc.devRef .tc main_v109_2)) (fun k => (((![V0 (Proc.devRef .tc main_v109_7), constantI S_ 32 0#32, constantI S_ 32 0#32, constantI S_ 32 0#32] : Fin 4 → (⟨S_, .i32⟩ : BufTy).Contents (Elt F))) k (Shape.Idx.first h_S_)).toInt) sliceFits_S8208x4x6x128_S1x4x6x128) shapeCasts_S1x4x6x128_S4x6x128) : (Proc.devRef .tc main_while0b_v134 : DevRef τ sig).ty.Contents (Elt F)) = Cert.ReferenceIdeal.Step.b43 j s := by
  unfold Cert.ReferenceIdeal.Step.b43
  rw [← al_14 h]
  try rfl
set_option maxRecDepth 8192 in
theorem al_44 (h : Holds V0 s j) : (broadcastInDim S4x6x128x128 ![0, 1, 2, 3] bcast_S4x6x128x1_S4x6x128x128_0_1_2_3 (broadcastInDim S4x6x128x1 ![0, 1, 2] bcast_S4x6x128_S4x6x128x1_0_1_2 (res_main_while0b_v121 V0)) : (Proc.devRef .tc main_while0b_v135 : DevRef τ sig).ty.Contents (Elt F)) = Cert.ReferenceIdeal.Step.b44 j s := by
  unfold Cert.ReferenceIdeal.Step.b44
  rw [← al_42 h]
  try rfl
set_option maxRecDepth 8192 in
theorem al_45 (h : Holds V0 s j) : (broadcastInDim S4x6x128x128 ![0, 1, 2, 3] bcast_S4x6x1x128_S4x6x128x128_0_1_2_3 (broadcastInDim S4x6x1x128 ![0, 1, 3] bcast_S4x6x128_S4x6x1x128_0_1_3 (shapeCast S4x6x128 (Host.dynamicSlice S1x4x6x128 (V0 (Proc.devRef .tc main_v109_2)) (fun k => (((![V0 (Proc.devRef .tc main_v109_7), constantI S_ 32 0#32, constantI S_ 32 0#32, constantI S_ 32 0#32] : Fin 4 → (⟨S_, .i32⟩ : BufTy).Contents (Elt F))) k (Shape.Idx.first h_S_)).toInt) sliceFits_S8208x4x6x128_S1x4x6x128) shapeCasts_S1x4x6x128_S4x6x128)) : (Proc.devRef .tc main_while0b_v136 : DevRef τ sig).ty.Contents (Elt F)) = Cert.ReferenceIdeal.Step.b45 j s := by
  unfold Cert.ReferenceIdeal.Step.b45
  rw [← al_43 h]
  try rfl
set_option maxRecDepth 8192 in
theorem al_46 (h : Holds V0 s j) : (mulf (broadcastInDim S4x6x128x128 ![0, 1, 2, 3] bcast_S4x6x128x1_S4x6x128x128_0_1_2_3 (broadcastInDim S4x6x128x1 ![0, 1, 2] bcast_S4x6x128_S4x6x128x1_0_1_2 (res_main_while0b_v121 V0))) (broadcastInDim S4x6x128x128 ![0, 1, 2, 3] bcast_S4x6x1x128_S4x6x128x128_0_1_2_3 (broadcastInDim S4x6x1x128 ![0, 1, 3] bcast_S4x6x128_S4x6x1x128_0_1_3 (shapeCast S4x6x128 (Host.dynamicSlice S1x4x6x128 (V0 (Proc.devRef .tc main_v109_2)) (fun k => (((![V0 (Proc.devRef .tc main_v109_7), constantI S_ 32 0#32, constantI S_ 32 0#32, constantI S_ 32 0#32] : Fin 4 → (⟨S_, .i32⟩ : BufTy).Contents (Elt F))) k (Shape.Idx.first h_S_)).toInt) sliceFits_S8208x4x6x128_S1x4x6x128) shapeCasts_S1x4x6x128_S4x6x128))) : (Proc.devRef .tc main_while0b_v137 : DevRef τ sig).ty.Contents (Elt F)) = Cert.ReferenceIdeal.Step.b46 j s := by
  unfold Cert.ReferenceIdeal.Step.b46
  rw [← al_44 h, ← al_45 h]
  try rfl
set_option maxRecDepth 8192 in
theorem al_47 (h : Holds V0 s j) : (res_main_while0b_v138 V0 : (Proc.devRef .tc main_while0b_v138 : DevRef τ sig).ty.Contents (Elt F)) = Cert.ReferenceIdeal.Step.b47 j s := by
  unfold res_main_while0b_v138 Cert.ReferenceIdeal.Step.b47
  rw [← al_41 h, ← al_46 h]
  try rfl
set_option maxRecDepth 8192 in
theorem al_48 (h : Holds V0 s j) : (constant S_ .f32 0x3DB504F3#32 : (Proc.devRef .tc main_while0b_cst_25 : DevRef τ sig).ty.Contents (Elt F)) = Cert.ReferenceIdeal.Step.b48 j s := by
  unfold Cert.ReferenceIdeal.Step.b48
  rfl
set_option maxRecDepth 8192 in
theorem al_49 (h : Holds V0 s j) : (broadcastInDim S4x6x128 ![] bcast_S_S4x6x128 (constant S_ .f32 0x3DB504F3#32) : (Proc.devRef .tc main_while0b_v139 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (mulf (shapeCast S4x6x128 (Host.dynamicSlice S1x4x6x128 (V0 (Proc.devRef .tc main_v109_0)) (fun k => (((![V0 (Proc.devRef .tc main_v109_7), constantI S_ 32 0#32, constantI S_ 32 0#32, constantI S_ 32 0#32] : Fin 4 → (⟨S_, .i32⟩ : BufTy).Contents (Elt F))) k (Shape.Idx.first h_S_)).toInt) sliceFits_S8208x4x6x128_S1x4x6x128) shapeCasts_S1x4x6x128_S4x6x128) (broadcastInDim S4x6x128 ![] bcast_S_S4x6x128 (constant S_ .f32 0x3DB504F3#32)) : (Proc.devRef .tc main_while0b_v140 : DevRef τ sig).ty.Contents (Elt F)) = Cert.ReferenceIdeal.Step.b50 j s := by
  unfold Cert.ReferenceIdeal.Step.b50
  rw [← al_4 h, ← al_49 h]
  try rfl
set_option maxRecDepth 8192 in
theorem al_51 (h : Holds V0 s j) : (res_main_while0b_v141 V0 : (Proc.devRef .tc main_while0b_v141 : DevRef τ sig).ty.Contents (Elt F)) = Cert.ReferenceIdeal.Step.b51 j s := by
  unfold res_main_while0b_v141 Cert.ReferenceIdeal.Step.b51
  rw [← al_50 h, ← al_47 h]
  try rfl
set_option maxRecDepth 8192 in
theorem al_52 (h : Holds V0 s j) : (mulf (res_main_while0b_v141 V0) (res_main_while0b_v141 V0) : (Proc.devRef .tc main_while0b_v142 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (constant S_ .f32 0x00000000#32 : (Proc.devRef .tc main_while0b_cst_26 : DevRef τ sig).ty.Contents (Elt F)) = Cert.ReferenceIdeal.Step.b53 j s := by
  unfold Cert.ReferenceIdeal.Step.b53
  rfl
set_option maxRecDepth 8192 in
theorem al_54 (h : Holds V0 s j) : (Host.reduceAdd (mulf (res_main_while0b_v141 V0) (res_main_while0b_v141 V0)) (constant S_ .f32 0x00000000#32) reducesTo_S4x6x128_S4x6_d2 h_S_ : (Proc.devRef .tc main_while0b_v143 : DevRef τ sig).ty.Contents (Elt F)) = Cert.ReferenceIdeal.Step.b54 j s := by
  unfold Cert.ReferenceIdeal.Step.b54
  rw [← al_52 h, ← al_53 h]
  try rfl
set_option maxRecDepth 8192 in
theorem al_55 (h : Holds V0 s j) : (broadcastInDim S4x6x1 ![0, 1] bcast_S4x6_S4x6x1_0_1 (Host.reduceAdd (mulf (res_main_while0b_v141 V0) (res_main_while0b_v141 V0)) (constant S_ .f32 0x00000000#32) reducesTo_S4x6x128_S4x6_d2 h_S_) : (Proc.devRef .tc main_while0b_v144 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (constant S_ .f32 0x43000000#32 : (Proc.devRef .tc main_while0b_cst_27 : DevRef τ sig).ty.Contents (Elt F)) = Cert.ReferenceIdeal.Step.b56 j s := by
  unfold Cert.ReferenceIdeal.Step.b56
  rfl
set_option maxRecDepth 8192 in
theorem al_57 (h : Holds V0 s j) : (broadcastInDim S4x6x1 ![] bcast_S_S4x6x1 (constant S_ .f32 0x43000000#32) : (Proc.devRef .tc main_while0b_v145 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (Host.divf (broadcastInDim S4x6x1 ![0, 1] bcast_S4x6_S4x6x1_0_1 (Host.reduceAdd (mulf (res_main_while0b_v141 V0) (res_main_while0b_v141 V0)) (constant S_ .f32 0x00000000#32) reducesTo_S4x6x128_S4x6_d2 h_S_)) (broadcastInDim S4x6x1 ![] bcast_S_S4x6x1 (constant S_ .f32 0x43000000#32)) : (Proc.devRef .tc main_while0b_v146 : DevRef τ sig).ty.Contents (Elt F)) = Cert.ReferenceIdeal.Step.b58 j s := by
  unfold Cert.ReferenceIdeal.Step.b58
  rw [← al_55 h, ← al_57 h]
  try rfl
set_option maxRecDepth 8192 in
theorem al_59 (h : Holds V0 s j) : (constant S_ .f32 0x358637BD#32 : (Proc.devRef .tc main_while0b_cst_28 : DevRef τ sig).ty.Contents (Elt F)) = Cert.ReferenceIdeal.Step.b59 j s := by
  unfold Cert.ReferenceIdeal.Step.b59
  rfl
set_option maxRecDepth 8192 in
theorem al_60 (h : Holds V0 s j) : (broadcastInDim S4x6x1 ![] bcast_S_S4x6x1 (constant S_ .f32 0x358637BD#32) : (Proc.devRef .tc main_while0b_v147 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (addf (Host.divf (broadcastInDim S4x6x1 ![0, 1] bcast_S4x6_S4x6x1_0_1 (Host.reduceAdd (mulf (res_main_while0b_v141 V0) (res_main_while0b_v141 V0)) (constant S_ .f32 0x00000000#32) reducesTo_S4x6x128_S4x6_d2 h_S_)) (broadcastInDim S4x6x1 ![] bcast_S_S4x6x1 (constant S_ .f32 0x43000000#32))) (broadcastInDim S4x6x1 ![] bcast_S_S4x6x1 (constant S_ .f32 0x358637BD#32)) : (Proc.devRef .tc main_while0b_v148 : DevRef τ sig).ty.Contents (Elt F)) = Cert.ReferenceIdeal.Step.b61 j s := by
  unfold Cert.ReferenceIdeal.Step.b61
  rw [← al_58 h, ← al_60 h]
  try rfl
set_option maxRecDepth 8192 in
theorem al_62 (h : Holds V0 s j) : (Host.rsqrt (addf (Host.divf (broadcastInDim S4x6x1 ![0, 1] bcast_S4x6_S4x6x1_0_1 (Host.reduceAdd (mulf (res_main_while0b_v141 V0) (res_main_while0b_v141 V0)) (constant S_ .f32 0x00000000#32) reducesTo_S4x6x128_S4x6_d2 h_S_)) (broadcastInDim S4x6x1 ![] bcast_S_S4x6x1 (constant S_ .f32 0x43000000#32))) (broadcastInDim S4x6x1 ![] bcast_S_S4x6x1 (constant S_ .f32 0x358637BD#32))) : (Proc.devRef .tc main_while0b_v149 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (broadcastInDim S4x6x128 ![0, 1, 2] bcast_S4x6x1_S4x6x128_0_1_2 (Host.rsqrt (addf (Host.divf (broadcastInDim S4x6x1 ![0, 1] bcast_S4x6_S4x6x1_0_1 (Host.reduceAdd (mulf (res_main_while0b_v141 V0) (res_main_while0b_v141 V0)) (constant S_ .f32 0x00000000#32) reducesTo_S4x6x128_S4x6_d2 h_S_)) (broadcastInDim S4x6x1 ![] bcast_S_S4x6x1 (constant S_ .f32 0x43000000#32))) (broadcastInDim S4x6x1 ![] bcast_S_S4x6x1 (constant S_ .f32 0x358637BD#32)))) : (Proc.devRef .tc main_while0b_v150 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (mulf (res_main_while0b_v141 V0) (broadcastInDim S4x6x128 ![0, 1, 2] bcast_S4x6x1_S4x6x128_0_1_2 (Host.rsqrt (addf (Host.divf (broadcastInDim S4x6x1 ![0, 1] bcast_S4x6_S4x6x1_0_1 (Host.reduceAdd (mulf (res_main_while0b_v141 V0) (res_main_while0b_v141 V0)) (constant S_ .f32 0x00000000#32) reducesTo_S4x6x128_S4x6_d2 h_S_)) (broadcastInDim S4x6x1 ![] bcast_S_S4x6x1 (constant S_ .f32 0x43000000#32))) (broadcastInDim S4x6x1 ![] bcast_S_S4x6x1 (constant S_ .f32 0x358637BD#32))))) : (Proc.devRef .tc main_while0b_v151 : DevRef τ sig).ty.Contents (Elt F)) = Cert.ReferenceIdeal.Step.b64 j s := by
  unfold Cert.ReferenceIdeal.Step.b64
  rw [← al_51 h, ← al_63 h]
  try rfl
set_option maxRecDepth 8192 in
theorem al_65 (h : Holds V0 s j) : (broadcastInDim S1x1x128 ![2] bcast_S128_S1x1x128_2 (V0 (Proc.devRef .tc main_v109_6)) : (Proc.devRef .tc main_while0b_v152 : DevRef τ sig).ty.Contents (Elt F)) = Cert.ReferenceIdeal.Step.b65 j s := by
  unfold Cert.ReferenceIdeal.Step.b65
  rw [h.f_6]
  try rfl
set_option maxRecDepth 8192 in
theorem al_66 (h : Holds V0 s j) : (broadcastInDim S4x6x128 ![0, 1, 2] bcast_S1x1x128_S4x6x128_0_1_2 (broadcastInDim S1x1x128 ![2] bcast_S128_S1x1x128_2 (V0 (Proc.devRef .tc main_v109_6))) : (Proc.devRef .tc main_while0b_v153 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (mulf (mulf (res_main_while0b_v141 V0) (broadcastInDim S4x6x128 ![0, 1, 2] bcast_S4x6x1_S4x6x128_0_1_2 (Host.rsqrt (addf (Host.divf (broadcastInDim S4x6x1 ![0, 1] bcast_S4x6_S4x6x1_0_1 (Host.reduceAdd (mulf (res_main_while0b_v141 V0) (res_main_while0b_v141 V0)) (constant S_ .f32 0x00000000#32) reducesTo_S4x6x128_S4x6_d2 h_S_)) (broadcastInDim S4x6x1 ![] bcast_S_S4x6x1 (constant S_ .f32 0x43000000#32))) (broadcastInDim S4x6x1 ![] bcast_S_S4x6x1 (constant S_ .f32 0x358637BD#32)))))) (broadcastInDim S4x6x128 ![0, 1, 2] bcast_S1x1x128_S4x6x128_0_1_2 (broadcastInDim S1x1x128 ![2] bcast_S128_S1x1x128_2 (V0 (Proc.devRef .tc main_v109_6)))) : (Proc.devRef .tc main_while0b_v154 : DevRef τ sig).ty.Contents (Elt F)) = Cert.ReferenceIdeal.Step.b67 j s := by
  unfold Cert.ReferenceIdeal.Step.b67
  rw [← al_64 h, ← al_66 h]
  try rfl
set_option maxRecDepth 8192 in
theorem al_68 (h : Holds V0 s j) : (Host.negf (res_main_while0b_v118 V0) : (Proc.devRef .tc main_while0b_v155 : DevRef τ sig).ty.Contents (Elt F)) = Cert.ReferenceIdeal.Step.b68 j s := by
  unfold Cert.ReferenceIdeal.Step.b68
  rw [← al_27 h]
  try rfl
set_option maxRecDepth 8192 in
theorem al_69 (h : Holds V0 s j) : (Host.exp (Host.negf (res_main_while0b_v118 V0)) : (Proc.devRef .tc main_while0b_v156 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (constant S_ .f32 0x3F800000#32 : (Proc.devRef .tc main_while0b_cst_29 : DevRef τ sig).ty.Contents (Elt F)) = Cert.ReferenceIdeal.Step.b70 j s := by
  unfold Cert.ReferenceIdeal.Step.b70
  rfl
set_option maxRecDepth 8192 in
theorem al_71 (h : Holds V0 s j) : (broadcastInDim S4x6x128 ![] bcast_S_S4x6x128 (constant S_ .f32 0x3F800000#32) : (Proc.devRef .tc main_while0b_v157 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (addf (broadcastInDim S4x6x128 ![] bcast_S_S4x6x128 (constant S_ .f32 0x3F800000#32)) (Host.exp (Host.negf (res_main_while0b_v118 V0))) : (Proc.devRef .tc main_while0b_v158 : DevRef τ sig).ty.Contents (Elt F)) = Cert.ReferenceIdeal.Step.b72 j s := by
  unfold Cert.ReferenceIdeal.Step.b72
  rw [← al_71 h, ← al_69 h]
  try rfl
set_option maxRecDepth 8192 in
theorem al_73 (h : Holds V0 s j) : (constant S_ .f32 0x3F800000#32 : (Proc.devRef .tc main_while0b_cst_30 : DevRef τ sig).ty.Contents (Elt F)) = Cert.ReferenceIdeal.Step.b73 j s := by
  unfold Cert.ReferenceIdeal.Step.b73
  rfl
set_option maxRecDepth 8192 in
theorem al_74 (h : Holds V0 s j) : (broadcastInDim S4x6x128 ![] bcast_S_S4x6x128 (constant S_ .f32 0x3F800000#32) : (Proc.devRef .tc main_while0b_v159 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (Host.divf (broadcastInDim S4x6x128 ![] bcast_S_S4x6x128 (constant S_ .f32 0x3F800000#32)) (addf (broadcastInDim S4x6x128 ![] bcast_S_S4x6x128 (constant S_ .f32 0x3F800000#32)) (Host.exp (Host.negf (res_main_while0b_v118 V0)))) : (Proc.devRef .tc main_while0b_v160 : DevRef τ sig).ty.Contents (Elt F)) = Cert.ReferenceIdeal.Step.b75 j s := by
  unfold Cert.ReferenceIdeal.Step.b75
  rw [← al_74 h, ← al_72 h]
  try rfl
set_option maxRecDepth 8192 in
theorem al_76 (h : Holds V0 s j) : (mulf (res_main_while0b_v118 V0) (Host.divf (broadcastInDim S4x6x128 ![] bcast_S_S4x6x128 (constant S_ .f32 0x3F800000#32)) (addf (broadcastInDim S4x6x128 ![] bcast_S_S4x6x128 (constant S_ .f32 0x3F800000#32)) (Host.exp (Host.negf (res_main_while0b_v118 V0))))) : (Proc.devRef .tc main_while0b_v161 : DevRef τ sig).ty.Contents (Elt F)) = Cert.ReferenceIdeal.Step.b76 j s := by
  unfold Cert.ReferenceIdeal.Step.b76
  rw [← al_27 h, ← al_75 h]
  try rfl
set_option maxRecDepth 8192 in
theorem al_77 (h : Holds V0 s j) : (mulf (mulf (mulf (res_main_while0b_v141 V0) (broadcastInDim S4x6x128 ![0, 1, 2] bcast_S4x6x1_S4x6x128_0_1_2 (Host.rsqrt (addf (Host.divf (broadcastInDim S4x6x1 ![0, 1] bcast_S4x6_S4x6x1_0_1 (Host.reduceAdd (mulf (res_main_while0b_v141 V0) (res_main_while0b_v141 V0)) (constant S_ .f32 0x00000000#32) reducesTo_S4x6x128_S4x6_d2 h_S_)) (broadcastInDim S4x6x1 ![] bcast_S_S4x6x1 (constant S_ .f32 0x43000000#32))) (broadcastInDim S4x6x1 ![] bcast_S_S4x6x1 (constant S_ .f32 0x358637BD#32)))))) (broadcastInDim S4x6x128 ![0, 1, 2] bcast_S1x1x128_S4x6x128_0_1_2 (broadcastInDim S1x1x128 ![2] bcast_S128_S1x1x128_2 (V0 (Proc.devRef .tc main_v109_6))))) (mulf (res_main_while0b_v118 V0) (Host.divf (broadcastInDim S4x6x128 ![] bcast_S_S4x6x128 (constant S_ .f32 0x3F800000#32)) (addf (broadcastInDim S4x6x128 ![] bcast_S_S4x6x128 (constant S_ .f32 0x3F800000#32)) (Host.exp (Host.negf (res_main_while0b_v118 V0)))))) : (Proc.devRef .tc main_while0b_v162 : DevRef τ sig).ty.Contents (Elt F)) = Cert.ReferenceIdeal.Step.b77 j s := by
  unfold Cert.ReferenceIdeal.Step.b77
  rw [← al_67 h, ← al_76 h]
  try rfl
set_option maxRecDepth 8192 in
theorem al_78 (h : Holds V0 s j) : (broadcastInDim S1x4x6x128 ![1, 2, 3] bcast_S4x6x128_S1x4x6x128_1_2_3 (mulf (mulf (mulf (res_main_while0b_v141 V0) (broadcastInDim S4x6x128 ![0, 1, 2] bcast_S4x6x1_S4x6x128_0_1_2 (Host.rsqrt (addf (Host.divf (broadcastInDim S4x6x1 ![0, 1] bcast_S4x6_S4x6x1_0_1 (Host.reduceAdd (mulf (res_main_while0b_v141 V0) (res_main_while0b_v141 V0)) (constant S_ .f32 0x00000000#32) reducesTo_S4x6x128_S4x6_d2 h_S_)) (broadcastInDim S4x6x1 ![] bcast_S_S4x6x1 (constant S_ .f32 0x43000000#32))) (broadcastInDim S4x6x1 ![] bcast_S_S4x6x1 (constant S_ .f32 0x358637BD#32)))))) (broadcastInDim S4x6x128 ![0, 1, 2] bcast_S1x1x128_S4x6x128_0_1_2 (broadcastInDim S1x1x128 ![2] bcast_S128_S1x1x128_2 (V0 (Proc.devRef .tc main_v109_6))))) (mulf (res_main_while0b_v118 V0) (Host.divf (broadcastInDim S4x6x128 ![] bcast_S_S4x6x128 (constant S_ .f32 0x3F800000#32)) (addf (broadcastInDim S4x6x128 ![] bcast_S_S4x6x128 (constant S_ .f32 0x3F800000#32)) (Host.exp (Host.negf (res_main_while0b_v118 V0))))))) : (Proc.devRef .tc main_while0b_call7_v0 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (constantI S_ 32 0#32 : (Proc.devRef .tc main_while0b_call7_c : DevRef τ sig).ty.Contents (Elt F)) = Cert.ReferenceIdeal.Step.b79 j s := by
  unfold Cert.ReferenceIdeal.Step.b79
  rfl
set_option maxRecDepth 8192 in
theorem al_80 (h : Holds V0 s j) : (constantI S_ 32 0#32 : (Proc.devRef .tc main_while0b_call7_c_0 : DevRef τ sig).ty.Contents (Elt F)) = Cert.ReferenceIdeal.Step.b80 j s := by
  unfold Cert.ReferenceIdeal.Step.b80
  rfl
set_option maxRecDepth 8192 in
theorem al_81 (h : Holds V0 s j) : (constantI S_ 32 0#32 : (Proc.devRef .tc main_while0b_call7_c_1 : DevRef τ sig).ty.Contents (Elt F)) = Cert.ReferenceIdeal.Step.b81 j s := by
  unfold Cert.ReferenceIdeal.Step.b81
  rfl
set_option maxRecDepth 8192 in
theorem al_82 (h : Holds V0 s j) : (Host.dynamicUpdateSlice (V0 (Proc.devRef .tc main_v109_9)) (broadcastInDim S1x4x6x128 ![1, 2, 3] bcast_S4x6x128_S1x4x6x128_1_2_3 (mulf (mulf (mulf (res_main_while0b_v141 V0) (broadcastInDim S4x6x128 ![0, 1, 2] bcast_S4x6x1_S4x6x128_0_1_2 (Host.rsqrt (addf (Host.divf (broadcastInDim S4x6x1 ![0, 1] bcast_S4x6_S4x6x1_0_1 (Host.reduceAdd (mulf (res_main_while0b_v141 V0) (res_main_while0b_v141 V0)) (constant S_ .f32 0x00000000#32) reducesTo_S4x6x128_S4x6_d2 h_S_)) (broadcastInDim S4x6x1 ![] bcast_S_S4x6x1 (constant S_ .f32 0x43000000#32))) (broadcastInDim S4x6x1 ![] bcast_S_S4x6x1 (constant S_ .f32 0x358637BD#32)))))) (broadcastInDim S4x6x128 ![0, 1, 2] bcast_S1x1x128_S4x6x128_0_1_2 (broadcastInDim S1x1x128 ![2] bcast_S128_S1x1x128_2 (V0 (Proc.devRef .tc main_v109_6))))) (mulf (res_main_while0b_v118 V0) (Host.divf (broadcastInDim S4x6x128 ![] bcast_S_S4x6x128 (constant S_ .f32 0x3F800000#32)) (addf (broadcastInDim S4x6x128 ![] bcast_S_S4x6x128 (constant S_ .f32 0x3F800000#32)) (Host.exp (Host.negf (res_main_while0b_v118 V0)))))))) (fun k => (((![V0 (Proc.devRef .tc main_v109_7), constantI S_ 32 0#32, constantI S_ 32 0#32, constantI S_ 32 0#32] : Fin 4 → (⟨S_, .i32⟩ : BufTy).Contents (Elt F))) k (Shape.Idx.first h_S_)).toInt) updateFits_S8208x4x6x128_S1x4x6x128 : (Proc.devRef .tc main_while0b_v163 : DevRef τ sig).ty.Contents (Elt F)) = Cert.ReferenceIdeal.Step.b82 j s := by
  unfold Cert.ReferenceIdeal.Step.b82
  rw [← al_78 h, ← al_79 h, ← al_80 h, ← al_81 h, h.f_9, h.n_7]
  try rfl

/-! One trip's step of the carried values is `step`, field by field; a counter steps to the next number. -/

theorem step_8 (h : Holds V0 s j) : step_main_v109_8 V0 = (step j s).main_v109_8 := by
  unfold step_main_v109_8 Cert.ReferenceIdeal.Step.step
  show id (res_main_while0b_v138 V0) = _
  rw [al_47 h]
  try rfl
theorem step_9 (h : Holds V0 s j) : step_main_v109_9 V0 = (step j s).main_v109_9 := by
  unfold step_main_v109_9 Cert.ReferenceIdeal.Step.step
  show id (Host.dynamicUpdateSlice (V0 (Proc.devRef .tc main_v109_9)) (broadcastInDim S1x4x6x128 ![1, 2, 3] bcast_S4x6x128_S1x4x6x128_1_2_3 (mulf (mulf (mulf (res_main_while0b_v141 V0) (broadcastInDim S4x6x128 ![0, 1, 2] bcast_S4x6x1_S4x6x128_0_1_2 (Host.rsqrt (addf (Host.divf (broadcastInDim S4x6x1 ![0, 1] bcast_S4x6_S4x6x1_0_1 (Host.reduceAdd (mulf (res_main_while0b_v141 V0) (res_main_while0b_v141 V0)) (constant S_ .f32 0x00000000#32) reducesTo_S4x6x128_S4x6_d2 h_S_)) (broadcastInDim S4x6x1 ![] bcast_S_S4x6x1 (constant S_ .f32 0x43000000#32))) (broadcastInDim S4x6x1 ![] bcast_S_S4x6x1 (constant S_ .f32 0x358637BD#32)))))) (broadcastInDim S4x6x128 ![0, 1, 2] bcast_S1x1x128_S4x6x128_0_1_2 (broadcastInDim S1x1x128 ![2] bcast_S128_S1x1x128_2 (V0 (Proc.devRef .tc main_v109_6))))) (mulf (res_main_while0b_v118 V0) (Host.divf (broadcastInDim S4x6x128 ![] bcast_S_S4x6x128 (constant S_ .f32 0x3F800000#32)) (addf (broadcastInDim S4x6x128 ![] bcast_S_S4x6x128 (constant S_ .f32 0x3F800000#32)) (Host.exp (Host.negf (res_main_while0b_v118 V0)))))))) (fun k => (((![V0 (Proc.devRef .tc main_v109_7), constantI S_ 32 0#32, constantI S_ 32 0#32, constantI S_ 32 0#32] : Fin 4 → (⟨S_, .i32⟩ : BufTy).Contents (Elt F))) k (Shape.Idx.first h_S_)).toInt) updateFits_S8208x4x6x128_S1x4x6x128) = _
  exact al_82 h
theorem step_7 (h : Holds V0 s j) : step_main_v109_7 V0 = constantI S_ 32 (BitVec.ofNat 32 (j + 1)) := by
  unfold step_main_v109_7
  rw [h.n_7]
  funext i
  show BitVec.ofNat 32 j + 1#32 = BitVec.ofNat 32 (j + 1)
  simp only [BitVec.ofNat_add]

set_option maxRecDepth 8192 in
theorem out_main_v112_holds (h : Holds V0 s j) : out_main_v112 V0 = Cert.ReferenceIdeal.Step.R_main_v112 s := by
  unfold out_main_v112 Cert.ReferenceIdeal.Step.R_main_v112
  rw [h.f_9]
  try rfl

/-- One trip keeps the valuation holding: `step` of the state, the same set-up values, the next number. -/
theorem holds_step (h : Holds V0 s j) : Holds (STEP V0) (step j s) (j + 1) where
  f_8 := (STEP_main_v109_8 V0).trans (step_8 h)
  f_9 := (STEP_main_v109_9 V0).trans (step_9 h)
  n_7 := (STEP_main_v109_7 V0).trans (step_7 h)
  f_0 := (STEP_main_v109_0 V0).trans h.f_0
  f_1 := (STEP_main_v109_1 V0).trans h.f_1
  f_2 := (STEP_main_v109_2 V0).trans h.f_2
  f_3 := (STEP_main_v109_3 V0).trans h.f_3
  f_4 := (STEP_main_v109_4 V0).trans h.f_4
  f_5 := (STEP_main_v109_5 V0).trans h.f_5
  f_6 := (STEP_main_v109_6 V0).trans h.f_6

/-- The state the first trip starts from, of the memory the run starts from. -/
abbrev initState (m : (ℓ : Loc nD τ sig) → Buf (Elt F) ℓ) (c : Dev nD) : State F :=
  init (m ((c.tc : Thread nD τ).loc main_arg6)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 900000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 8208 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v112) = Cert.ReferenceIdeal.Step.R_main_v112 (it c 8208)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 8208
    ⟨(h c).1.trans (out_main_v112_holds hk), (h c).2.1, (h c).2.2.1, (h c).2.2.2.1, (h c).2.2.2.2.1, (h c).2.2.2.2.2.1, (h c).2.2.2.2.2.2.1, (h c).2.2.2.2.2.2.2⟩) (Value.run m ρ)

end Cert.ReferenceIdeal.StepRun

end
-- ==== Proof.Delta.Chunk.lean ====
/- The gated delta rule over one chunk of tokens, in real numbers: the recurrence, token by token, and the
   chunked form (one triangular system per chunk, its inverse by a product of squarings) say the same. -/
module

public import Mathlib.Analysis.SpecialFunctions.Exp
public import Mathlib.Algebra.Ring.GeomSum
public import Mathlib.Data.Matrix.Mul
public import Mathlib.Algebra.BigOperators.Fin
public import Mathlib.Tactic.Ring
public import Mathlib.Tactic.Abel

@[expose] public section

noncomputable section

namespace Cert.Delta

open Finset

/-! ### The inverse of one minus a strictly lower triangular matrix -/

/-- Entries of the powers of a strictly lower triangular matrix vanish within `n` of the diagonal. -/
theorem pow_entry_zero {N : ℕ} (X : Matrix (Fin N) (Fin N) ℝ) (hX : ∀ i j : Fin N, i ≤ j → X i j = 0) :
    ∀ (n : ℕ) (i j : Fin N), i.val < j.val + n → (X ^ n) i j = 0
  | 0, i, j, h => by
      rw [pow_zero, Matrix.one_apply_ne]
      rintro rfl; omega
  | n + 1, i, j, h => by
      rw [pow_succ, Matrix.mul_apply]
      refine Finset.sum_eq_zero fun l _ => ?_
      by_cases hl : l ≤ j
      · rw [hX l j hl, mul_zero]
      · rw [pow_entry_zero X hX n i l (by have := Fin.not_le.mp hl; have : j.val < l.val := this; omega), zero_mul]

/-- A strictly lower triangular matrix of `N` rows is nilpotent of index `N`. -/
theorem pow_zero_of_lower {N : ℕ} (X : Matrix (Fin N) (Fin N) ℝ) (hX : ∀ i j : Fin N, i ≤ j → X i j = 0) :
    X ^ N = 0 := by
  ext i j
  exact pow_entry_zero X hX N i j (by omega)

/-- One step of the product form: from the sum of the first `n` powers and `X ^ n` to the sum of the first `2 n`. -/
theorem geom_double {N : ℕ} (X : Matrix (Fin N) (Fin N) ℝ) (n : ℕ) :
    (∑ a ∈ range n, X ^ a) + X ^ n * (∑ a ∈ range n, X ^ a) = ∑ a ∈ range (n + n), X ^ a := by
  rw [Finset.sum_range_add, Finset.mul_sum]
  simp only [pow_add]

/-- The inverse of `1 - X` as the kernel forms it, by five squarings of `X`. -/
def neumann {N : ℕ} (X : Matrix (Fin N) (Fin N) ℝ) : Matrix (Fin N) (Fin N) ℝ :=
  let p0 := 1 + X
  let x1 := X * X
  let p1 := p0 + x1 * p0
  let x2 := x1 * x1
  let p2 := p1 + x2 * p1
  let x3 := x2 * x2
  let p3 := p2 + x3 * p2
  let x4 := x3 * x3
  let p4 := p3 + x4 * p3
  let x5 := x4 * x4
  p4 + x5 * p4

/-- It is the sum of the first 64 powers. -/
theorem neumann_eq {N : ℕ} (X : Matrix (Fin N) (Fin N) ℝ) : neumann X = ∑ a ∈ range 64, X ^ a := by
  have h0 : (1 : Matrix (Fin N) (Fin N) ℝ) + X = ∑ a ∈ range 2, X ^ a := by
    simp [Finset.sum_range_succ]
  have x1 : X * X = X ^ 2 := (pow_two X).symm
  have x2 : X ^ 2 * X ^ 2 = X ^ 4 := by rw [← pow_add]
  have x3 : X ^ 4 * X ^ 4 = X ^ 8 := by rw [← pow_add]
  have x4 : X ^ 8 * X ^ 8 = X ^ 16 := by rw [← pow_add]
  have x5 : X ^ 16 * X ^ 16 = X ^ 32 := by rw [← pow_add]
  unfold neumann
  simp only [h0, x1, x2, x3, x4, x5, geom_double, Nat.reduceAdd]

/-- The product form is a right inverse of `1 - X` when `X` is strictly lower triangular with 64 rows. -/
theorem neumann_inv (X : Matrix (Fin 64) (Fin 64) ℝ) (hX : ∀ i j : Fin 64, i ≤ j → X i j = 0) :
    neumann X = 1 + X * neumann X := by
  have h := mul_neg_geom_sum X 64
  rw [← neumann_eq, pow_zero_of_lower X hX, sub_zero, sub_mul, one_mul] at h
  rw [← h]; abel

/-! ### The recurrence -/

/-- One token: the state decays by `exp g`, what it recalls at key `k` is erased at rate `β`, and `v` is written there. -/
def tokenStep (g β : ℝ) (k v : Fin 128 → ℝ) (S : Fin 128 → Fin 128 → ℝ) : Fin 128 → Fin 128 → ℝ :=
  fun d e => Real.exp g * (S d e - (k d * β) * ∑ x, k x * S x e) + (k d * β) * v e

/-- The state before token `p`, from an empty one. -/
def St (g β : ℕ → ℝ) (k v : ℕ → Fin 128 → ℝ) : ℕ → Fin 128 → Fin 128 → ℝ
  | 0 => fun _ _ => 0
  | p + 1 => tokenStep (g p) (β p) (k p) (v p) (St g β k v p)

/-- The log decay from token `p` on, summed over `i` tokens. -/
def cum (g : ℕ → ℝ) (p i : ℕ) : ℝ := ∑ j ∈ range i, g (p + j)

/-- What `V` must satisfy over the chunk at `p`: token `i`'s row is what it writes once the state's recall and the
    chunk's earlier writes are taken off. -/
def Solves (g β : ℕ → ℝ) (k v : ℕ → Fin 128 → ℝ) (p : ℕ) (V : ℕ → Fin 128 → ℝ) : Prop :=
  ∀ i < 64, ∀ e, V i e = β (p + i) * (v (p + i) e
    - Real.exp (cum g p (i + 1)) * ∑ x, k (p + i) x * St g β k v p x e
    - ∑ j ∈ range i, Real.exp (cum g p (i + 1) - cum g p (j + 1)) * (∑ x, k (p + i) x * k (p + j) x) * V j e)

/-- The state inside a chunk, of the state at its start and the rows `V`. -/
theorem St_chunk (g β : ℕ → ℝ) (k v : ℕ → Fin 128 → ℝ) (p : ℕ) (V : ℕ → Fin 128 → ℝ)
    (hV : Solves g β k v p V) : ∀ i ≤ 64, ∀ d e, St g β k v (p + i) d e
      = Real.exp (cum g p i) * St g β k v p d e
        + ∑ j ∈ range i, Real.exp (cum g p i - cum g p (j + 1)) * k (p + j) d * V j e
  | 0, _, d, e => by simp [cum]
  | i + 1, hi, d, e => by
      have ih := St_chunk g β k v p V hV i (by omega)
      have hc : cum g p (i + 1) = g (p + i) + cum g p i := by
        unfold cum; rw [Finset.sum_range_succ, add_comm]
      have hr : ∑ x, k (p + i) x * St g β k v (p + i) x e
          = Real.exp (cum g p i) * ∑ x, k (p + i) x * St g β k v p x e
            + ∑ j ∈ range i, Real.exp (cum g p i - cum g p (j + 1)) * (∑ x, k (p + i) x * k (p + j) x) * V j e := by
        simp only [ih, mul_add, Finset.sum_add_distrib, Finset.mul_sum, Finset.sum_mul]
        congr 1
        · exact Finset.sum_congr rfl fun x _ => by ring
        · rw [Finset.sum_comm]
          exact Finset.sum_congr rfl fun j _ => Finset.sum_congr rfl fun x _ => by ring
      have he : ∀ j, Real.exp (cum g p (i + 1) - cum g p (j + 1))
          = Real.exp (g (p + i)) * Real.exp (cum g p i - cum g p (j + 1)) := fun j => by
        rw [← Real.exp_add, hc]; congr 1; ring
      have hv := hV i (by omega) e
      show tokenStep (g (p + i)) (β (p + i)) (k (p + i)) (v (p + i)) (St g β k v (p + i)) d e = _
      unfold tokenStep
      have h1 : ∀ f : ℕ → ℝ, ∑ j ∈ range i, Real.exp (cum g p (i + 1) - cum g p (j + 1)) * f j
          = Real.exp (g (p + i)) * ∑ j ∈ range i, Real.exp (cum g p i - cum g p (j + 1)) * f j := fun f => by
        rw [Finset.mul_sum]; exact Finset.sum_congr rfl fun j _ => by rw [he]; ring
      rw [hr, Finset.sum_range_succ, sub_self, Real.exp_zero, one_mul, hv, ih d e]
      simp only [mul_assoc]
      rw [h1, h1, hc, Real.exp_add]
      ring

/-! ### The chunk in matrices -/

/-- The chunk's rows from the triangular inverse, as the kernel computes them. -/
theorem solves_of_matrix (g β : ℕ → ℝ) (k v : ℕ → Fin 128 → ℝ) (p : ℕ)
    (A : Matrix (Fin 64) (Fin 64) ℝ)
    (hA : ∀ i j : Fin 64, A i j = if j < i then (∑ x, (k (p + i) x * β (p + i)) * k (p + j) x)
      * Real.exp (cum g p (i + 1) - cum g p (j + 1)) else 0)
    (V : Fin 64 → Fin 128 → ℝ)
    (hV : ∀ i e, V i e = (∑ j, neumann (-A) i j * (v (p + j) e * β (p + j)))
      - ∑ d, (∑ j, neumann (-A) i j * (k (p + j) d * β (p + j) * Real.exp (cum g p (j + 1)))) * St g β k v p d e) :
    Solves g β k v p (fun i e => if h : i < 64 then V ⟨i, h⟩ e else 0) := by
  have hlow : ∀ i j : Fin 64, i ≤ j → (-A) i j = 0 := fun i j h => by
    rw [Matrix.neg_apply, hA, if_neg (not_lt.mpr h), neg_zero]
  set T := neumann (-A) with hT
  have hinv : T = 1 + (-A) * T := neumann_inv (-A) hlow
  -- the right-hand side of the system
  let r : Fin 64 → Fin 128 → ℝ := fun j e => v (p + j) e * β (p + j)
    - ∑ d, (k (p + j) d * β (p + j) * Real.exp (cum g p (j + 1))) * St g β k v p d e
  have hVr : ∀ i e, V i e = ∑ j, T i j * r j e := fun i e => by
    rw [hV]
    simp only [r, mul_sub, Finset.sum_sub_distrib, Finset.mul_sum, Finset.sum_mul]
    congr 1
    rw [Finset.sum_comm]
    exact Finset.sum_congr rfl fun j _ => Finset.sum_congr rfl fun d _ => by ring
  have hsys : ∀ i e, V i e = r i e - ∑ l, A i l * V l e := fun i e => by
    have hTi : ∀ j, T i j = (if i = j then 1 else 0) - ∑ l, A i l * T l j := fun j => by
      conv_lhs => rw [hinv]
      rw [Matrix.add_apply, Matrix.one_apply, Matrix.mul_apply]
      simp only [Matrix.neg_apply, neg_mul, Finset.sum_neg_distrib]
      ring
    rw [hVr i e]
    simp only [hTi, sub_mul, Finset.sum_sub_distrib, ite_mul, one_mul, zero_mul, Finset.sum_ite_eq,
      Finset.mem_univ, if_true, hVr, Finset.sum_mul, Finset.mul_sum]
    congr 1
    rw [Finset.sum_comm]
    exact Finset.sum_congr rfl fun l _ => Finset.sum_congr rfl fun j _ => by ring
  intro i hi e
  simp only [dif_pos hi]
  rw [hsys ⟨i, hi⟩ e]
  have hsum : ∑ l, A ⟨i, hi⟩ l * V l e = ∑ j ∈ range i, (∑ x, (k (p + i) x * β (p + i)) * k (p + j) x)
      * Real.exp (cum g p (i + 1) - cum g p (j + 1)) * (if h : j < 64 then V ⟨j, h⟩ e else 0) := by
    have : ∀ l : Fin 64, A ⟨i, hi⟩ l * V l e = (fun j : ℕ => if j < i then
        (∑ x, (k (p + i) x * β (p + i)) * k (p + j) x) * Real.exp (cum g p (i + 1) - cum g p (j + 1))
          * (if h : j < 64 then V ⟨j, h⟩ e else 0) else 0) l.val := fun l => by
      simp only [hA, l.isLt, dif_pos, Fin.lt_def]
      split <;> simp
    rw [Finset.sum_congr rfl fun l _ => this l, Fin.sum_univ_eq_sum_range
      (fun j : ℕ => if j < i then
        (∑ x, (k (p + i) x * β (p + i)) * k (p + j) x) * Real.exp (cum g p (i + 1) - cum g p (j + 1))
          * (if h : j < 64 then V ⟨j, h⟩ e else 0) else 0) 64, ← Finset.sum_filter]
    refine Finset.sum_congr ?_ fun _ _ => rfl
    ext j; simp only [Finset.mem_filter, Finset.mem_range]; omega
  rw [hsum]
  simp only [r, Finset.mul_sum, mul_sub, Finset.sum_mul]
  congr 1
  · congr 1
    · ring
    · exact Finset.sum_congr rfl fun x _ => by ring
  · refine Finset.sum_congr rfl fun j _ => ?_
    exact Finset.sum_congr rfl fun x _ => by ring

/-- The state at the end of a chunk. -/
theorem St_end (g β : ℕ → ℝ) (k v : ℕ → Fin 128 → ℝ) (p : ℕ) (V : Fin 64 → Fin 128 → ℝ)
    (hV : Solves g β k v p (fun i e => if h : i < 64 then V ⟨i, h⟩ e else 0)) (d e : Fin 128) :
    St g β k v (p + 64) d e = St g β k v p d e * Real.exp (cum g p 64)
      + ∑ j : Fin 64, (k (p + j) d * Real.exp (cum g p 64 - cum g p (j + 1))) * V j e := by
  rw [St_chunk g β k v p _ hV 64 le_rfl d e, ← Fin.sum_univ_eq_sum_range
    (fun j => Real.exp (cum g p 64 - cum g p (j + 1)) * k (p + j) d * (if h : j < 64 then V ⟨j, h⟩ e else 0)) 64]
  congr 1
  · ring
  · refine Finset.sum_congr rfl fun j _ => ?_
    simp only [j.isLt, dif_pos, Fin.eta]
    ring

/-- What a token's query reads from the state after the token, in the chunk's matrices. -/
theorem read_chunk (g β : ℕ → ℝ) (k v : ℕ → Fin 128 → ℝ) (p : ℕ) (V : Fin 64 → Fin 128 → ℝ)
    (hV : Solves g β k v p (fun i e => if h : i < 64 then V ⟨i, h⟩ e else 0)) (q : Fin 128 → ℝ) (i : Fin 64) (e : Fin 128) :
    (∑ d, (q d * Real.exp (cum g p (i + 1))) * St g β k v p d e)
      + ∑ j : Fin 64, ((∑ x, q x * k (p + j) x) * (if j ≤ i then Real.exp (cum g p (i + 1) - cum g p (j + 1)) else 0)) * V j e
    = ∑ d, q d * St g β k v (p + i + 1) d e := by
  have h := fun d => St_chunk g β k v p _ hV (i + 1) (by omega) d e
  rw [show p + i.val + 1 = p + (i.val + 1) by ring]
  simp only [h, mul_add, Finset.sum_add_distrib]
  congr 1
  · exact Finset.sum_congr rfl fun x _ => by ring
  · have : ∀ j : Fin 64, ((∑ x, q x * k (p + j) x)
        * (if j ≤ i then Real.exp (cum g p (i + 1) - cum g p (j + 1)) else 0)) * V j e
        = (fun n : ℕ => if n < i.val + 1 then (∑ x, q x * k (p + n) x) * Real.exp (cum g p (i + 1) - cum g p (n + 1))
            * (if h : n < 64 then V ⟨n, h⟩ e else 0) else 0) j.val := fun j => by
      simp only [j.isLt, dif_pos, Fin.le_def, Nat.lt_succ_iff]
      split <;> simp
    rw [Finset.sum_congr rfl fun j _ => this j, Fin.sum_univ_eq_sum_range
      (fun n : ℕ => if n < i.val + 1 then (∑ x, q x * k (p + n) x) * Real.exp (cum g p (i + 1) - cum g p (n + 1))
            * (if h : n < 64 then V ⟨n, h⟩ e else 0) else 0) 64, ← Finset.sum_filter]
    simp only [Finset.mul_sum, Finset.sum_mul]
    rw [Finset.sum_comm]
    refine Finset.sum_congr rfl fun x _ => ?_
    refine Finset.sum_congr ?_ fun _ _ => by ring
    ext j; simp only [Finset.mem_filter, Finset.mem_range]; omega

end Cert.Delta

end
-- ==== Proof.Delta.Spec.lean ====
/- The mixer in real numbers, row by row of the padded sequence: what both programs compute when every argument is
   finite.  With it the few facts about the extended reals that carry a value from one side to the other. -/
module

public import proofs.«01_k».proof.Proof.Delta.Chunk
public import Idealize.ShloMosaic.PureOps.Ideal
public import Mathlib.Analysis.SpecialFunctions.Log.Basic

@[expose] public section

noncomputable section

namespace Cert.Delta

open Idealize.ShloMosaic Finset

/-! ### From the extended reals to the reals -/

/-- A finite sum of reals, taken as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The norm's small constant, 8796093 / 2 ^ 43. -/
def eps : ℝ := 8796093 / 8796093022208
/-- The query scale, 11863283 / 2 ^ 27. -/
def scale : ℝ := 11863283 / 134217728

theorem eps_pos : 0 < eps := by unfold eps; norm_num

theorem ofBits_eps : Ideal.ofBits .f32 0x358637BD#32 = (eps : EReal) := by
  unfold eps; simp [Ideal.ofBits, Ideal.ieee, -EReal.coe_mul]; norm_num
theorem ofBits_scale : Ideal.ofBits .f32 0x3DB504F3#32 = (scale : EReal) := by
  unfold scale; simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num

/-- The reciprocal square root of a positive number. -/
def rs (x : ℝ) : ℝ := (Real.sqrt x)⁻¹

theorem rsqrt_pos {x : ℝ} (h : 0 < x) : Ideal.rsqrt (x : EReal) = (rs x : EReal) := by
  rw [Ideal.rsqrt_coe, if_neg (not_lt.mpr h.le), if_neg h.ne', rs]

theorem div_real {y : ℝ} (h : y ≠ 0) (x : ℝ) : Ideal.div (x : EReal) (y : EReal) = ((x / y : ℝ) : EReal) := by
  rw [Ideal.div_coe h, ← EReal.coe_mul]; congr 1; field_simp

/-- The logistic function. -/
def lgs (x : ℝ) : ℝ := (1 + Real.exp (-x))⁻¹

theorem logistic_real (x : ℝ) : Ideal.logistic (x : EReal) = (lgs x : EReal) := Ideal.logistic_coe x

/-- The logistic function as a quotient. -/
theorem sig_quot (x : ℝ) : Ideal.div 1 (1 + Ideal.exp (-(x : EReal))) = (lgs x : EReal) := by
  have h : (1 : ℝ) + Real.exp (-x) ≠ 0 := by positivity
  rw [← EReal.coe_neg, Ideal.exp_coe, ← EReal.coe_one, ← EReal.coe_add, div_real h, lgs, one_div]

/-- `x` times its logistic. -/
def silu (x : ℝ) : ℝ := x * lgs x

/-- The softplus. -/
def softplus (x : ℝ) : ℝ := max x 0 + Real.log (1 + Real.exp (-|x|))

theorem coe_max (x y : ℝ) : ((max x y : ℝ) : EReal) = max (x : EReal) (y : EReal) :=
  (EReal.coe_strictMono.monotone).map_max

theorem abs_real (x : ℝ) : (FloatOps.absf (F := Ideal) (φ := .f32) (x : EReal) : EReal) = ((|x| : ℝ) : EReal) := by
  show max (x : EReal) (-(x : EReal)) = _
  rw [← EReal.coe_neg, ← coe_max]; rfl

/-- The softplus as the programs write it. -/
theorem softplus_real (x : ℝ) :
    max (x : EReal) 0 + Ideal.log1p (Ideal.exp (-(FloatOps.absf (F := Ideal) (φ := .f32) (x : EReal) : EReal))) = (softplus x : EReal) := by
  have h : ¬ (1 + Real.exp (-|x|) ≤ 0) := not_le.mpr (by positivity)
  rw [abs_real, ← EReal.coe_neg, Ideal.exp_coe, ← EReal.coe_zero, ← coe_max]
  show _ + Ideal.log (1 + _) = _
  rw [← EReal.coe_one, ← EReal.coe_add, Ideal.log_coe, if_neg h, ← EReal.coe_add]; rfl

/-- A row's mean square, its small constant added, under the reciprocal root. -/
theorem rs_mean (s n : ℝ) (hs : 0 ≤ s) (hn : 0 < n) :
    Ideal.rsqrt (Ideal.div (s : EReal) (n : EReal) + (eps : EReal)) = (rs (s / n + eps) : EReal) := by
  rw [div_real hn.ne', ← EReal.coe_add, rsqrt_pos (add_pos_of_nonneg_of_pos (div_nonneg hs hn.le) eps_pos)]

/-- A row's square sum, its small constant added, under the reciprocal root. -/
theorem rs_sum (s : ℝ) (hs : 0 ≤ s) : Ideal.rsqrt ((s : EReal) + (eps : EReal)) = (rs (s + eps) : EReal) := by
  rw [← EReal.coe_add, rsqrt_pos (add_pos_of_nonneg_of_pos hs eps_pos)]

/-- A value that is neither infinity is a real. -/
theorem coe_toReal_of {x : EReal} (h1 : x ≠ ⊤) (h2 : x ≠ ⊥) : ((x.toReal : ℝ) : EReal) = x := EReal.coe_toReal h1 h2

/-! ### The mixer -/

/-- The weights, in reals. -/
structure Weights where
  npre : Fin 1024 → ℝ
  w : Fin 1024 → Fin 7832 → ℝ
  conv : Fin 4 → Fin 2304 → ℝ
  alog : Fin 6 → ℝ
  dtb : Fin 6 → ℝ
  norm : Fin 128 → ℝ

variable (W : Weights) (H : ℕ → Fin 1024 → ℝ)

/-- The normalised row, zero in the 112 rows of padding. -/
def hn (p : ℕ) (d : Fin 1024) : ℝ :=
  if p < 112 then 0 else H p d * rs ((∑ x, H p x * H p x) / 1024 + eps) * W.npre d

/-- The projections of a row. -/
def proj (p : ℕ) (c : Fin 7832) : ℝ := ∑ d, hn W H p d * W.w d c

/-- The convolution's input three rows up, zero above the first row. -/
def up3 (n : ℕ) (c : Fin 2304) : ℝ := if n < 3 then 0 else proj W H (n - 3) ⟨c.val, by omega⟩

/-- The convolved and activated row. -/
def mixed (p : ℕ) (c : Fin 2304) : ℝ :=
  silu (up3 W H p c * W.conv 0 c + up3 W H (p + 1) c * W.conv 1 c + up3 W H (p + 2) c * W.conv 2 c
    + up3 W H (p + 3) c * W.conv 3 c)

/-- A row of 128 scaled to length one. -/
def unit (y : Fin 128 → ℝ) (e : Fin 128) : ℝ := y e * rs ((∑ x, y x * y x) + eps)

def qv (hd : Fin 6) (p : ℕ) : Fin 128 → ℝ := unit fun e => mixed W H p ⟨128 * hd.val + e.val, by omega⟩
def kv (hd : Fin 6) (p : ℕ) : Fin 128 → ℝ := unit fun e => mixed W H p ⟨768 + (128 * hd.val + e.val), by omega⟩
def vv (hd : Fin 6) (p : ℕ) (e : Fin 128) : ℝ := mixed W H p ⟨1536 + (128 * hd.val + e.val), by omega⟩
def zv (hd : Fin 6) (p : ℕ) (e : Fin 128) : ℝ := proj W H p ⟨2304 + (128 * hd.val + e.val), by omega⟩

/-- The log decay of a token. -/
def gv (hd : Fin 6) (p : ℕ) : ℝ :=
  if p < 112 then 0 else -Real.exp (W.alog hd) * softplus (proj W H p ⟨3072 + hd.val, by omega⟩ + W.dtb hd)
/-- The write strength of a token. -/
def bv (hd : Fin 6) (p : ℕ) : ℝ := if p < 112 then 0 else lgs (proj W H p ⟨3078 + hd.val, by omega⟩)

/-- The state of a head before row `p`. -/
def state (hd : Fin 6) (p : ℕ) : Fin 128 → Fin 128 → ℝ :=
  St (gv W H hd) (bv W H hd) (kv W H hd) (vv W H hd) p

/-- What a token's query reads after the token is written. -/
def oread (hd : Fin 6) (p : ℕ) (e : Fin 128) : ℝ := ∑ d, (qv W H hd p d * scale) * state W H hd (p + 1) d e

/-- The output norm and gate of a row of 128. -/
def gate (nw z o : Fin 128 → ℝ) (e : Fin 128) : ℝ :=
  o e * rs ((∑ x, o x * o x) / 128 + eps) * nw e * silu (z e)

/-- The mixer's output row. -/
def out (hd : Fin 6) (p : ℕ) : Fin 128 → ℝ := gate W.norm (zv W H hd p) (oread W H hd p)

/-! ### The rows of padding -/

theorem hn_pad {p : ℕ} (h : p < 112) (d : Fin 1024) : hn W H p d = 0 := if_pos h

theorem proj_pad {p : ℕ} (h : p < 112) (c : Fin 7832) : proj W H p c = 0 := by
  unfold proj; simp [hn_pad W H h]

theorem up3_pad {n : ℕ} (h : n < 115) (c : Fin 2304) : up3 W H n c = 0 := by
  unfold up3; split
  · rfl
  · exact proj_pad W H (by omega) _

theorem mixed_pad {p : ℕ} (h : p < 112) (c : Fin 2304) : mixed W H p c = 0 := by
  unfold mixed silu
  rw [up3_pad W H (by omega), up3_pad W H (by omega), up3_pad W H (by omega), up3_pad W H (by omega)]
  simp

/-- The padding's output is zero. -/
theorem out_pad (hd : Fin 6) {p : ℕ} (h : p < 112) (e : Fin 128) : out W H hd p e = 0 := by
  have : oread W H hd p e = 0 := by
    unfold oread qv unit
    refine Finset.sum_eq_zero fun d _ => ?_
    simp [mixed_pad W H h]
  unfold out gate; rw [this]; simp

/-- The state stays empty through the padding. -/
theorem state_pad (hd : Fin 6) : ∀ {p : ℕ}, p ≤ 112 → ∀ d e, state W H hd p d e = 0
  | 0, _, d, e => rfl
  | p + 1, h, d, e => by
      have ih := state_pad hd (p := p) (by omega)
      show tokenStep _ _ _ _ (state W H hd p) d e = 0
      unfold tokenStep
      have hb : bv W H hd p = 0 := if_pos (by omega)
      simp [ih, hb]

end Cert.Delta

end
-- ==== Proof.Delta.Args.lean ====
/- The seven argument arrays as real numbers: the weights, and the rows of each of the four sequences. -/
module

public import proofs.«01_k».proof.Proof.Delta.Spec
public import Idealize.ShloMosaic.Lib.Pointwise

@[expose] public section

noncomputable section

namespace Cert.Delta

open Idealize.ShloMosaic Idealize.ShloMosaic.Pointwise

/-- The arguments hold the rows `H` and the weights `W`. -/
structure Args (W : Weights) (H : Fin 4 → ℕ → Fin 1024 → ℝ) (a0 : (⟨3, ![4, 8320, 1024]⟩ : Shape).Idx → EReal)
    (a1 : (⟨1, ![1024]⟩ : Shape).Idx → EReal) (a2 : (⟨2, ![1024, 7832]⟩ : Shape).Idx → EReal)
    (a3 : (⟨2, ![4, 2304]⟩ : Shape).Idx → EReal) (a4 a5 : (⟨1, ![6]⟩ : Shape).Idx → EReal)
    (a6 : (⟨1, ![128]⟩ : Shape).Idx → EReal) : Prop where
  h : ∀ (b : Fin 4) (p : Fin 8320) (d : Fin 1024), a0 (ix3 b p d) = (H b p.val d : EReal)
  npre : ∀ d : Fin 1024, a1 (ix1 d) = (W.npre d : EReal)
  w : ∀ (d : Fin 1024) (c : Fin 7832), a2 (ix2 d c) = (W.w d c : EReal)
  conv : ∀ (j : Fin 4) (c : Fin 2304), a3 (ix2 j c) = (W.conv j c : EReal)
  alog : ∀ hd : Fin 6, a4 (ix1 hd) = (W.alog hd : EReal)
  dtb : ∀ hd : Fin 6, a5 (ix1 hd) = (W.dtb hd : EReal)
  norm : ∀ e : Fin 128, a6 (ix1 e) = (W.norm e : EReal)

/-- Finite arrays are such arguments. -/
theorem Args.of_real (a0 : (⟨3, ![4, 8320, 1024]⟩ : Shape).Idx → EReal)
    (a1 : (⟨1, ![1024]⟩ : Shape).Idx → EReal) (a2 : (⟨2, ![1024, 7832]⟩ : Shape).Idx → EReal)
    (a3 : (⟨2, ![4, 2304]⟩ : Shape).Idx → EReal) (a4 a5 : (⟨1, ![6]⟩ : Shape).Idx → EReal)
    (a6 : (⟨1, ![128]⟩ : Shape).Idx → EReal)
    (h0 : ∀ i, a0 i = ((a0 i).toReal : EReal)) (h1 : ∀ i, a1 i = ((a1 i).toReal : EReal)) (h2 : ∀ i, a2 i = ((a2 i).toReal : EReal))
    (h3 : ∀ i, a3 i = ((a3 i).toReal : EReal)) (h4 : ∀ i, a4 i = ((a4 i).toReal : EReal)) (h5 : ∀ i, a5 i = ((a5 i).toReal : EReal))
    (h6 : ∀ i, a6 i = ((a6 i).toReal : EReal)) : ∃ W H, Args W H a0 a1 a2 a3 a4 a5 a6 :=
  ⟨⟨fun d => (a1 (ix1 d)).toReal, fun d c => (a2 (ix2 d c)).toReal, fun j c => (a3 (ix2 j c)).toReal, fun hd => (a4 (ix1 hd)).toReal,
      fun hd => (a5 (ix1 hd)).toReal, fun e => (a6 (ix1 e)).toReal⟩,
    fun b p d => if hp : p < 8320 then (a0 (ix3 b ⟨p, hp⟩ d)).toReal else 0,
    ⟨fun b p d => (h0 _).trans (by rw [dif_pos p.isLt]), fun _ => h1 _, fun _ _ => h2 _, fun _ _ => h3 _, fun _ => h4 _, fun _ => h5 _,
      fun _ => h6 _⟩⟩

end Cert.Delta

end
-- ==== Proof.Delta.Finite.lean ====
/- The precondition read back: arguments that are all finite are real numbers. -/
module

public import proofs.«01_k».proof.Proof.Delta.Args
public import proofs.«01_k».proof.Pre_finite
public import Idealize.ShloMosaic.Lib.ReduceAll
public import Idealize.ShloMosaic.Lib.Pointwise

@[expose] public section

set_option maxRecDepth 16384

noncomputable section

namespace Cert.Delta.Finite

open Idealize.ShloMosaic Idealize.ShloMosaic.Pointwise
open Cert.Pre_finite Cert.Pre_finite.Facts

theorem ofBits_inf : Ideal.ofBits .f32 0x7F800000#32 = (⊤ : EReal) := by
  simp [Ideal.ofBits, Ideal.ieee]

/-- A number whose absolute value is below infinity is real. -/
theorem real_of_lt {x : EReal} (h : Ideal.cmp .olt (max x (-x)) (Ideal.ofBits .f32 0x7F800000#32) = 1#1) : x = (x.toReal : EReal) := by
  rw [ofBits_inf] at h
  have hlt : max x (-x) < ⊤ := by
    by_contra hn
    simp [Ideal.cmp, hn] at h
  have h1 : x < ⊤ := lt_of_le_of_lt (le_max_left _ _) hlt
  have h2 : -x < ⊤ := lt_of_le_of_lt (le_max_right _ _) hlt
  refine (coe_toReal_of h1.ne ?_).symm
  intro hb
  rw [hb] at h2
  simp at h2

instance : Subsingleton S_.Idx := ⟨fun a b => funext fun k => k.elim0⟩

/-- One argument's part of the precondition. -/
theorem real_of_all {s : Shape} {axes : List (Fin s.rank)} (x : FVec Ideal s .f32) (bc : S_.BroadcastsInDim s (![] : Fin 0 → Fin s.rank))
    (h : s.ReducesTo axes S_) (hu : 0 < S_.numel) (j : S_.Idx)
    (e : Host.reduce IntOp.andi (cmpf .olt (Host.absf x) (broadcastInDim s ![] bc (constant (F := Ideal) S_ .f32 0x7F800000#32))) (constantI S_ 1 1#1) h hu j = 1#1)
    (i : s.Idx) : x i = ((x i).toReal : EReal) :=
  real_of_lt (Host.reduce_andi_all _ _ h hu j e i)

/-- The precondition: every argument is an array of reals. -/
theorem args [Facts] (a0 : FVec Ideal S4x8320x1024 .f32) (a1 : FVec Ideal S1024 .f32) (a2 : FVec Ideal S1024x7832 .f32)
    (a3 : FVec Ideal S4x2304 .f32) (a4 a5 : FVec Ideal S6 .f32) (a6 : FVec Ideal S128 .f32)
    (h : fn (F := Ideal) a0 a1 a2 a3 a4 a5 a6 = fun _ => 1#1) : ∃ W H, Args W H a0 a1 a2 a3 a4 a5 a6 := by
  have h' := congrFun h (Shape.Idx.first h_S_)
  unfold fn fn_part1 at h'
  obtain ⟨h', e6⟩ := IntOp.andi_eq_one.1 h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact Args.of_real a0 a1 a2 a3 a4 a5 a6 (real_of_all a0 _ _ _ _ e0) (real_of_all a1 _ _ _ _ e1) (real_of_all a2 _ _ _ _ e2)
    (real_of_all a3 _ _ _ _ e3) (real_of_all a4 _ _ _ _ e4) (real_of_all a5 _ _ _ _ e5) (real_of_all a6 _ _ _ _ e6)

end Cert.Delta.Finite

end
-- ==== Proof.Delta.Head.lean ====
/- One head's work on one chunk of 64 tokens, as one function of what the chunk reads: the six heads of a trip are
   this function at the six lane groups (`Trip.lean`). -/
module

public import proofs.«01_k».proof.Proof.Gen.KernelIdeal.Loops
public import Idealize.ShloMosaic.Lib.Pipeline.ValueKit

@[expose] public section

set_option maxRecDepth 16384

noncomputable section

namespace Cert.Delta.K

open Idealize.ShloMosaic Idealize.ShloMosaic.TcCoe Idealize.ShloMosaic.Tactic
open Cert.KernelIdeal Cert.KernelIdeal.Gen

variable {F : FTy → Type} [FloatOps F]

/-! ### The split products -/

/-- The leading part of a number split in two. -/
def hi {s : Shape} (x : FVec F s .f32) : FVec F s .bf16 := truncf .bf16 x bitsLt_bf16_f32
/-- The rest. -/
def lo {s : Shape} (x : FVec F s .f32) : FVec F s .bf16 :=
  truncf .bf16 (subf x (extf .f32 (hi x) bitsLt_bf16_f32)) bitsLt_bf16_f32

/-- A 64 × 64 product in three split products. -/
def mm64 (a b : FVec F S64x64 .f32) : FVec F S64x64 .f32 :=
  addf (addf (matmul dot_S64x64_S64x64_S64x64_1_0_0_1_n_n none (hi a) (hi b) (constant S64x64 .f32 0x00000000#32))
    (matmul dot_S64x64_S64x64_S64x64_1_0_0_1_n_n none (hi a) (lo b) (constant S64x64 .f32 0x00000000#32)))
    (matmul dot_S64x64_S64x64_S64x64_1_0_0_1_n_n none (lo a) (hi b) (constant S64x64 .f32 0x00000000#32))

/-- A 64 × 64 by 64 × 256 product in three split products. -/
def mm256 (a : FVec F S64x64 .f32) (b : FVec F S64x256 .f32) : FVec F S64x256 .f32 :=
  addf (addf (matmul dot_S64x64_S64x256_S64x256_1_0_0_1_n_n none (hi a) (hi b) (constant S64x256 .f32 0x00000000#32))
    (matmul dot_S64x64_S64x256_S64x256_1_0_0_1_n_n none (hi a) (lo b) (constant S64x256 .f32 0x00000000#32)))
    (matmul dot_S64x64_S64x256_S64x256_1_0_0_1_n_n none (lo a) (hi b) (constant S64x256 .f32 0x00000000#32))

/-- The inverse of one minus `x` by five squarings. -/
def neu (x : FVec F S64x64 .f32) : FVec F S64x64 .f32 :=
  let p0 := addf k0_pay5 x
  let x1 := mm64 x x
  let p1 := addf p0 (mm64 x1 p0)
  let x2 := mm64 x1 x1
  let p2 := addf p1 (mm64 x2 p1)
  let x3 := mm64 x2 x2
  let p3 := addf p2 (mm64 x3 p2)
  let x4 := mm64 x3 x3
  let p4 := addf p3 (mm64 x4 p3)
  let x5 := mm64 x4 x4
  addf p4 (mm64 x5 p4)

/-! ### The head -/

/-- The decay between two tokens of the chunk, zero above the diagonal. -/
def dmask (gcol : FVec F S64x1 .f32) (grow : FVec F S1x64 .f32) : FVec F S64x64 .f32 :=
  select k0_pay2 (exp (select k0_pay2
    (subf (broadcastTo S64x64 gcol broadcasts_S64x1_S64x64) (broadcastTo S64x64 grow broadcasts_S1x64_S64x64))
    (broadcast S64x64 (Scalar.ofBits .f32 0x00000000#32)))) (broadcast S64x64 (Scalar.ofBits .f32 0x00000000#32))

/-- The keys scaled by their write strength. -/
def kbeta (bcol : FVec F S64x1 .f32) (k : FVec F S64x128 .f32) : FVec F S64x128 .f32 :=
  mulf k (broadcastTo S64x128 bcol broadcasts_S64x1_S64x128)

/-- Minus the strictly lower triangular matrix of the chunk. -/
def negA (gcol : FVec F S64x1 .f32) (grow : FVec F S1x64 .f32) (bcol : FVec F S64x1 .f32) (k : FVec F S64x128 .f32) :
    FVec F S64x64 .f32 :=
  subf (broadcast S64x64 (Scalar.ofBits .f32 0x00000000#32))
    (select k0_pay3 (mulf (matmul dot_S64x128_S64x128_S64x64_1_1_0_0_n_n none
      (truncf .bf16 (kbeta bcol k) bitsLt_bf16_f32) (truncf .bf16 k bitsLt_bf16_f32) (constant S64x64 .f32 0x00000000#32))
      (dmask gcol grow)) (broadcast S64x64 (Scalar.ofBits .f32 0x00000000#32)))

/-- The right-hand sides of the triangular system, side by side. -/
def rhs (gcol bcol : FVec F S64x1 .f32) (k v : FVec F S64x128 .f32) : FVec F S64x256 .f32 :=
  concatenate S64x256 1 [⟨S64x128, mulf v (broadcastTo S64x128 bcol broadcasts_S64x1_S64x128)⟩,
    ⟨S64x128, mulf (kbeta bcol k) (broadcastTo S64x128 (exp gcol) broadcasts_S64x1_S64x128)⟩]
    concatenates_S64x128_S64x128_S64x256_d1

/-- The state as a matrix. -/
def mat (S : Vec F S1x128x128 .f32) : FVec F S128x128 .f32 := shapeCast S128x128 S shapeCasts_S1x128x128_S128x128

/-- What the chunk's tokens write, each row against its key. -/
def vnew (sol : FVec F S64x256 .f32) (S : FVec F S128x128 .f32) : FVec F S64x128 .f32 :=
  subf (extractStridedSlice S64x128 ![0, 0] sol slices_S64x256_o0_0_S64x128)
    (matmul dot_S64x128_S128x128_S64x128_1_0_0_1_n_n none
      (truncf .bf16 (extractStridedSlice S64x128 ![0, 128] sol slices_S64x256_o0_128_S64x128) bitsLt_bf16_f32)
      (truncf .bf16 S bitsLt_bf16_f32) (constant S64x128 .f32 0x00000000#32))

/-- The solved system. -/
def sol (gcol : FVec F S64x1 .f32) (grow : FVec F S1x64 .f32) (bcol : FVec F S64x1 .f32) (k v : FVec F S64x128 .f32) :
    FVec F S64x256 .f32 :=
  mm256 (neu (negA gcol grow bcol k)) (rhs gcol bcol k v)

/-- What the queries read. -/
def oread (gcol : FVec F S64x1 .f32) (grow : FVec F S1x64 .f32) (q k : FVec F S64x128 .f32)
    (S : FVec F S128x128 .f32) (vn : FVec F S64x128 .f32) : FVec F S64x128 .f32 :=
  let qs := mulf q (broadcast S64x128 (Scalar.ofBits .f32 0x3DB504F3#32))
  addf (matmul dot_S64x128_S128x128_S64x128_1_0_0_1_n_n none
      (truncf .bf16 (mulf qs (broadcastTo S64x128 (exp gcol) broadcasts_S64x1_S64x128)) bitsLt_bf16_f32)
      (truncf .bf16 S bitsLt_bf16_f32) (constant S64x128 .f32 0x00000000#32))
    (matmul dot_S64x64_S64x128_S64x128_1_0_0_1_n_n none
      (truncf .bf16 (mulf (matmul dot_S64x128_S64x128_S64x64_1_1_0_0_n_n none (truncf .bf16 qs bitsLt_bf16_f32)
        (truncf .bf16 k bitsLt_bf16_f32) (constant S64x64 .f32 0x00000000#32)) (dmask gcol grow)) bitsLt_bf16_f32)
      (truncf .bf16 vn bitsLt_bf16_f32) (constant S64x128 .f32 0x00000000#32))

/-- The state after the chunk. -/
def snext (gcol : FVec F S64x1 .f32) (glast : FVec F S1x1 .f32) (k : FVec F S64x128 .f32)
    (S : FVec F S128x128 .f32) (vn : FVec F S64x128 .f32) : FVec F S128x128 .f32 :=
  addf (mulf S (broadcastTo S128x128 (exp glast) broadcasts_S1x1_S128x128))
    (matmul dot_S64x128_S64x128_S128x128_0_0_1_1_n_n none
      (truncf .bf16 (mulf k (broadcastTo S64x128 (exp (subf (broadcastTo S64x1 glast broadcasts_S1x1_S64x1) gcol))
        broadcasts_S64x1_S64x128)) bitsLt_bf16_f32)
      (truncf .bf16 vn bitsLt_bf16_f32) (constant S128x128 .f32 0x00000000#32))

/-- The output norm and gate. -/
def gated (o : FVec F S64x128 .f32) (nw : FVec F S1x128 .f32) (z : FVec F S64x128 .f32) : FVec F S64x128 .f32 :=
  mulf (mulf (mulf o (broadcastTo S64x128 (rsqrt (addf (divf (shapeCast S64x1
      (multiReduction .add [1] S64 (mulf o o) 0x00000000#32 reduces_S64x128_S64 (.inl rfl) rfl) shapeCasts_S64_S64x1)
      (broadcast S64x1 (Scalar.ofBits .f32 0x43000000#32))) (broadcast S64x1 (Scalar.ofBits .f32 0x358637BD#32))))
      broadcasts_S64x1_S64x128)) (broadcastTo S64x128 nw broadcasts_S1x128_S64x128)) (mulf z (logistic z))

/-- Head `h`'s column of a row block. -/
def col (h : Fin 6) (x : FVec F S64x128 .f32) : FVec F S64x1 .f32 :=
  extractStridedSlice S64x1 ![0, h.val] x
    ((by decide : ∀ h : Fin 6, S64x128.Slices ![0, h.val] S64x1) h)
/-- Head `h`'s row of a transposed block. -/
def row (h : Fin 6) (x : FVec F S128x64 .f32) : FVec F S1x64 .f32 :=
  extractStridedSlice S1x64 ![h.val, 0] x
    ((by decide : ∀ h : Fin 6, S128x64.Slices ![h.val, 0] S1x64) h)
/-- Head `h`'s entry of the last row. -/
def last (h : Fin 6) (x : FVec F S64x128 .f32) : FVec F S1x1 .f32 :=
  extractStridedSlice S1x1 ![63, h.val] x
    ((by decide : ∀ h : Fin 6, S64x128.Slices ![63, h.val] S1x1) h)

/-- The state one head stores. -/
def headS (gcol : FVec F S64x1 .f32) (grow : FVec F S1x64 .f32) (bcol : FVec F S64x1 .f32) (glast : FVec F S1x1 .f32)
    (k v : FVec F S64x128 .f32) (S : Vec F S1x128x128 .f32) : FVec F S1x128x128 .f32 :=
  shapeCast S1x128x128 (snext gcol glast k (mat S) (vnew (sol gcol grow bcol k v) (mat S))) shapeCasts_S128x128_S1x128x128

/-- The rows one head stores. -/
def headO (gcol : FVec F S64x1 .f32) (grow : FVec F S1x64 .f32) (bcol : FVec F S64x1 .f32)
    (q k v : FVec F S64x128 .f32) (S : Vec F S1x128x128 .f32) (nw : FVec F S1x128 .f32) (z : FVec F S64x128 .f32) :
    FVec F S1x64x128 .f32 :=
  shapeCast S1x64x128 (gated (oread gcol grow q k (mat S) (vnew (sol gcol grow bcol k v) (mat S))) nw z)
    shapeCasts_S64x128_S1x64x128

end Cert.Delta.K

end
-- ==== Proof.Delta.Trip.lean ====
/- The pieces one trip of the chunk loop stores, head by head: each is `Head.lean`'s function at the head's lanes. -/
module

public import proofs.«01_k».proof.Proof.Delta.Head

@[expose] public section

set_option maxRecDepth 16384

noncomputable section

namespace Cert.Delta.K

open Idealize.ShloMosaic Idealize.ShloMosaic.TcCoe Idealize.ShloMosaic.Tactic
open Cert.KernelIdeal Cert.KernelIdeal.Gen

variable {F : FTy → Type} [FloatOps F]

/-- The states a trip stores. -/
theorem trip_states (𝒱 : Variants) (c : Dev nD) (bd : Option 𝒱.V) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (v625 : Vec F S1x128 .f32) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t1_loop.trips) (f_arg8 : BufTy.Contents (Elt F) arg8.view.ty) (f_arg15 : BufTy.Contents (Elt F) arg15.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 k f_arg8 f_arg15).2 = [
      ⟨Rect.unit (s := S6x128x128) ![5, 0, 0] S1x128x128.size inb_S6x128x128_S1x128x128_5_0_0, headS (col 5 (k0_pay8 k0_pay4 (View.readAt (Elt F) arg14.view (Rect.unit (s := S320x256) (k0_off1 k) S64x128.size (k0_off1_inb k)).toLoadRect X_arg14 : FVec F S64x128 .f32))) (row 5 (k0_pay9 k0_pay4 (View.readAt (Elt F) arg14.view (Rect.unit (s := S320x256) (k0_off1 k) S64x128.size (k0_off1_inb k)).toLoadRect X_arg14 : FVec F S64x128 .f32))) (col 5 (View.readAt (Elt F) arg14.view (Rect.unit (s := S320x256) (k0_off2 k) S64x128.size (k0_off2_inb k)).toLoadRect X_arg14 : FVec F S64x128 .f32)) (last 5 (k0_pay8 k0_pay4 (View.readAt (Elt F) arg14.view (Rect.unit (s := S320x256) (k0_off1 k) S64x128.size (k0_off1_inb k)).toLoadRect X_arg14 : FVec F S64x128 .f32))) (View.readAt (Elt F) arg11.view (Rect.unit (s := S320x768) (k0_off13 k) S64x128.size (k0_off13_inb k)).toLoadRect X_arg11) (View.readAt (Elt F) arg12.view (Rect.unit (s := S320x768) (k0_off13 k) S64x128.size (k0_off13_inb k)).toLoadRect X_arg12) (View.readAt (Elt F) arg15.view (Rect.unit (s := S6x128x128) ![5, 0, 0] S1x128x128.size inb_S6x128x128_S1x128x128_5_0_0).toLoadRect f_arg15)⟩,
      ⟨Rect.unit (s := S6x128x128) ![4, 0, 0] S1x128x128.size inb_S6x128x128_S1x128x128_4_0_0, headS (col 4 (k0_pay8 k0_pay4 (View.readAt (Elt F) arg14.view (Rect.unit (s := S320x256) (k0_off1 k) S64x128.size (k0_off1_inb k)).toLoadRect X_arg14 : FVec F S64x128 .f32))) (row 4 (k0_pay9 k0_pay4 (View.readAt (Elt F) arg14.view (Rect.unit (s := S320x256) (k0_off1 k) S64x128.size (k0_off1_inb k)).toLoadRect X_arg14 : FVec F S64x128 .f32))) (col 4 (View.readAt (Elt F) arg14.view (Rect.unit (s := S320x256) (k0_off2 k) S64x128.size (k0_off2_inb k)).toLoadRect X_arg14 : FVec F S64x128 .f32)) (last 4 (k0_pay8 k0_pay4 (View.readAt (Elt F) arg14.view (Rect.unit (s := S320x256) (k0_off1 k) S64x128.size (k0_off1_inb k)).toLoadRect X_arg14 : FVec F S64x128 .f32))) (View.readAt (Elt F) arg11.view (Rect.unit (s := S320x768) (k0_off11 k) S64x128.size (k0_off11_inb k)).toLoadRect X_arg11) (View.readAt (Elt F) arg12.view (Rect.unit (s := S320x768) (k0_off11 k) S64x128.size (k0_off11_inb k)).toLoadRect X_arg12) (View.readAt (Elt F) arg15.view (Rect.unit (s := S6x128x128) ![4, 0, 0] S1x128x128.size inb_S6x128x128_S1x128x128_4_0_0).toLoadRect f_arg15)⟩,
      ⟨Rect.unit (s := S6x128x128) ![3, 0, 0] S1x128x128.size inb_S6x128x128_S1x128x128_3_0_0, headS (col 3 (k0_pay8 k0_pay4 (View.readAt (Elt F) arg14.view (Rect.unit (s := S320x256) (k0_off1 k) S64x128.size (k0_off1_inb k)).toLoadRect X_arg14 : FVec F S64x128 .f32))) (row 3 (k0_pay9 k0_pay4 (View.readAt (Elt F) arg14.view (Rect.unit (s := S320x256) (k0_off1 k) S64x128.size (k0_off1_inb k)).toLoadRect X_arg14 : FVec F S64x128 .f32))) (col 3 (View.readAt (Elt F) arg14.view (Rect.unit (s := S320x256) (k0_off2 k) S64x128.size (k0_off2_inb k)).toLoadRect X_arg14 : FVec F S64x128 .f32)) (last 3 (k0_pay8 k0_pay4 (View.readAt (Elt F) arg14.view (Rect.unit (s := S320x256) (k0_off1 k) S64x128.size (k0_off1_inb k)).toLoadRect X_arg14 : FVec F S64x128 .f32))) (View.readAt (Elt F) arg11.view (Rect.unit (s := S320x768) (k0_off9 k) S64x128.size (k0_off9_inb k)).toLoadRect X_arg11) (View.readAt (Elt F) arg12.view (Rect.unit (s := S320x768) (k0_off9 k) S64x128.size (k0_off9_inb k)).toLoadRect X_arg12) (View.readAt (Elt F) arg15.view (Rect.unit (s := S6x128x128) ![3, 0, 0] S1x128x128.size inb_S6x128x128_S1x128x128_3_0_0).toLoadRect f_arg15)⟩,
      ⟨Rect.unit (s := S6x128x128) ![2, 0, 0] S1x128x128.size inb_S6x128x128_S1x128x128_2_0_0, headS (col 2 (k0_pay8 k0_pay4 (View.readAt (Elt F) arg14.view (Rect.unit (s := S320x256) (k0_off1 k) S64x128.size (k0_off1_inb k)).toLoadRect X_arg14 : FVec F S64x128 .f32))) (row 2 (k0_pay9 k0_pay4 (View.readAt (Elt F) arg14.view (Rect.unit (s := S320x256) (k0_off1 k) S64x128.size (k0_off1_inb k)).toLoadRect X_arg14 : FVec F S64x128 .f32))) (col 2 (View.readAt (Elt F) arg14.view (Rect.unit (s := S320x256) (k0_off2 k) S64x128.size (k0_off2_inb k)).toLoadRect X_arg14 : FVec F S64x128 .f32)) (last 2 (k0_pay8 k0_pay4 (View.readAt (Elt F) arg14.view (Rect.unit (s := S320x256) (k0_off1 k) S64x128.size (k0_off1_inb k)).toLoadRect X_arg14 : FVec F S64x128 .f32))) (View.readAt (Elt F) arg11.view (Rect.unit (s := S320x768) (k0_off7 k) S64x128.size (k0_off7_inb k)).toLoadRect X_arg11) (View.readAt (Elt F) arg12.view (Rect.unit (s := S320x768) (k0_off7 k) S64x128.size (k0_off7_inb k)).toLoadRect X_arg12) (View.readAt (Elt F) arg15.view (Rect.unit (s := S6x128x128) ![2, 0, 0] S1x128x128.size inb_S6x128x128_S1x128x128_2_0_0).toLoadRect f_arg15)⟩,
      ⟨Rect.unit (s := S6x128x128) ![1, 0, 0] S1x128x128.size inb_S6x128x128_S1x128x128_1_0_0, headS (col 1 (k0_pay8 k0_pay4 (View.readAt (Elt F) arg14.view (Rect.unit (s := S320x256) (k0_off1 k) S64x128.size (k0_off1_inb k)).toLoadRect X_arg14 : FVec F S64x128 .f32))) (row 1 (k0_pay9 k0_pay4 (View.readAt (Elt F) arg14.view (Rect.unit (s := S320x256) (k0_off1 k) S64x128.size (k0_off1_inb k)).toLoadRect X_arg14 : FVec F S64x128 .f32))) (col 1 (View.readAt (Elt F) arg14.view (Rect.unit (s := S320x256) (k0_off2 k) S64x128.size (k0_off2_inb k)).toLoadRect X_arg14 : FVec F S64x128 .f32)) (last 1 (k0_pay8 k0_pay4 (View.readAt (Elt F) arg14.view (Rect.unit (s := S320x256) (k0_off1 k) S64x128.size (k0_off1_inb k)).toLoadRect X_arg14 : FVec F S64x128 .f32))) (View.readAt (Elt F) arg11.view (Rect.unit (s := S320x768) (k0_off5 k) S64x128.size (k0_off5_inb k)).toLoadRect X_arg11) (View.readAt (Elt F) arg12.view (Rect.unit (s := S320x768) (k0_off5 k) S64x128.size (k0_off5_inb k)).toLoadRect X_arg12) (View.readAt (Elt F) arg15.view (Rect.unit (s := S6x128x128) ![1, 0, 0] S1x128x128.size inb_S6x128x128_S1x128x128_1_0_0).toLoadRect f_arg15)⟩,
      ⟨Rect.unit (s := S6x128x128) ![0, 0, 0] S1x128x128.size inb_S6x128x128_S1x128x128_0_0_0, headS (col 0 (k0_pay8 k0_pay4 (View.readAt (Elt F) arg14.view (Rect.unit (s := S320x256) (k0_off1 k) S64x128.size (k0_off1_inb k)).toLoadRect X_arg14 : FVec F S64x128 .f32))) (row 0 (k0_pay9 k0_pay4 (View.readAt (Elt F) arg14.view (Rect.unit (s := S320x256) (k0_off1 k) S64x128.size (k0_off1_inb k)).toLoadRect X_arg14 : FVec F S64x128 .f32))) (col 0 (View.readAt (Elt F) arg14.view (Rect.unit (s := S320x256) (k0_off2 k) S64x128.size (k0_off2_inb k)).toLoadRect X_arg14 : FVec F S64x128 .f32)) (last 0 (k0_pay8 k0_pay4 (View.readAt (Elt F) arg14.view (Rect.unit (s := S320x256) (k0_off1 k) S64x128.size (k0_off1_inb k)).toLoadRect X_arg14 : FVec F S64x128 .f32))) (View.readAt (Elt F) arg11.view (Rect.unit (s := S320x768) (k0_off3 k) S64x128.size (k0_off3_inb k)).toLoadRect X_arg11) (View.readAt (Elt F) arg12.view (Rect.unit (s := S320x768) (k0_off3 k) S64x128.size (k0_off3_inb k)).toLoadRect X_arg12) (View.readAt (Elt F) arg15.view (Rect.unit (s := S6x128x128) ![0, 0, 0] S1x128x128.size inb_S6x128x128_S1x128x128_0_0_0).toLoadRect f_arg15)⟩] := by
  unfold tripL_k0_t1 trip_k0_t1
  dsimp only
  sl_unfold_run_names
  rfl

/-- The output rows a trip stores. -/
theorem trip_rows (𝒱 : Variants) (c : Dev nD) (bd : Option 𝒱.V) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (v625 : Vec F S1x128 .f32) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t1_loop.trips) (f_arg8 : BufTy.Contents (Elt F) arg8.view.ty) (f_arg15 : BufTy.Contents (Elt F) arg15.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 k f_arg8 f_arg15).1 = [
      ⟨Rect.unit (s := S1x320x768) (k0_off14 k) S1x64x128.size (k0_off14_inb k), headO (col 5 (k0_pay8 k0_pay4 (View.readAt (Elt F) arg14.view (Rect.unit (s := S320x256) (k0_off1 k) S64x128.size (k0_off1_inb k)).toLoadRect X_arg14 : FVec F S64x128 .f32))) (row 5 (k0_pay9 k0_pay4 (View.readAt (Elt F) arg14.view (Rect.unit (s := S320x256) (k0_off1 k) S64x128.size (k0_off1_inb k)).toLoadRect X_arg14 : FVec F S64x128 .f32))) (col 5 (View.readAt (Elt F) arg14.view (Rect.unit (s := S320x256) (k0_off2 k) S64x128.size (k0_off2_inb k)).toLoadRect X_arg14 : FVec F S64x128 .f32)) (View.readAt (Elt F) arg10.view (Rect.unit (s := S320x768) (k0_off13 k) S64x128.size (k0_off13_inb k)).toLoadRect X_arg10) (View.readAt (Elt F) arg11.view (Rect.unit (s := S320x768) (k0_off13 k) S64x128.size (k0_off13_inb k)).toLoadRect X_arg11) (View.readAt (Elt F) arg12.view (Rect.unit (s := S320x768) (k0_off13 k) S64x128.size (k0_off13_inb k)).toLoadRect X_arg12) (View.readAt (Elt F) arg15.view (Rect.unit (s := S6x128x128) ![5, 0, 0] S1x128x128.size inb_S6x128x128_S1x128x128_5_0_0).toLoadRect f_arg15) (k0_pay6 v625) (View.readAt (Elt F) arg13.view (Rect.unit (s := S320x768) (k0_off13 k) S64x128.size (k0_off13_inb k)).toLoadRect X_arg13)⟩,
      ⟨Rect.unit (s := S1x320x768) (k0_off12 k) S1x64x128.size (k0_off12_inb k), headO (col 4 (k0_pay8 k0_pay4 (View.readAt (Elt F) arg14.view (Rect.unit (s := S320x256) (k0_off1 k) S64x128.size (k0_off1_inb k)).toLoadRect X_arg14 : FVec F S64x128 .f32))) (row 4 (k0_pay9 k0_pay4 (View.readAt (Elt F) arg14.view (Rect.unit (s := S320x256) (k0_off1 k) S64x128.size (k0_off1_inb k)).toLoadRect X_arg14 : FVec F S64x128 .f32))) (col 4 (View.readAt (Elt F) arg14.view (Rect.unit (s := S320x256) (k0_off2 k) S64x128.size (k0_off2_inb k)).toLoadRect X_arg14 : FVec F S64x128 .f32)) (View.readAt (Elt F) arg10.view (Rect.unit (s := S320x768) (k0_off11 k) S64x128.size (k0_off11_inb k)).toLoadRect X_arg10) (View.readAt (Elt F) arg11.view (Rect.unit (s := S320x768) (k0_off11 k) S64x128.size (k0_off11_inb k)).toLoadRect X_arg11) (View.readAt (Elt F) arg12.view (Rect.unit (s := S320x768) (k0_off11 k) S64x128.size (k0_off11_inb k)).toLoadRect X_arg12) (View.readAt (Elt F) arg15.view (Rect.unit (s := S6x128x128) ![4, 0, 0] S1x128x128.size inb_S6x128x128_S1x128x128_4_0_0).toLoadRect f_arg15) (k0_pay6 v625) (View.readAt (Elt F) arg13.view (Rect.unit (s := S320x768) (k0_off11 k) S64x128.size (k0_off11_inb k)).toLoadRect X_arg13)⟩,
      ⟨Rect.unit (s := S1x320x768) (k0_off10 k) S1x64x128.size (k0_off10_inb k), headO (col 3 (k0_pay8 k0_pay4 (View.readAt (Elt F) arg14.view (Rect.unit (s := S320x256) (k0_off1 k) S64x128.size (k0_off1_inb k)).toLoadRect X_arg14 : FVec F S64x128 .f32))) (row 3 (k0_pay9 k0_pay4 (View.readAt (Elt F) arg14.view (Rect.unit (s := S320x256) (k0_off1 k) S64x128.size (k0_off1_inb k)).toLoadRect X_arg14 : FVec F S64x128 .f32))) (col 3 (View.readAt (Elt F) arg14.view (Rect.unit (s := S320x256) (k0_off2 k) S64x128.size (k0_off2_inb k)).toLoadRect X_arg14 : FVec F S64x128 .f32)) (View.readAt (Elt F) arg10.view (Rect.unit (s := S320x768) (k0_off9 k) S64x128.size (k0_off9_inb k)).toLoadRect X_arg10) (View.readAt (Elt F) arg11.view (Rect.unit (s := S320x768) (k0_off9 k) S64x128.size (k0_off9_inb k)).toLoadRect X_arg11) (View.readAt (Elt F) arg12.view (Rect.unit (s := S320x768) (k0_off9 k) S64x128.size (k0_off9_inb k)).toLoadRect X_arg12) (View.readAt (Elt F) arg15.view (Rect.unit (s := S6x128x128) ![3, 0, 0] S1x128x128.size inb_S6x128x128_S1x128x128_3_0_0).toLoadRect f_arg15) (k0_pay6 v625) (View.readAt (Elt F) arg13.view (Rect.unit (s := S320x768) (k0_off9 k) S64x128.size (k0_off9_inb k)).toLoadRect X_arg13)⟩,
      ⟨Rect.unit (s := S1x320x768) (k0_off8 k) S1x64x128.size (k0_off8_inb k), headO (col 2 (k0_pay8 k0_pay4 (View.readAt (Elt F) arg14.view (Rect.unit (s := S320x256) (k0_off1 k) S64x128.size (k0_off1_inb k)).toLoadRect X_arg14 : FVec F S64x128 .f32))) (row 2 (k0_pay9 k0_pay4 (View.readAt (Elt F) arg14.view (Rect.unit (s := S320x256) (k0_off1 k) S64x128.size (k0_off1_inb k)).toLoadRect X_arg14 : FVec F S64x128 .f32))) (col 2 (View.readAt (Elt F) arg14.view (Rect.unit (s := S320x256) (k0_off2 k) S64x128.size (k0_off2_inb k)).toLoadRect X_arg14 : FVec F S64x128 .f32)) (View.readAt (Elt F) arg10.view (Rect.unit (s := S320x768) (k0_off7 k) S64x128.size (k0_off7_inb k)).toLoadRect X_arg10) (View.readAt (Elt F) arg11.view (Rect.unit (s := S320x768) (k0_off7 k) S64x128.size (k0_off7_inb k)).toLoadRect X_arg11) (View.readAt (Elt F) arg12.view (Rect.unit (s := S320x768) (k0_off7 k) S64x128.size (k0_off7_inb k)).toLoadRect X_arg12) (View.readAt (Elt F) arg15.view (Rect.unit (s := S6x128x128) ![2, 0, 0] S1x128x128.size inb_S6x128x128_S1x128x128_2_0_0).toLoadRect f_arg15) (k0_pay6 v625) (View.readAt (Elt F) arg13.view (Rect.unit (s := S320x768) (k0_off7 k) S64x128.size (k0_off7_inb k)).toLoadRect X_arg13)⟩,
      ⟨Rect.unit (s := S1x320x768) (k0_off6 k) S1x64x128.size (k0_off6_inb k), headO (col 1 (k0_pay8 k0_pay4 (View.readAt (Elt F) arg14.view (Rect.unit (s := S320x256) (k0_off1 k) S64x128.size (k0_off1_inb k)).toLoadRect X_arg14 : FVec F S64x128 .f32))) (row 1 (k0_pay9 k0_pay4 (View.readAt (Elt F) arg14.view (Rect.unit (s := S320x256) (k0_off1 k) S64x128.size (k0_off1_inb k)).toLoadRect X_arg14 : FVec F S64x128 .f32))) (col 1 (View.readAt (Elt F) arg14.view (Rect.unit (s := S320x256) (k0_off2 k) S64x128.size (k0_off2_inb k)).toLoadRect X_arg14 : FVec F S64x128 .f32)) (View.readAt (Elt F) arg10.view (Rect.unit (s := S320x768) (k0_off5 k) S64x128.size (k0_off5_inb k)).toLoadRect X_arg10) (View.readAt (Elt F) arg11.view (Rect.unit (s := S320x768) (k0_off5 k) S64x128.size (k0_off5_inb k)).toLoadRect X_arg11) (View.readAt (Elt F) arg12.view (Rect.unit (s := S320x768) (k0_off5 k) S64x128.size (k0_off5_inb k)).toLoadRect X_arg12) (View.readAt (Elt F) arg15.view (Rect.unit (s := S6x128x128) ![1, 0, 0] S1x128x128.size inb_S6x128x128_S1x128x128_1_0_0).toLoadRect f_arg15) (k0_pay6 v625) (View.readAt (Elt F) arg13.view (Rect.unit (s := S320x768) (k0_off5 k) S64x128.size (k0_off5_inb k)).toLoadRect X_arg13)⟩,
      ⟨Rect.unit (s := S1x320x768) (k0_off4 k) S1x64x128.size (k0_off4_inb k), headO (col 0 (k0_pay8 k0_pay4 (View.readAt (Elt F) arg14.view (Rect.unit (s := S320x256) (k0_off1 k) S64x128.size (k0_off1_inb k)).toLoadRect X_arg14 : FVec F S64x128 .f32))) (row 0 (k0_pay9 k0_pay4 (View.readAt (Elt F) arg14.view (Rect.unit (s := S320x256) (k0_off1 k) S64x128.size (k0_off1_inb k)).toLoadRect X_arg14 : FVec F S64x128 .f32))) (col 0 (View.readAt (Elt F) arg14.view (Rect.unit (s := S320x256) (k0_off2 k) S64x128.size (k0_off2_inb k)).toLoadRect X_arg14 : FVec F S64x128 .f32)) (View.readAt (Elt F) arg10.view (Rect.unit (s := S320x768) (k0_off3 k) S64x128.size (k0_off3_inb k)).toLoadRect X_arg10) (View.readAt (Elt F) arg11.view (Rect.unit (s := S320x768) (k0_off3 k) S64x128.size (k0_off3_inb k)).toLoadRect X_arg11) (View.readAt (Elt F) arg12.view (Rect.unit (s := S320x768) (k0_off3 k) S64x128.size (k0_off3_inb k)).toLoadRect X_arg12) (View.readAt (Elt F) arg15.view (Rect.unit (s := S6x128x128) ![0, 0, 0] S1x128x128.size inb_S6x128x128_S1x128x128_0_0_0).toLoadRect f_arg15) (k0_pay6 v625) (View.readAt (Elt F) arg13.view (Rect.unit (s := S320x768) (k0_off3 k) S64x128.size (k0_off3_inb k)).toLoadRect X_arg13)⟩] := by
  unfold tripL_k0_t1 trip_k0_t1
  dsimp only
  sl_unfold_run_names
  rfl

end Cert.Delta.K

end
-- ==== Proof.Delta.HeadReal.lean ====
/- One head's work on one chunk, read in real numbers: from reals it makes reals, the state at the chunk's end and
   the chunk's output rows. -/
module

public import proofs.«01_k».proof.Proof.Delta.Head
public import proofs.«01_k».proof.Proof.Delta.Spec
public import Idealize.ShloMosaic.Lib.Pointwise

@[expose] public section

set_option maxRecDepth 16384

noncomputable section

namespace Cert.Delta.K

open Idealize.ShloMosaic Idealize.ShloMosaic.TcCoe Idealize.ShloMosaic.Tactic
open Cert.KernelIdeal Cert.KernelIdeal.Gen

/-- A matrix of extended reals that is the real matrix `f`. -/
def Is {a b : ℕ} (x : (⟨2, ![a, b]⟩ : Shape).Idx → EReal) (f : Fin a → Fin b → ℝ) : Prop :=
  ∀ i j, x (ix2 i j) = (f i j : EReal)

theorem sel_ge {α : Type} (i j : Fin 64) (x y : α) :
    Scalar.select (IntOp.cmpi CmpIPredicate.sge (BitVec.ofNat 32 ↑i) (BitVec.ofNat 32 ↑j)) x y = if j ≤ i then x else y := by
  have h : ∀ i j : Fin 64, IntOp.cmpi CmpIPredicate.sge (BitVec.ofNat 32 ↑i) (BitVec.ofNat 32 ↑j) = if j ≤ i then 1#1 else 0#1 := by
    decide +kernel
  rw [h]; split <;> rfl

theorem sel_gt {α : Type} (i j : Fin 64) (x y : α) :
    Scalar.select (IntOp.cmpi CmpIPredicate.sgt (BitVec.ofNat 32 ↑i) (BitVec.ofNat 32 ↑j)) x y = if j < i then x else y := by
  have h : ∀ i j : Fin 64, IntOp.cmpi CmpIPredicate.sgt (BitVec.ofNat 32 ↑i) (BitVec.ofNat 32 ↑j) = if j < i then 1#1 else 0#1 := by
    decide +kernel
  rw [h]; split <;> rfl

theorem sel_eq {α : Type} (i j : Fin 64) (x y : α) :
    Scalar.select (IntOp.cmpi CmpIPredicate.eq (BitVec.ofNat 32 ↑i) (BitVec.ofNat 32 ↑j)) x y = if i = j then x else y := by
  have h : ∀ i j : Fin 64, IntOp.cmpi CmpIPredicate.eq (BitVec.ofNat 32 ↑i) (BitVec.ofNat 32 ↑j) = if i = j then 1#1 else 0#1 := by
    decide +kernel
  rw [h]; split <;> rfl

/-- The three split products are the product. -/
theorem mm64_is {a b : FVec Ideal S64x64 .f32} {f g : Fin 64 → Fin 64 → ℝ} (ha : Is a f) (hb : Is b g) :
    Is (mm64 a b) (fun i j => ∑ k, f i k * g k j) := by
  intro i j
  pointwise [mm64, hi, lo]
  simp only [ha _ _, hb _ _, ← EReal.coe_sub, sub_self, EReal.coe_zero, mul_zero, zero_mul, Finset.sum_const_zero, add_zero,
    ← EReal.coe_mul, coe_sum]

theorem mm256_is {a : FVec Ideal S64x64 .f32} {b : FVec Ideal S64x256 .f32} {f : Fin 64 → Fin 64 → ℝ}
    {g : Fin 64 → Fin 256 → ℝ} (ha : Is a f) (hb : Is b g) : Is (mm256 a b) (fun i j => ∑ k, f i k * g k j) := by
  intro i j
  pointwise [mm256, hi, lo]
  simp only [ha _ _, hb _ _, ← EReal.coe_sub, sub_self, EReal.coe_zero, mul_zero, zero_mul, Finset.sum_const_zero, add_zero,
    ← EReal.coe_mul, coe_sum]

theorem eye_is : Is (k0_pay5 (F := Ideal)) (fun i j => (1 : Matrix (Fin 64) (Fin 64) ℝ) i j) := by
  intro i j
  pointwise [k0_pay5]
  rw [sel_eq, Matrix.one_apply]; split <;> simp

theorem add_is {a b : FVec Ideal S64x64 .f32} {f g : Fin 64 → Fin 64 → ℝ} (ha : Is a f) (hb : Is b g) :
    Is (addf a b) (fun i j => f i j + g i j) := by
  intro i j
  pointwise []
  rw [ha, hb, EReal.coe_add]

/-- The product form of the inverse. -/
theorem neu_is {x : FVec Ideal S64x64 .f32} {X : Matrix (Fin 64) (Fin 64) ℝ} (hx : Is x X) : Is (neu x) (neumann X) := by
  have step : ∀ {p q : FVec Ideal S64x64 .f32} {P Q : Matrix (Fin 64) (Fin 64) ℝ}, Is p P → Is q Q →
      Is (addf p (mm64 q p)) (P + Q * P) := fun hp hq => add_is hp (mm64_is hq hp)
  have sq : ∀ {q : FVec Ideal S64x64 .f32} {Q : Matrix (Fin 64) (Fin 64) ℝ}, Is q Q → Is (mm64 q q) (Q * Q) :=
    fun hq => mm64_is hq hq
  have h0 : Is (addf k0_pay5 x) ((1 : Matrix (Fin 64) (Fin 64) ℝ) + X : Matrix (Fin 64) (Fin 64) ℝ) := add_is eye_is hx
  exact step (step (step (step (step h0 (sq hx)) (sq (sq hx))) (sq (sq (sq hx)))) (sq (sq (sq (sq hx)))))
    (sq (sq (sq (sq (sq hx)))))

section Head

variable {gcol : FVec Ideal S64x1 .f32} {grow : FVec Ideal S1x64 .f32} {bcol : FVec Ideal S64x1 .f32}
  {glast : FVec Ideal S1x1 .f32} {q k v z : FVec Ideal S64x128 .f32} {S : Vec Ideal S1x128x128 .f32}
  {nw : FVec Ideal S1x128 .f32}

theorem dmask_is {G : Fin 64 → ℝ} (hg : ∀ i, gcol (ix2 i 0) = (G i : EReal)) (hr : ∀ i, grow (ix2 0 i) = (G i : EReal)) :
    Is (dmask gcol grow) (fun i j => if j ≤ i then Real.exp (G i - G j) else 0) := by
  intro i j
  pointwise [dmask, k0_pay2]
  rw [sel_ge, sel_ge, hg, hr, ← EReal.coe_sub]
  by_cases h : j ≤ i
  · rw [if_pos h, if_pos h, if_pos h, Ideal.exp_coe]
  · simp [h]

theorem kbeta_is {B : Fin 64 → ℝ} {K : Fin 64 → Fin 128 → ℝ} (hb : ∀ i, bcol (ix2 i 0) = (B i : EReal)) (hk : Is k K) :
    Is (kbeta bcol k) (fun i e => K i e * B i) := by
  intro i e
  pointwise [kbeta]
  rw [hk, hb, EReal.coe_mul]

theorem negA_is {G B : Fin 64 → ℝ} {K : Fin 64 → Fin 128 → ℝ} (hg : ∀ i, gcol (ix2 i 0) = (G i : EReal))
    (hr : ∀ i, grow (ix2 0 i) = (G i : EReal)) (hb : ∀ i, bcol (ix2 i 0) = (B i : EReal)) (hk : Is k K) :
    Is (negA gcol grow bcol k) (fun i j => -(if j < i then (∑ x, (K i x * B i) * K j x) * Real.exp (G i - G j) else 0)) := by
  intro i j
  have hd := dmask_is hg hr i j
  have hkb := kbeta_is hb hk
  pointwise [negA, k0_pay3]
  rw [sel_gt, hd]
  by_cases h : j < i
  · simp only [if_pos h, if_pos h.le, hkb _ _, hk _ _, ← EReal.coe_mul, ← coe_sum, zero_sub, ← EReal.coe_neg]
  · simp [h]

theorem rhs_is {G B : Fin 64 → ℝ} {K V : Fin 64 → Fin 128 → ℝ} (hg : ∀ i, gcol (ix2 i 0) = (G i : EReal))
    (hb : ∀ i, bcol (ix2 i 0) = (B i : EReal)) (hk : Is k K) (hv : Is v V) :
    Is (rhs gcol bcol k v) (fun i c => if h : c.val < 128 then V i ⟨c.val, h⟩ * B i
      else K i ⟨c.val - 128, by omega⟩ * B i * Real.exp (G i)) := by
  intro i c
  have hkb := kbeta_is hb hk
  pointwise [rhs]
  split
  · rw [hv, hb, ← EReal.coe_mul]
  · rw [hkb, hg, Ideal.exp_coe, ← EReal.coe_mul]

theorem vnew_is {x : FVec Ideal S64x256 .f32} {s : FVec Ideal S128x128 .f32} {X : Fin 64 → Fin 256 → ℝ}
    {Y : Fin 128 → Fin 128 → ℝ} (hx : Is x X) (hs : Is s Y) :
    Is (vnew x s) (fun i e => X i ⟨e.val, by omega⟩ - ∑ d : Fin 128, X i ⟨128 + d.val, by omega⟩ * Y d e) := by
  intro i e
  pointwise [vnew]
  simp only [hx _ _, hs _ _, ← EReal.coe_mul, ← coe_sum, ← EReal.coe_sub]

theorem oread_is {s : FVec Ideal S128x128 .f32} {vn : FVec Ideal S64x128 .f32} {G : Fin 64 → ℝ} {Q K V : Fin 64 → Fin 128 → ℝ}
    {Y : Fin 128 → Fin 128 → ℝ} (hg : ∀ i, gcol (ix2 i 0) = (G i : EReal)) (hr : ∀ i, grow (ix2 0 i) = (G i : EReal))
    (hq : Is q Q) (hk : Is k K) (hs : Is s Y) (hv : Is vn V) :
    Is (oread gcol grow q k s vn) (fun i e => (∑ d, (Q i d * scale * Real.exp (G i)) * Y d e)
      + ∑ j, ((∑ x, (Q i x * scale) * K j x) * (if j ≤ i then Real.exp (G i - G j) else 0)) * V j e) := by
  intro i e
  have hd := dmask_is hg hr
  pointwise [oread]
  simp only [hd _ _, hq _ _, hk _ _, hs _ _, hv _ _, hg _, Ideal.exp_coe, ofBits_scale, ← EReal.coe_mul, ← coe_sum, ← EReal.coe_add]

theorem snext_is {s : FVec Ideal S128x128 .f32} {vn : FVec Ideal S64x128 .f32} {G : Fin 64 → ℝ} {L : ℝ} {K V : Fin 64 → Fin 128 → ℝ}
    {Y : Fin 128 → Fin 128 → ℝ} (hg : ∀ i, gcol (ix2 i 0) = (G i : EReal)) (hl : glast (ix2 0 0) = (L : EReal))
    (hk : Is k K) (hs : Is s Y) (hv : Is vn V) :
    Is (snext gcol glast k s vn) (fun d e => Y d e * Real.exp L + ∑ j, (K j d * Real.exp (L - G j)) * V j e) := by
  intro d e
  pointwise [snext]
  simp only [hk _ _, hs _ _, hv _ _, hg _, hl, ← EReal.coe_sub, Ideal.exp_coe, ← EReal.coe_mul, ← coe_sum, ← EReal.coe_add]

theorem gated_is {o : FVec Ideal S64x128 .f32} {O Z : Fin 64 → Fin 128 → ℝ} {N : Fin 128 → ℝ}
    (ho : Is o O) (hn : ∀ e, nw (ix2 0 e) = (N e : EReal)) (hz : Is z Z) :
    Is (gated o nw z) (fun i => gate N (Z i) (O i)) := by
  intro i e
  have hp : 0 < (∑ x, O i x * O i x) / 128 + eps :=
    add_pos_of_nonneg_of_pos (div_nonneg (Finset.sum_nonneg fun x _ => mul_self_nonneg _) (by norm_num)) eps_pos
  pointwise [gated]
  simp only [ho _ _, hn _, hz _ _, ofBits_eps, ofBits_128, ← EReal.coe_mul, ← coe_sum, div_real (show (128 : ℝ) ≠ 0 by norm_num),
    ← EReal.coe_add, rsqrt_pos hp, logistic_real]
  rfl

/-- The chunk's rows in reals. -/
def vrows (g β : ℕ → ℝ) (kk vv : ℕ → Fin 128 → ℝ) (p : ℕ) (i : Fin 64) (e : Fin 128) : ℝ :=
  let T := neumann (Matrix.of fun i j : Fin 64 => -(if j < i then (∑ x, (kk (p + i) x * β (p + i)) * kk (p + j) x)
      * Real.exp (cum g p (i + 1) - cum g p (j + 1)) else 0))
  (∑ j, T i j * (vv (p + j) e * β (p + j)))
      - ∑ d, (∑ j, T i j * (kk (p + j) d * β (p + j) * Real.exp (cum g p (j + 1)))) * St g β kk vv p d e

theorem vrows_solves (g β : ℕ → ℝ) (kk vv : ℕ → Fin 128 → ℝ) (p : ℕ) :
    Solves g β kk vv p (fun i e => if h : i < 64 then vrows g β kk vv p ⟨i, h⟩ e else 0) := by
  refine solves_of_matrix g β kk vv p (Matrix.of fun i j : Fin 64 => if j < i then (∑ x, (kk (p + i) x * β (p + i)) * kk (p + j) x)
      * Real.exp (cum g p (i + 1) - cum g p (j + 1)) else 0) (fun i j => rfl) _ (fun i e => rfl)

variable {g β : ℕ → ℝ} {kk vv qq : ℕ → Fin 128 → ℝ} {p : ℕ}

theorem chunk_vnew (hg : ∀ i, gcol (ix2 i 0) = (cum g p (i.val + 1) : EReal)) (hr : ∀ i, grow (ix2 0 i) = (cum g p (i.val + 1) : EReal))
    (hb : ∀ i, bcol (ix2 i 0) = (β (p + i.val) : EReal)) (hk : Is k fun i => kk (p + i)) (hv : Is v fun i => vv (p + i))
    (hS : ∀ d e, S (ix3 0 d e) = (St g β kk vv p d e : EReal)) :
    Is (mat S) (St g β kk vv p) ∧ Is (vnew (sol gcol grow bcol k v) (mat S)) (vrows g β kk vv p) := by
  have hm : Is (mat S) (St g β kk vv p) := fun d e => by pointwise [mat]; exact hS d e
  refine ⟨hm, ?_⟩
  have hsol := mm256_is (neu_is (negA_is hg hr hb hk)) (rhs_is hg hb hk hv)
  intro i e
  refine (vnew_is hsol hm i e).trans ?_
  congr 1
  unfold vrows
  simp only [e.isLt, dif_pos, Fin.eta]
  refine congrArg₂ (· - ·) rfl (Finset.sum_congr rfl fun d _ => congrArg (· * _) (Finset.sum_congr rfl fun j _ => ?_))
  rw [dif_neg (by omega)]
  simp only [Nat.add_sub_cancel_left, Fin.eta]
  rfl

/-- The state a head stores. -/
theorem headS_real (hg : ∀ i, gcol (ix2 i 0) = (cum g p (i.val + 1) : EReal)) (hr : ∀ i, grow (ix2 0 i) = (cum g p (i.val + 1) : EReal))
    (hl : glast (ix2 0 0) = (cum g p 64 : EReal))
    (hb : ∀ i, bcol (ix2 i 0) = (β (p + i.val) : EReal)) (hk : Is k fun i => kk (p + i)) (hv : Is v fun i => vv (p + i))
    (hS : ∀ d e, S (ix3 0 d e) = (St g β kk vv p d e : EReal)) (d e : Fin 128) :
    headS gcol grow bcol glast k v S (ix3 0 d e) = (St g β kk vv (p + 64) d e : EReal) := by
  obtain ⟨hm, hvn⟩ := chunk_vnew hg hr hb hk hv hS
  have h := snext_is hg hl hk hm hvn d e
  pointwise [headS]
  rw [h, St_end g β kk vv p _ (vrows_solves g β kk vv p)]

/-- The rows a head stores. -/
theorem headO_real {N : Fin 128 → ℝ} {zz : ℕ → Fin 128 → ℝ} (hg : ∀ i, gcol (ix2 i 0) = (cum g p (i.val + 1) : EReal))
    (hr : ∀ i, grow (ix2 0 i) = (cum g p (i.val + 1) : EReal))
    (hb : ∀ i, bcol (ix2 i 0) = (β (p + i.val) : EReal)) (hq : Is q fun i => qq (p + i)) (hk : Is k fun i => kk (p + i))
    (hv : Is v fun i => vv (p + i)) (hz : Is z fun i => zz (p + i)) (hn : ∀ e, nw (ix2 0 e) = (N e : EReal))
    (hS : ∀ d e, S (ix3 0 d e) = (St g β kk vv p d e : EReal)) (i : Fin 64) (e : Fin 128) :
    headO gcol grow bcol q k v S nw z (ix3 0 i e)
      = (gate N (zz (p + i)) (fun e => ∑ d, (qq (p + i) d * scale) * St g β kk vv (p + i + 1) d e) e : EReal) := by
  obtain ⟨hm, hvn⟩ := chunk_vnew hg hr hb hk hv hS
  have ho : Is (oread gcol grow q k (mat S) (vnew (sol gcol grow bcol k v) (mat S)))
      (fun i e => ∑ d, (qq (p + i) d * scale) * St g β kk vv (p + i + 1) d e) := fun i e => by
    rw [oread_is hg hr hq hk hm hvn i e]
    congr 1
    exact read_chunk g β kk vv p _ (vrows_solves g β kk vv p) (fun d => qq (p + i) d * scale) i e
  have h := gated_is ho hn hz i e
  pointwise [headO]
  exact h

end Head

end Cert.Delta.K

end
-- ==== Proof.Delta.Loop.lean ====
/- The chunk loop: after `n` trips the states are the recurrence's after `64 n` more tokens, and the rows written are
   the mixer's. -/
module

public import proofs.«01_k».proof.Proof.Delta.Trip
public import proofs.«01_k».proof.Proof.Delta.HeadReal
public import Idealize.ShloMosaic.Lib.Ring

@[expose] public section

set_option maxRecDepth 16384

noncomputable section

namespace Cert.Delta.K

open Idealize.ShloMosaic Idealize.ShloMosaic.TcCoe Idealize.ShloMosaic.Tactic Idealize.ShloMosaic.Pointwise
open Cert.KernelIdeal Cert.KernelIdeal.Gen

/-! ### Reads -/

/-- A load at a unit-stride rectangle reads the view at the offsets plus the place. -/
theorem read_unit {sig : RefSig} {κ : Kind} {sp : Space} {s : Shape} {e : EltTy} {Val : EltTy → Type} (v : View sig κ sp s e)
    (f : v.ty.Contents Val) {off size : Fin s.rank → ℕ} (inb : ∀ a, off a + size a ≤ s.size a)
    (x : (Rect.unit off size inb).shape.Idx) (y : s.Idx) (hy : ∀ a, (y a).val = off a + (x a).val) :
    v.readAt Val (Rect.unit off size inb).toLoadRect f x = v.read Val f y :=
  congrArg (v.read Val f) (funext fun a => Fin.ext (by
    show off a + 1 * (x a).val = (y a).val
    rw [hy a, Nat.one_mul]))

/-- A 320-row block whose six lane tiles hold the rows `f` from token `p0` on. -/
def Rows (x : S320x768.Idx → EReal) (f : Fin 6 → ℕ → Fin 128 → ℝ) (p0 : ℕ) : Prop :=
  ∀ (r : Fin 320) (hd : Fin 6) (d : Fin 128), x (ix2 r ⟨128 * hd.val + d.val, by omega⟩) = (f hd (p0 + r.val) d : EReal)

theorem trips_lt (k : Fin k0_t1_loop.trips) : k.val < 5 := k.isLt

/-- A chunk's load of one head's lane tile. -/
theorem rows_chunk {sig : RefSig} {κ : Kind} {sp : Space} (v : View sig κ sp S320x768 .f32) (X : v.ty.Contents (Elt Ideal))
    {f : Fin 6 → ℕ → Fin 128 → ℝ} {p0 : ℕ} (h : Rows (v.read (Elt Ideal) X) f p0) (hd : Fin 6) (k : Fin k0_t1_loop.trips)
    {off : Fin 2 → ℕ} (inb : ∀ a : Fin 2, off a + S64x128.size a ≤ S320x768.size a) (ho : off = ![64 * k.val, 128 * hd.val]) :
    Is (v.readAt (Elt Ideal) (Rect.unit (s := S320x768) off S64x128.size inb).toLoadRect X) (fun i => f hd (p0 + 64 * k.val + i)) := by
  intro i d
  have hk := trips_lt k
  refine (read_unit v X inb (ix2 i d) (ix2 ⟨64 * k.val + i.val, by omega⟩ ⟨128 * hd.val + d.val, by omega⟩) ?_).trans ?_
  · subst ho
    intro a
    match a with
    | ⟨0, _⟩ => rfl
    | ⟨1, _⟩ => rfl
  · rw [h ⟨64 * k.val + i.val, by omega⟩ hd d, ← Nat.add_assoc]

theorem lane_chunk {sig : RefSig} {κ : Kind} {sp : Space} (v : View sig κ sp S320x256 .f32) (X : v.ty.Contents (Elt Ideal))
    {f : ℕ → ℝ} {p0 : ℕ} (o : ℕ) (l : Fin 128) (ho2 : o + l.val < 256)
    (h : ∀ r : Fin 320, v.read (Elt Ideal) X (ix2 r ⟨o + l.val, ho2⟩) = (f (p0 + r.val) : EReal)) (k : Fin k0_t1_loop.trips)
    {off : Fin 2 → ℕ} (inb : ∀ a : Fin 2, off a + S64x128.size a ≤ S320x256.size a) (ho : off = ![64 * k.val, o]) (i : Fin 64) :
    v.readAt (Elt Ideal) (Rect.unit (s := S320x256) off S64x128.size inb).toLoadRect X (ix2 i l)
      = (f (p0 + 64 * k.val + i) : EReal) := by
  have hk := trips_lt k
  refine (read_unit v X inb (ix2 i l) (ix2 ⟨64 * k.val + i.val, by omega⟩ ⟨o + l.val, ho2⟩) ?_).trans ?_
  · subst ho
    intro a
    match a with
    | ⟨0, _⟩ => rfl
    | ⟨1, _⟩ => rfl
  · rw [h ⟨64 * k.val + i.val, by omega⟩, ← Nat.add_assoc]

/-! ### The cumulative decays -/

/-- The lower-triangular product sums a lane's rows up to and including each. -/
theorem cum_lane {G : FVec Ideal S64x128 .f32} {g : ℕ → ℝ} {p : ℕ} (l : Fin 128)
    (h : ∀ j : Fin 64, G (ix2 j l) = (g (p + j.val) : EReal)) (i : Fin 64) :
    k0_pay8 (F := Ideal) k0_pay4 G (ix2 i l) = (cum g p (i.val + 1) : EReal) := by
  pointwise [k0_pay8, k0_pay4, k0_pay2]
  simp only [sel_ge, h, ← EReal.coe_sub, sub_self, EReal.coe_zero, mul_zero, Finset.sum_const_zero, add_zero]
  have : ∀ j : Fin 64, (if j ≤ i then (g (p + j.val) : EReal) else 0)
      = ((if j.val < i.val + 1 then g (p + j.val) else 0 : ℝ) : EReal) := fun j => by
    by_cases hj : j ≤ i
    · rw [if_pos hj, if_pos (Nat.lt_succ_of_le hj)]
    · rw [if_neg hj, if_neg (fun hh => hj (Nat.le_of_lt_succ hh)), EReal.coe_zero]
  simp only [this, sub_zero, ite_self, Finset.sum_const_zero, add_zero, ← coe_sum]
  congr 1
  unfold cum
  rw [Fin.sum_univ_eq_sum_range (fun j => if j < i.val + 1 then g (p + j) else 0) 64, ← Finset.sum_filter]
  congr 1
  ext j
  simp only [Finset.mem_filter, Finset.mem_range]
  omega

theorem col_at (h : Fin 6) (x : FVec Ideal S64x128 .f32) (i : Fin 64) : col h x (ix2 i 0) = x (ix2 i ⟨h.val, by omega⟩) := by
  unfold col extractStridedSlice
  congr 1
  funext a
  match a with
  | ⟨0, _⟩ => exact Fin.ext (by simp [Fin.val_add] <;> rfl)
  | ⟨1, _⟩ => exact Fin.ext (by simp [Fin.val_add] <;> rfl)

theorem row_at (h : Fin 6) (x : FVec Ideal S128x64 .f32) (i : Fin 64) : row h x (ix2 0 i) = x (ix2 ⟨h.val, by omega⟩ i) := by
  unfold row extractStridedSlice
  congr 1
  funext a
  match a with
  | ⟨0, _⟩ => exact Fin.ext (by simp [Fin.val_add] <;> rfl)
  | ⟨1, _⟩ => exact Fin.ext (by simp [Fin.val_add] <;> rfl)

theorem last_at (h : Fin 6) (x : FVec Ideal S64x128 .f32) : last h x (ix2 0 0) = x (ix2 63 ⟨h.val, by omega⟩) := by
  unfold last extractStridedSlice
  congr 1
  funext a
  match a with
  | ⟨0, _⟩ => exact Fin.ext (by simp [Fin.val_add] <;> rfl)
  | ⟨1, _⟩ => exact Fin.ext (by simp [Fin.val_add] <;> rfl)

theorem pay9_at (G : FVec Ideal S64x128 .f32) (l : Fin 128) (i : Fin 64) :
    k0_pay9 (F := Ideal) k0_pay4 G (ix2 l i) = k0_pay8 (F := Ideal) k0_pay4 G (ix2 i l) := by
  pointwise [k0_pay9]

/-! ### One head of one trip -/

section Piece

variable {sg : RefSig} {v10 v11 v12 v13 : View sg .tc .vmem S320x768 .f32} {v14 : View sg .tc .vmem S320x256 .f32}
  {v15 : View sg .tc .vmem S6x128x128 .f32}
  {X10 : v10.ty.Contents (Elt Ideal)} {X11 : v11.ty.Contents (Elt Ideal)} {X12 : v12.ty.Contents (Elt Ideal)}
  {X13 : v13.ty.Contents (Elt Ideal)} {X14 : v14.ty.Contents (Elt Ideal)} {f15 : v15.ty.Contents (Elt Ideal)}
  {gg bb : Fin 6 → ℕ → ℝ} {qq kk vv zz : Fin 6 → ℕ → Fin 128 → ℝ} {N : Fin 128 → ℝ} {p0 : ℕ}

/-- Lane `hd` of the first 128 holds the log decays `gg`, lane `128 + hd` the write strengths `bb`. -/
def Lanes (x : S320x256.Idx → EReal) (gg bb : Fin 6 → ℕ → ℝ) (p0 : ℕ) : Prop :=
  ∀ (r : Fin 320) (hd : Fin 6), x (ix2 r ⟨0 + hd.val, by omega⟩) = (gg hd (p0 + r.val) : EReal)
    ∧ x (ix2 r ⟨128 + hd.val, by omega⟩) = (bb hd (p0 + r.val) : EReal)

/-- The six states are the recurrence's before token `p`. -/
def States (x : S6x128x128.Idx → EReal) (gg bb : Fin 6 → ℕ → ℝ) (kk vv : Fin 6 → ℕ → Fin 128 → ℝ) (p : ℕ) : Prop :=
  ∀ (hd : Fin 6) (d e : Fin 128), x (ix3 hd d e) = (St (gg hd) (bb hd) (kk hd) (vv hd) p d e : EReal)

variable (k : Fin k0_t1_loop.trips)
  (inb1 : ∀ a : Fin 2, k0_off1 k a + S64x128.size a ≤ S320x256.size a)
  (inb2 : ∀ a : Fin 2, k0_off2 k a + S64x128.size a ≤ S320x256.size a)

theorem state_chunk (h : States (v15.read (Elt Ideal) f15) gg bb kk vv p0) (hd : Fin 6) {off : Fin 3 → ℕ}
    (inb : ∀ a : Fin 3, off a + S1x128x128.size a ≤ S6x128x128.size a) (ho : off = ![hd.val, 0, 0]) (d e : Fin 128) :
    v15.readAt (Elt Ideal) (Rect.unit (s := S6x128x128) off S1x128x128.size inb).toLoadRect f15 (ix3 0 d e)
      = (St (gg hd) (bb hd) (kk hd) (vv hd) p0 d e : EReal) := by
  refine (read_unit v15 f15 inb (ix3 0 d e) (ix3 hd d e) ?_).trans (h hd d e)
  subst ho
  intro a
  match a with
  | ⟨0, _⟩ => rfl
  | ⟨1, _⟩ => exact (Nat.zero_add _).symm
  | ⟨2, _⟩ => exact (Nat.zero_add _).symm

theorem g_chunk (h : Lanes (v14.read (Elt Ideal) X14) gg bb p0) (hd : Fin 6) (i : Fin 64) :
    k0_pay8 (F := Ideal) k0_pay4 (v14.readAt (Elt Ideal) (Rect.unit (s := S320x256) (k0_off1 k) S64x128.size inb1).toLoadRect X14)
      (ix2 i ⟨hd.val, by omega⟩) = (cum (gg hd) (p0 + 64 * k.val) (i.val + 1) : EReal) :=
  cum_lane _ (fun j => lane_chunk v14 X14 (f := gg hd) 0 ⟨hd.val, by omega⟩ (by show 0 + hd.val < 256; omega)
    (fun r => (h r hd).1) k inb1 (k0_off1_eq k) j) i

theorem b_chunk (h : Lanes (v14.read (Elt Ideal) X14) gg bb p0) (hd : Fin 6) (i : Fin 64) :
    v14.readAt (Elt Ideal) (Rect.unit (s := S320x256) (k0_off2 k) S64x128.size inb2).toLoadRect X14
      (ix2 i ⟨hd.val, by omega⟩) = (bb hd (p0 + 64 * k.val + i.val) : EReal) :=
  lane_chunk v14 X14 (f := bb hd) 128 ⟨hd.val, by omega⟩ (by show 128 + hd.val < 256; omega)
    (fun r => (h r hd).2) k inb2 (k0_off2_eq k) i

variable (hk : Rows (v11.read (Elt Ideal) X11) kk p0) (hv : Rows (v12.read (Elt Ideal) X12) vv p0)
  (hgb : Lanes (v14.read (Elt Ideal) X14) gg bb p0)
  (hS : States (v15.read (Elt Ideal) f15) gg bb kk vv (p0 + 64 * k.val)) (hd : Fin 6)
  {off : Fin 2 → ℕ} (inb : ∀ a : Fin 2, off a + S64x128.size a ≤ S320x768.size a) (ho : off = ![64 * k.val, 128 * hd.val])
  {offS : Fin 3 → ℕ} (inbS : ∀ a : Fin 3, offS a + S1x128x128.size a ≤ S6x128x128.size a) (hoS : offS = ![hd.val, 0, 0])

include hk hv hgb hS ho hoS in
/-- The state a head stores in a trip. -/
theorem pieceS (d e : Fin 128) :
    headS (col hd (k0_pay8 (F := Ideal) k0_pay4 (v14.readAt (Elt Ideal) (Rect.unit (s := S320x256) (k0_off1 k) S64x128.size inb1).toLoadRect X14)))
      (row hd (k0_pay9 (F := Ideal) k0_pay4 (v14.readAt (Elt Ideal) (Rect.unit (s := S320x256) (k0_off1 k) S64x128.size inb1).toLoadRect X14)))
      (col hd (v14.readAt (Elt Ideal) (Rect.unit (s := S320x256) (k0_off2 k) S64x128.size inb2).toLoadRect X14))
      (last hd (k0_pay8 (F := Ideal) k0_pay4 (v14.readAt (Elt Ideal) (Rect.unit (s := S320x256) (k0_off1 k) S64x128.size inb1).toLoadRect X14)))
      (v11.readAt (Elt Ideal) (Rect.unit (s := S320x768) off S64x128.size inb).toLoadRect X11)
      (v12.readAt (Elt Ideal) (Rect.unit (s := S320x768) off S64x128.size inb).toLoadRect X12)
      (v15.readAt (Elt Ideal) (Rect.unit (s := S6x128x128) offS S1x128x128.size inbS).toLoadRect f15) (ix3 0 d e)
    = (St (gg hd) (bb hd) (kk hd) (vv hd) (p0 + 64 * (k.val + 1)) d e : EReal) :=
  headS_real (g := gg hd) (β := bb hd) (kk := kk hd) (vv := vv hd) (p := p0 + 64 * k.val)
    (fun i => (col_at hd _ i).trans (g_chunk k inb1 hgb hd i))
    (fun i => (row_at hd _ i).trans ((pay9_at _ _ i).trans (g_chunk k inb1 hgb hd i)))
    ((last_at hd _).trans (g_chunk k inb1 hgb hd 63))
    (fun i => (col_at hd _ i).trans (b_chunk k inb2 hgb hd i))
    (rows_chunk v11 X11 hk hd k inb ho) (rows_chunk v12 X12 hv hd k inb ho)
    (fun d e => state_chunk hS hd inbS hoS d e) d e

/-- The mixer's row, from the recurrence's state after the token. -/
def rowOut (gg bb : Fin 6 → ℕ → ℝ) (qq kk vv zz : Fin 6 → ℕ → Fin 128 → ℝ) (N : Fin 128 → ℝ) (hd : Fin 6) (p : ℕ) :
    Fin 128 → ℝ :=
  gate N (zz hd p) (fun e => ∑ d, (qq hd p d * scale) * St (gg hd) (bb hd) (kk hd) (vv hd) (p + 1) d e)

include hk hv hgb hS ho hoS in
/-- The rows a head stores in a trip. -/
theorem pieceO (hq : Rows (v10.read (Elt Ideal) X10) qq p0) (hz : Rows (v13.read (Elt Ideal) X13) zz p0)
    {nw : FVec Ideal S1x128 .f32} (hn : ∀ e, nw (ix2 0 e) = (N e : EReal)) (i : Fin 64) (e : Fin 128) :
    headO (col hd (k0_pay8 (F := Ideal) k0_pay4 (v14.readAt (Elt Ideal) (Rect.unit (s := S320x256) (k0_off1 k) S64x128.size inb1).toLoadRect X14)))
      (row hd (k0_pay9 (F := Ideal) k0_pay4 (v14.readAt (Elt Ideal) (Rect.unit (s := S320x256) (k0_off1 k) S64x128.size inb1).toLoadRect X14)))
      (col hd (v14.readAt (Elt Ideal) (Rect.unit (s := S320x256) (k0_off2 k) S64x128.size inb2).toLoadRect X14))
      (v10.readAt (Elt Ideal) (Rect.unit (s := S320x768) off S64x128.size inb).toLoadRect X10)
      (v11.readAt (Elt Ideal) (Rect.unit (s := S320x768) off S64x128.size inb).toLoadRect X11)
      (v12.readAt (Elt Ideal) (Rect.unit (s := S320x768) off S64x128.size inb).toLoadRect X12)
      (v15.readAt (Elt Ideal) (Rect.unit (s := S6x128x128) offS S1x128x128.size inbS).toLoadRect f15) nw
      (v13.readAt (Elt Ideal) (Rect.unit (s := S320x768) off S64x128.size inb).toLoadRect X13) (ix3 0 i e)
    = (rowOut gg bb qq kk vv zz N hd (p0 + (64 * k.val + i.val)) e : EReal) := by
  rw [← Nat.add_assoc]
  exact headO_real (g := gg hd) (β := bb hd) (kk := kk hd) (vv := vv hd) (p := p0 + 64 * k.val)
    (fun i => (col_at hd _ i).trans (g_chunk k inb1 hgb hd i))
    (fun i => (row_at hd _ i).trans ((pay9_at _ _ i).trans (g_chunk k inb1 hgb hd i)))
    (fun i => (col_at hd _ i).trans (b_chunk k inb2 hgb hd i))
    (rows_chunk v10 X10 hq hd k inb ho) (rows_chunk v11 X11 hk hd k inb ho) (rows_chunk v12 X12 hv hd k inb ho)
    (rows_chunk v13 X13 hz hd k inb ho) hn (fun d e => state_chunk hS hd inbS hoS d e) i e

end Piece

/-! ### The trips -/

/-- What a block of 320 rows holds once the trips have run: each head's mixer rows. -/
def tileOut (gg bb : Fin 6 → ℕ → ℝ) (qq kk vv zz : Fin 6 → ℕ → Fin 128 → ℝ) (N : Fin 128 → ℝ) (p0 : ℕ) (y : S1x320x768.Idx) : EReal :=
  (rowOut gg bb qq kk vv zz N ⟨(y 2).val / 128, by have : (y 2).val < 768 := (y 2).isLt; omega⟩ (p0 + (y 1).val)
    ⟨(y 2).val % 128, Nat.mod_lt _ (by norm_num)⟩ : EReal)

/-- A piece of the output at rows `64 k` and head `hd` that holds the mixer's rows agrees with `tileOut`. -/
theorem tileOut_piece {gg bb : Fin 6 → ℕ → ℝ} {qq kk vv zz : Fin 6 → ℕ → Fin 128 → ℝ} {N : Fin 128 → ℝ} {p0 : ℕ}
    (k : ℕ) (hd : Fin 6) {off : Fin 3 → ℕ} (inb : ∀ a : Fin 3, off a + S1x64x128.size a ≤ S1x320x768.size a)
    (ho : off = ![0, 64 * k, 128 * hd.val]) (w : S1x64x128.Idx → EReal)
    (hw : ∀ (i : Fin 64) (e : Fin 128), w (ix3 0 i e) = (rowOut gg bb qq kk vv zz N hd (p0 + (64 * k + i.val)) e : EReal))
    (x : S1x64x128.Idx) :
    w x = tileOut gg bb qq kk vv zz N p0 ((Rect.unit (s := S1x320x768) off S1x64x128.size inb).emb x) := by
  subst ho
  have hx : x = ix3 0 (x 1) (x 2) := by
    funext a
    match a with
    | ⟨0, _⟩ => exact Fin.ext (by have : (x 0).val < 1 := (x 0).isLt; show (x 0).val = 0; omega)
    | ⟨1, _⟩ => rfl
    | ⟨2, _⟩ => rfl
  have h2 : (x 2).val < 128 := (x 2).isLt
  refine (congrArg w hx).trans ((hw (x 1) (x 2)).trans ?_)
  unfold tileOut
  have e1 : (((Rect.unit (s := S1x320x768) ![0, 64 * k, 128 * hd.val] S1x64x128.size inb).emb x) 1).val = 64 * k + (x 1).val := by
    show 64 * k + 1 * (x 1).val = _; omega
  have e2 : (((Rect.unit (s := S1x320x768) ![0, 64 * k, 128 * hd.val] S1x64x128.size inb).emb x) 2).val = 128 * hd.val + (x 2).val := by
    show 128 * hd.val + 1 * (x 2).val = _; omega
  congr 2
  · exact Fin.ext (by show hd.val = _ / 128; rw [e2]; omega)
  · rw [e1]
  · exact Fin.ext (by show (x 2).val = _ % 128; rw [e2]; omega)

/-- A stored state that is the recurrence's agrees with the six states. -/
theorem state_piece (f : Fin 6 → Fin 128 → Fin 128 → EReal) (hd : Fin 6) {off : Fin 3 → ℕ}
    (inb : ∀ a : Fin 3, off a + S1x128x128.size a ≤ S6x128x128.size a)
    (ho : off = ![hd.val, 0, 0]) (w : S1x128x128.Idx → EReal)
    (hw : ∀ (d e : Fin 128), w (ix3 0 d e) = f hd d e) (x : S1x128x128.Idx) :
    w x = (fun y : S6x128x128.Idx => f (y 0) (y 1) (y 2)) ((Rect.unit (s := S6x128x128) off S1x128x128.size inb).emb x) := by
  subst ho
  have h0 : (x 0).val < 1 := (x 0).isLt
  have hx : x = ix3 0 (x 1) (x 2) := by
    funext a
    match a with
    | ⟨0, _⟩ => exact Fin.ext (by show (x 0).val = 0; omega)
    | ⟨1, _⟩ => rfl
    | ⟨2, _⟩ => rfl
  refine (congrArg w hx).trans ((hw (x 1) (x 2)).trans ?_)
  exact congr (congr (congrArg f (Fin.ext (by show hd.val = hd.val + 1 * (x 0).val; omega)))
    (Fin.ext (by show (x 1).val = 0 + 1 * (x 1).val; omega))) (Fin.ext (by show (x 2).val = 0 + 1 * (x 2).val; omega))

/-- The six heads' states cover the state buffer. -/
theorem state_cover (w5 w4 w3 w2 w1 w0 : S1x128x128.Idx → EReal) (y : S6x128x128.Idx) :
    ∃ p ∈ ([⟨Rect.unit (s := S6x128x128) ![5, 0, 0] S1x128x128.size inb_S6x128x128_S1x128x128_5_0_0, w5⟩,
      ⟨Rect.unit (s := S6x128x128) ![4, 0, 0] S1x128x128.size inb_S6x128x128_S1x128x128_4_0_0, w4⟩,
      ⟨Rect.unit (s := S6x128x128) ![3, 0, 0] S1x128x128.size inb_S6x128x128_S1x128x128_3_0_0, w3⟩,
      ⟨Rect.unit (s := S6x128x128) ![2, 0, 0] S1x128x128.size inb_S6x128x128_S1x128x128_2_0_0, w2⟩,
      ⟨Rect.unit (s := S6x128x128) ![1, 0, 0] S1x128x128.size inb_S6x128x128_S1x128x128_1_0_0, w1⟩,
      ⟨Rect.unit (s := S6x128x128) ![0, 0, 0] S1x128x128.size inb_S6x128x128_S1x128x128_0_0_0, w0⟩] : List (View.Piece (Elt Ideal) S6x128x128 .f32)), y ∈ p.1.set :=
  View.cover_of_tiledL (s := S6x128x128) _ S1x128x128.size (by sl_kernel_rfl) y

/-- After `n` trips: the states, and every row written so far. -/
theorem trips_spec (𝒱 : Variants) (c : Dev nD) (bd : Option 𝒱.V) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (v625 : Vec Ideal S1x128 .f32) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (G_arg8 : BufTy.Contents (Elt Ideal) arg8.view.ty) (G_arg15 : BufTy.Contents (Elt Ideal) arg15.view.ty)
    {gg bb : Fin 6 → ℕ → ℝ} {qq kk vv zz : Fin 6 → ℕ → Fin 128 → ℝ} {N : Fin 128 → ℝ} {p0 : ℕ}
    (hq : Rows (arg10.view.read (Elt Ideal) X_arg10) qq p0) (hk : Rows (arg11.view.read (Elt Ideal) X_arg11) kk p0)
    (hv : Rows (arg12.view.read (Elt Ideal) X_arg12) vv p0) (hz : Rows (arg13.view.read (Elt Ideal) X_arg13) zz p0)
    (hgb : Lanes (arg14.view.read (Elt Ideal) X_arg14) gg bb p0)
    (hN : ∀ e, v625 (ix2 0 e) = (N e : EReal))
    (hS : States (arg15.view.read (Elt Ideal) G_arg15) gg bb kk vv p0) (n : ℕ) (hn : n ≤ 5) :
    States (arg15.view.read (Elt Ideal) (arg15.view.writes (Elt Ideal) G_arg15
      (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 G_arg8 G_arg15 n).2)) gg bb kk vv (p0 + 64 * n)
    ∧ ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 G_arg8 G_arg15 n).1, ∀ x,
        p.2 x = tileOut gg bb qq kk vv zz N p0 (p.1.emb x) := by
  induction n with
  | zero => exact ⟨hS, fun p hp => absurd hp List.not_mem_nil⟩
  | succ n ih =>
    obtain ⟨ihS, ihO⟩ := ih (Nat.le_of_succ_le hn)
    have hnw : ∀ e, k0_pay6 v625 (ix2 0 e) = (N e : EReal) := fun e => by pointwise [k0_pay6]; exact hN e
    have hsucc := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 G_arg8 G_arg15 ⟨n, (by show n < 5; omega)⟩
    rw [show n + 1 = (⟨n, (by show n < 5; omega)⟩ : Fin k0_t1_loop.trips).val + 1 from rfl, hsucc]
    generalize hkk : (⟨n, (by show n < 5; omega)⟩ : Fin k0_t1_loop.trips) = k
    have hkn : k.val = n := by rw [← hkk]
    clear hkk hsucc
    subst hkn
    generalize hprev : pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 G_arg8 G_arg15 k.val = prev at ihS ihO ⊢
    have hSk : States (arg15.view.read (Elt Ideal) (arg15.view.writes (Elt Ideal) G_arg15 prev.2)) gg bb kk vv (p0 + 64 * k.val) := by
      exact ihS
    have tS := trip_states (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 k (arg8.view.writes (Elt Ideal) G_arg8 prev.1) (arg15.view.writes (Elt Ideal) G_arg15 prev.2)
    have tR := trip_rows (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 k (arg8.view.writes (Elt Ideal) G_arg8 prev.1) (arg15.view.writes (Elt Ideal) G_arg15 prev.2)
    generalize tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v625 X_arg10 X_arg11 X_arg12 X_arg13 X_arg14 k (arg8.view.writes (Elt Ideal) G_arg8 prev.1) (arg15.view.writes (Elt Ideal) G_arg15 prev.2) = T at tS tR ⊢
    refine ⟨?_, ?_⟩
    · dsimp only
      rw [View.writes_append, tS]
      intro hd d e
      refine View.read_writes_apply_of_pieces (Val := Elt Ideal) (e := .f32) _ _
        (fun y : S6x128x128.Idx => (St (gg (y 0)) (bb (y 0)) (kk (y 0)) (vv (y 0)) (p0 + 64 * (k.val + 1)) (y 1) (y 2) : EReal)) _ ?_ (ix3 hd d e) ?_
      · intro p hp x
        simp only [List.mem_cons, List.not_mem_nil, or_false] at hp
        rcases hp with rfl | rfl | rfl | rfl | rfl | rfl
        · exact state_piece (fun hd d e => (St (gg hd) (bb hd) (kk hd) (vv hd) (p0 + 64 * (k.val + 1)) d e : EReal)) 5 (off := ![5, 0, 0]) inb_S6x128x128_S1x128x128_5_0_0 rfl _ (fun d e => pieceS k (k0_off1_inb k) (k0_off2_inb k) hk hv hgb hSk 5 _ (k0_off13_eq k) inb_S6x128x128_S1x128x128_5_0_0 rfl d e) x
        · exact state_piece (fun hd d e => (St (gg hd) (bb hd) (kk hd) (vv hd) (p0 + 64 * (k.val + 1)) d e : EReal)) 4 (off := ![4, 0, 0]) inb_S6x128x128_S1x128x128_4_0_0 rfl _ (fun d e => pieceS k (k0_off1_inb k) (k0_off2_inb k) hk hv hgb hSk 4 _ (k0_off11_eq k) inb_S6x128x128_S1x128x128_4_0_0 rfl d e) x
        · exact state_piece (fun hd d e => (St (gg hd) (bb hd) (kk hd) (vv hd) (p0 + 64 * (k.val + 1)) d e : EReal)) 3 (off := ![3, 0, 0]) inb_S6x128x128_S1x128x128_3_0_0 rfl _ (fun d e => pieceS k (k0_off1_inb k) (k0_off2_inb k) hk hv hgb hSk 3 _ (k0_off9_eq k) inb_S6x128x128_S1x128x128_3_0_0 rfl d e) x
        · exact state_piece (fun hd d e => (St (gg hd) (bb hd) (kk hd) (vv hd) (p0 + 64 * (k.val + 1)) d e : EReal)) 2 (off := ![2, 0, 0]) inb_S6x128x128_S1x128x128_2_0_0 rfl _ (fun d e => pieceS k (k0_off1_inb k) (k0_off2_inb k) hk hv hgb hSk 2 _ (k0_off7_eq k) inb_S6x128x128_S1x128x128_2_0_0 rfl d e) x
        · exact state_piece (fun hd d e => (St (gg hd) (bb hd) (kk hd) (vv hd) (p0 + 64 * (k.val + 1)) d e : EReal)) 1 (off := ![1, 0, 0]) inb_S6x128x128_S1x128x128_1_0_0 rfl _ (fun d e => pieceS k (k0_off1_inb k) (k0_off2_inb k) hk hv hgb hSk 1 _ (k0_off5_eq k) inb_S6x128x128_S1x128x128_1_0_0 rfl d e) x
        · exact state_piece (fun hd d e => (St (gg hd) (bb hd) (kk hd) (vv hd) (p0 + 64 * (k.val + 1)) d e : EReal)) 0 (off := ![0, 0, 0]) inb_S6x128x128_S1x128x128_0_0_0 rfl _ (fun d e => pieceS k (k0_off1_inb k) (k0_off2_inb k) hk hv hgb hSk 0 _ (k0_off3_eq k) inb_S6x128x128_S1x128x128_0_0_0 rfl d e) x
      · exact state_cover _ _ _ _ _ _ _
    · dsimp only
      intro p hp
      rcases List.mem_append.1 hp with hp | hp
      · rw [tR] at hp
        intro x
        simp only [List.mem_cons, List.not_mem_nil, or_false] at hp
        rcases hp with rfl | rfl | rfl | rfl | rfl | rfl
        · exact tileOut_piece k.val 5 (k0_off14_inb k) (k0_off14_eq k) _ (pieceO k (k0_off1_inb k) (k0_off2_inb k) hk hv hgb hSk 5 _ (k0_off13_eq k) inb_S6x128x128_S1x128x128_5_0_0 rfl hq hz hnw) x
        · exact tileOut_piece k.val 4 (k0_off12_inb k) (k0_off12_eq k) _ (pieceO k (k0_off1_inb k) (k0_off2_inb k) hk hv hgb hSk 4 _ (k0_off11_eq k) inb_S6x128x128_S1x128x128_4_0_0 rfl hq hz hnw) x
        · exact tileOut_piece k.val 3 (k0_off10_inb k) (k0_off10_eq k) _ (pieceO k (k0_off1_inb k) (k0_off2_inb k) hk hv hgb hSk 3 _ (k0_off9_eq k) inb_S6x128x128_S1x128x128_3_0_0 rfl hq hz hnw) x
        · exact tileOut_piece k.val 2 (k0_off8_inb k) (k0_off8_eq k) _ (pieceO k (k0_off1_inb k) (k0_off2_inb k) hk hv hgb hSk 2 _ (k0_off7_eq k) inb_S6x128x128_S1x128x128_2_0_0 rfl hq hz hnw) x
        · exact tileOut_piece k.val 1 (k0_off6_inb k) (k0_off6_eq k) _ (pieceO k (k0_off1_inb k) (k0_off2_inb k) hk hv hgb hSk 1 _ (k0_off5_eq k) inb_S6x128x128_S1x128x128_1_0_0 rfl hq hz hnw) x
        · exact tileOut_piece k.val 0 (k0_off4_inb k) (k0_off4_eq k) _ (pieceO k (k0_off1_inb k) (k0_off2_inb k) hk hv hgb hSk 0 _ (k0_off3_eq k) inb_S6x128x128_S1x128x128_0_0_0 rfl hq hz hnw) x
      · exact ihO p hp

end Cert.Delta.K

end
-- ==== Proof.Delta.Pre.lean ====
/- What the kernel's grid point computes before its chunk loop, read in real numbers: the normalised rows, the projections,
   the convolved and activated lanes, the log decays and the write strengths. -/
module

public import proofs.«01_k».proof.Proof.Delta.Loop
public import Idealize.ShloMosaic.Lib.WordCmp

@[expose] public section

set_option maxRecDepth 16384

noncomputable section

namespace Cert.Delta.K

open Idealize.ShloMosaic Idealize.ShloMosaic.TcCoe Idealize.ShloMosaic.Tactic Idealize.ShloMosaic.Pointwise
open Cert.KernelIdeal Cert.KernelIdeal.Gen

variable {W : Weights} {H : ℕ → Fin 1024 → ℝ}

/-- The row a grid point's block starts at. -/
def base (i : grid0.Coords) : ℕ := 320 * (i 1).val

theorem cmpi_at (i : grid0.Coords) (r : ℕ) (hr : r < 320) :
    IntOp.cmpi CmpIPredicate.sge (IntOp.addi (Scalar.muli (BitVec.ofNat 32 (i 1).val) 320#32) (BitVec.ofNat 32 r)) 112#32
      = if 112 ≤ 320 * (i 1).val + r then 1#1 else 0#1 := by
  have hi : (i 1).val < 26 := (i 1).isLt
  rw [Nat.mul_comm]
  exact WordCmp.cmpi_sge_mul_add_ofNat (w := 32) (i 1).val 320 r 112 (by omega) (by omega)

/-- A choice by the padding's mask. -/
theorem sel_pad (p : ℕ) (x : ℝ) (z : EReal) (hz : z = ((0 : ℝ) : EReal)) :
    Scalar.select (if 112 ≤ p then 1#1 else 0#1) (x : EReal) z = ((if p < 112 then 0 else x : ℝ) : EReal) := by
  by_cases h : p < 112
  · rw [if_neg (by omega), if_pos h, hz]; rfl
  · rw [if_pos (by omega), if_neg h]; rfl

theorem pad_at (i : grid0.Coords) (r : Fin 320) :
    k0_pay191 i (ix2 r 0) = if 112 ≤ base i + r.val then 1#1 else 0#1 := by
  have hi : (i 1).val < 26 := (i 1).isLt
  pointwise [k0_pay191]
  unfold base
  exact cmpi_at i r.val r.isLt

theorem hn_at (i : grid0.Coords) {v3 : Vec Ideal S1x320x1024 .f32} {v15 : Vec Ideal S1x1024 .f32}
    (h3 : ∀ (r : Fin 320) d, v3 (ix3 0 r d) = (H (base i + r.val) d : EReal)) (h15 : ∀ d, v15 (ix2 0 d) = (W.npre d : EReal))
    (r : Fin 320) (d : Fin 1024) : k0_pay192 i v3 v15 (ix2 r d) = (hn W H (base i + r.val) d : EReal) := by
  pointwise [k0_pay192]
  rw [pad_at]
  simp only [h3, h15, ← EReal.coe_mul, ← coe_sum, ofBits_1024, ofBits_eps,
    rs_mean _ _ (Finset.sum_nonneg fun x _ => mul_self_nonneg _) (by norm_num : (0 : ℝ) < 1024)]
  unfold hn
  exact sel_pad _ _ _ (by rw [EReal.coe_zero])

theorem convproj_at (i : grid0.Coords) {v3 : Vec Ideal S1x320x1024 .f32} {v15 : Vec Ideal S1x1024 .f32}
    {v30 : Vec Ideal S1024x2304 .bf16}
    (h : ∀ (r : Fin 320) (d : Fin 1024), k0_pay192 i v3 v15 (ix2 r d) = (hn W H (base i + r.val) d : EReal))
    (hw : ∀ d (c : Fin 2304), v30 (ix2 d c) = (W.w d ⟨c.val, by omega⟩ : EReal)) (r : Fin 320) (c : Fin 2304) :
    k0_pay193 i v3 v15 v30 (ix2 r c) = (proj W H (base i + r.val) ⟨c.val, by omega⟩ : EReal) := by
  pointwise [k0_pay193]
  simp only [h, hw, ← EReal.coe_mul, ← coe_sum]
  rfl

theorem z_at (p : ℕ) {v29 : FVec Ideal S320x1024 .bf16} {v36 : Vec Ideal S1024x768 .bf16}
    (h : ∀ (r : Fin 320) (d : Fin 1024), v29 (ix2 r d) = (hn W H (p + r.val) d : EReal))
    (hw : ∀ d (c : Fin 768), v36 (ix2 d c) = (W.w d ⟨2304 + c.val, by omega⟩ : EReal)) (r : Fin 320) (c : Fin 768) :
    k0_pay194 v29 v36 (ix2 r c) = (proj W H (p + r.val) ⟨2304 + c.val, by omega⟩ : EReal) := by
  pointwise [k0_pay194]
  simp only [h, hw, ← EReal.coe_mul, ← coe_sum]
  rfl

theorem g_at (i : grid0.Coords) {v29 : FVec Ideal S320x1024 .bf16} {v42 : Vec Ideal S1024x256 .bf16} {v45 v47 : Vec Ideal S1x128 .f32}
    (h : ∀ (r : Fin 320) (d : Fin 1024), v29 (ix2 r d) = (hn W H (base i + r.val) d : EReal)) (hd : Fin 6)
    (hw : ∀ d, v42 (ix2 d ⟨hd.val, by omega⟩) = (W.w d ⟨3072 + hd.val, by omega⟩ : EReal))
    (ha : v45 (ix2 0 ⟨hd.val, by omega⟩) = (W.alog hd : EReal)) (hb : v47 (ix2 0 ⟨hd.val, by omega⟩) = (W.dtb hd : EReal))
    (r : Fin 320) :
    k0_pay197 (k0_pay191 i) v29 v42 v45 v47 (ix2 r ⟨hd.val, by omega⟩) = (gv W H hd (base i + r.val) : EReal) := by
  pointwise [k0_pay197, k0_pay195]
  rw [pad_at]
  simp only [h, hw, ha, hb, ← EReal.coe_mul, ← coe_sum, zero_sub, ← EReal.coe_add, softplus_real, Ideal.exp_coe, ← EReal.coe_neg]
  unfold gv proj
  exact sel_pad _ _ _ (by rw [EReal.coe_zero])

theorem b_at (i : grid0.Coords) {v29 : FVec Ideal S320x1024 .bf16} {v42 : Vec Ideal S1024x256 .bf16}
    (h : ∀ (r : Fin 320) (d : Fin 1024), v29 (ix2 r d) = (hn W H (base i + r.val) d : EReal)) (hd : Fin 6)
    (hw : ∀ d, v42 (ix2 d ⟨128 + hd.val, by omega⟩) = (W.w d ⟨3078 + hd.val, by omega⟩ : EReal)) (r : Fin 320) :
    k0_pay200 (k0_pay196 (F := Ideal) v29 v42) (k0_pay198 (k0_pay191 i)) k0_pay199 (ix2 r ⟨hd.val, by omega⟩)
      = (bv W H hd (base i + r.val) : EReal) := by
  pointwise [k0_pay200, k0_pay196, k0_pay198, k0_pay199, k0_pay195]
  rw [pad_at]
  simp only [h, hw, ← EReal.coe_mul, ← coe_sum, logistic_real]
  unfold bv proj
  exact sel_pad _ _ _ (by rw [EReal.coe_zero])

/-- A block of 128 lanes convolved and activated. -/
theorem convV_at {u0 u1 u2 u3 : Vec Ideal S320x128 .f32} {c0 c1 c2 c3 : Vec Ideal S1x128 .f32}
    {U : ℕ → Fin 128 → ℝ} {C : Fin 4 → Fin 128 → ℝ}
    (h0 : ∀ (r : Fin 320) e, u0 (ix2 r e) = (U r.val e : EReal)) (h1 : ∀ (r : Fin 320) e, u1 (ix2 r e) = (U (r.val + 1) e : EReal))
    (h2 : ∀ (r : Fin 320) e, u2 (ix2 r e) = (U (r.val + 2) e : EReal)) (h3 : ∀ (r : Fin 320) e, u3 (ix2 r e) = (U (r.val + 3) e : EReal))
    (g0 : ∀ e, c0 (ix2 0 e) = (C 0 e : EReal)) (g1 : ∀ e, c1 (ix2 0 e) = (C 1 e : EReal))
    (g2 : ∀ e, c2 (ix2 0 e) = (C 2 e : EReal)) (g3 : ∀ e, c3 (ix2 0 e) = (C 3 e : EReal)) (r : Fin 320) (e : Fin 128) :
    k0_pay227 u0 c0 u1 c1 u2 c2 u3 c3 (ix2 r e)
      = (silu (U r.val e * C 0 e + U (r.val + 1) e * C 1 e + U (r.val + 2) e * C 2 e + U (r.val + 3) e * C 3 e) : EReal) := by
  pointwise [k0_pay227]
  simp only [h0, h1, h2, h3, g0, g1, g2, g3, ← EReal.coe_mul, ← EReal.coe_add, logistic_real]
  rfl

/-- A block of 128 lanes convolved, activated and scaled to length one. -/
theorem convN_at {u0 u1 u2 u3 : Vec Ideal S320x128 .f32} {c0 c1 c2 c3 : Vec Ideal S1x128 .f32}
    {U : ℕ → Fin 128 → ℝ} {C : Fin 4 → Fin 128 → ℝ}
    (h0 : ∀ (r : Fin 320) e, u0 (ix2 r e) = (U r.val e : EReal)) (h1 : ∀ (r : Fin 320) e, u1 (ix2 r e) = (U (r.val + 1) e : EReal))
    (h2 : ∀ (r : Fin 320) e, u2 (ix2 r e) = (U (r.val + 2) e : EReal)) (h3 : ∀ (r : Fin 320) e, u3 (ix2 r e) = (U (r.val + 3) e : EReal))
    (g0 : ∀ e, c0 (ix2 0 e) = (C 0 e : EReal)) (g1 : ∀ e, c1 (ix2 0 e) = (C 1 e : EReal))
    (g2 : ∀ e, c2 (ix2 0 e) = (C 2 e : EReal)) (g3 : ∀ e, c3 (ix2 0 e) = (C 3 e : EReal)) (r : Fin 320) (e : Fin 128) :
    k0_pay201 u0 c0 u1 c1 u2 c2 u3 c3 (ix2 r e)
      = (unit (fun e => silu (U r.val e * C 0 e + U (r.val + 1) e * C 1 e + U (r.val + 2) e * C 2 e + U (r.val + 3) e * C 3 e)) e : EReal) := by
  pointwise [k0_pay201]
  simp only [h0, h1, h2, h3, g0, g1, g2, g3, ← EReal.coe_mul, ← EReal.coe_add, logistic_real, ofBits_eps, ← coe_sum]
  rw [EReal.coe_add, rs_sum _ (Finset.sum_nonneg fun x _ => mul_self_nonneg _), ← EReal.coe_mul]
  rfl

end Cert.Delta.K

end
-- ==== Proof.Delta.Pieces.lean ====
/- What a grid point's run stores, as lists of pieces over what it loads. -/
module

public import proofs.«01_k».proof.Proof.KI.RunB

@[expose] public section

set_option maxRecDepth 16384

noncomputable section

namespace Cert.Delta.K

open Idealize.ShloMosaic Idealize.ShloMosaic.TcCoe Idealize.ShloMosaic.Tactic
open Cert.KernelIdeal Cert.KernelIdeal.Gen

variable {F : FTy → Type} [FloatOps F]

section Lists

variable {sg : RefSig}

/-- The projected rows, stored below the eight carried ones. -/
def convP (i : grid0.Coords) (v2 : View sg .tc .vmem S1x320x1024 .f32) (f2 : v2.ty.Contents (Elt F)) (v3 : View sg .tc .vmem S1x1024 .f32) (f3 : v3.ty.Contents (Elt F)) (v4 : View sg .tc .vmem S1024x3328 .bf16) (f4 : v4.ty.Contents (Elt F)) : List (View.Piece (Elt F) S328x2304 .f32) :=
  [⟨Rect.unit (s := S328x2304) ![8, 0] S320x2304.size inb_S328x2304_S320x2304_8_0, k0_pay193 i (View.readAt (Elt F) v2 (Rect.unit (s := S1x320x1024) ![0, 0, 0] S1x320x1024.size inb_S1x320x1024_S1x320x1024_0_0_0).toLoadRect f2) (View.readAt (Elt F) v3 (Rect.unit (s := S1x1024) ![0, 0] S1x1024.size inb_S1x1024_S1x1024_0_0).toLoadRect f3) (View.readAt (Elt F) v4 (Rect.unit (s := S1024x3328) ![0, 0] S1024x2304.size inb_S1024x3328_S1024x2304_0_0).toLoadRect f4)⟩]

/-- The eight carried rows cleared. -/
def zeroP : List (View.Piece (Elt F) S328x2304 .f32) :=
  [⟨Rect.unit (s := S328x2304) ![0, 0] S8x2304.size inb_S328x2304_S8x2304_0_0, k0_pay189⟩]

/-- The states cleared. -/
def zeroS : List (View.Piece (Elt F) S6x128x128 .f32) :=
  [⟨Rect.unit (s := S6x128x128) ![0, 0, 0] S6x128x128.size inb_S6x128x128_S6x128x128_0_0_0, k0_pay190⟩]

/-- The queries' six lane tiles. -/
def qL (v9 : View sg .tc .vmem S328x2304 .f32) (f9 g9 : v9.ty.Contents (Elt F)) (v5 : View sg .tc .vmem S4x2304 .f32) (f5 : v5.ty.Contents (Elt F)) : List (View.Piece (Elt F) S320x768 .f32) :=
  [⟨Rect.unit (s := S320x768) ![0, 640] S320x128.size inb_S320x768_S320x128_0_640, k0_pay210 (k0_pay209 (View.readAt (Elt F) v9 (Rect.unit (s := S328x2304) ![5, 640] S320x128.size inb_S328x2304_S320x128_5_640).toLoadRect f9) (View.readAt (Elt F) v5 (Rect.unit (s := S4x2304) ![0, 640] S1x128.size inb_S4x2304_S1x128_0_640).toLoadRect f5) (View.readAt (Elt F) v9 (Rect.unit (s := S328x2304) ![6, 640] S320x128.size inb_S328x2304_S320x128_6_640).toLoadRect f9) (View.readAt (Elt F) v5 (Rect.unit (s := S4x2304) ![1, 640] S1x128.size inb_S4x2304_S1x128_1_640).toLoadRect f5) (View.readAt (Elt F) v9 (Rect.unit (s := S328x2304) ![7, 640] S320x128.size inb_S328x2304_S320x128_7_640).toLoadRect f9) (View.readAt (Elt F) v5 (Rect.unit (s := S4x2304) ![2, 640] S1x128.size inb_S4x2304_S1x128_2_640).toLoadRect f5)) (View.readAt (Elt F) v9 (Rect.unit (s := S328x2304) ![8, 640] S320x128.size inb_S328x2304_S320x128_8_640).toLoadRect g9) (View.readAt (Elt F) v5 (Rect.unit (s := S4x2304) ![3, 640] S1x128.size inb_S4x2304_S1x128_3_640).toLoadRect f5)⟩,
    ⟨Rect.unit (s := S320x768) ![0, 512] S320x128.size inb_S320x768_S320x128_0_512, k0_pay208 (k0_pay207 (View.readAt (Elt F) v9 (Rect.unit (s := S328x2304) ![5, 512] S320x128.size inb_S328x2304_S320x128_5_512).toLoadRect f9) (View.readAt (Elt F) v5 (Rect.unit (s := S4x2304) ![0, 512] S1x128.size inb_S4x2304_S1x128_0_512).toLoadRect f5) (View.readAt (Elt F) v9 (Rect.unit (s := S328x2304) ![6, 512] S320x128.size inb_S328x2304_S320x128_6_512).toLoadRect f9) (View.readAt (Elt F) v5 (Rect.unit (s := S4x2304) ![1, 512] S1x128.size inb_S4x2304_S1x128_1_512).toLoadRect f5)) (View.readAt (Elt F) v9 (Rect.unit (s := S328x2304) ![7, 512] S320x128.size inb_S328x2304_S320x128_7_512).toLoadRect f9) (View.readAt (Elt F) v5 (Rect.unit (s := S4x2304) ![2, 512] S1x128.size inb_S4x2304_S1x128_2_512).toLoadRect f5) (View.readAt (Elt F) v9 (Rect.unit (s := S328x2304) ![8, 512] S320x128.size inb_S328x2304_S320x128_8_512).toLoadRect g9) (View.readAt (Elt F) v5 (Rect.unit (s := S4x2304) ![3, 512] S1x128.size inb_S4x2304_S1x128_3_512).toLoadRect f5)⟩,
    ⟨Rect.unit (s := S320x768) ![0, 384] S320x128.size inb_S320x768_S320x128_0_384, k0_pay206 (k0_pay205 (View.readAt (Elt F) v9 (Rect.unit (s := S328x2304) ![5, 384] S320x128.size inb_S328x2304_S320x128_5_384).toLoadRect f9) (View.readAt (Elt F) v5 (Rect.unit (s := S4x2304) ![0, 384] S1x128.size inb_S4x2304_S1x128_0_384).toLoadRect f5)) (View.readAt (Elt F) v9 (Rect.unit (s := S328x2304) ![6, 384] S320x128.size inb_S328x2304_S320x128_6_384).toLoadRect f9) (View.readAt (Elt F) v5 (Rect.unit (s := S4x2304) ![1, 384] S1x128.size inb_S4x2304_S1x128_1_384).toLoadRect f5) (View.readAt (Elt F) v9 (Rect.unit (s := S328x2304) ![7, 384] S320x128.size inb_S328x2304_S320x128_7_384).toLoadRect f9) (View.readAt (Elt F) v5 (Rect.unit (s := S4x2304) ![2, 384] S1x128.size inb_S4x2304_S1x128_2_384).toLoadRect f5) (View.readAt (Elt F) v9 (Rect.unit (s := S328x2304) ![8, 384] S320x128.size inb_S328x2304_S320x128_8_384).toLoadRect g9) (View.readAt (Elt F) v5 (Rect.unit (s := S4x2304) ![3, 384] S1x128.size inb_S4x2304_S1x128_3_384).toLoadRect f5)⟩,
    ⟨Rect.unit (s := S320x768) ![0, 256] S320x128.size inb_S320x768_S320x128_0_256, k0_pay204 (View.readAt (Elt F) v9 (Rect.unit (s := S328x2304) ![5, 256] S320x128.size inb_S328x2304_S320x128_5_256).toLoadRect f9) (k0_pay203 (View.readAt (Elt F) v5 (Rect.unit (s := S4x2304) ![0, 256] S1x128.size inb_S4x2304_S1x128_0_256).toLoadRect f5)) (View.readAt (Elt F) v9 (Rect.unit (s := S328x2304) ![6, 256] S320x128.size inb_S328x2304_S320x128_6_256).toLoadRect f9) (View.readAt (Elt F) v5 (Rect.unit (s := S4x2304) ![1, 256] S1x128.size inb_S4x2304_S1x128_1_256).toLoadRect f5) (View.readAt (Elt F) v9 (Rect.unit (s := S328x2304) ![7, 256] S320x128.size inb_S328x2304_S320x128_7_256).toLoadRect f9) (View.readAt (Elt F) v5 (Rect.unit (s := S4x2304) ![2, 256] S1x128.size inb_S4x2304_S1x128_2_256).toLoadRect f5) (View.readAt (Elt F) v9 (Rect.unit (s := S328x2304) ![8, 256] S320x128.size inb_S328x2304_S320x128_8_256).toLoadRect g9) (View.readAt (Elt F) v5 (Rect.unit (s := S4x2304) ![3, 256] S1x128.size inb_S4x2304_S1x128_3_256).toLoadRect f5)⟩,
    ⟨Rect.unit (s := S320x768) ![0, 128] S320x128.size inb_S320x768_S320x128_0_128, k0_pay202 (View.readAt (Elt F) v9 (Rect.unit (s := S328x2304) ![5, 128] S320x128.size inb_S328x2304_S320x128_5_128).toLoadRect f9) (View.readAt (Elt F) v5 (Rect.unit (s := S4x2304) ![0, 128] S1x128.size inb_S4x2304_S1x128_0_128).toLoadRect f5) (View.readAt (Elt F) v9 (Rect.unit (s := S328x2304) ![6, 128] S320x128.size inb_S328x2304_S320x128_6_128).toLoadRect f9) (View.readAt (Elt F) v5 (Rect.unit (s := S4x2304) ![1, 128] S1x128.size inb_S4x2304_S1x128_1_128).toLoadRect f5) (View.readAt (Elt F) v9 (Rect.unit (s := S328x2304) ![7, 128] S320x128.size inb_S328x2304_S320x128_7_128).toLoadRect f9) (View.readAt (Elt F) v5 (Rect.unit (s := S4x2304) ![2, 128] S1x128.size inb_S4x2304_S1x128_2_128).toLoadRect f5) (View.readAt (Elt F) v9 (Rect.unit (s := S328x2304) ![8, 128] S320x128.size inb_S328x2304_S320x128_8_128).toLoadRect g9) (View.readAt (Elt F) v5 (Rect.unit (s := S4x2304) ![3, 128] S1x128.size inb_S4x2304_S1x128_3_128).toLoadRect f5)⟩,
    ⟨Rect.unit (s := S320x768) ![0, 0] S320x128.size inb_S320x768_S320x128_0_0, k0_pay201 (View.readAt (Elt F) v9 (Rect.unit (s := S328x2304) ![5, 0] S320x128.size inb_S328x2304_S320x128_5_0).toLoadRect f9) (View.readAt (Elt F) v5 (Rect.unit (s := S4x2304) ![0, 0] S1x128.size inb_S4x2304_S1x128_0_0).toLoadRect f5) (View.readAt (Elt F) v9 (Rect.unit (s := S328x2304) ![6, 0] S320x128.size inb_S328x2304_S320x128_6_0).toLoadRect f9) (View.readAt (Elt F) v5 (Rect.unit (s := S4x2304) ![1, 0] S1x128.size inb_S4x2304_S1x128_1_0).toLoadRect f5) (View.readAt (Elt F) v9 (Rect.unit (s := S328x2304) ![7, 0] S320x128.size inb_S328x2304_S320x128_7_0).toLoadRect f9) (View.readAt (Elt F) v5 (Rect.unit (s := S4x2304) ![2, 0] S1x128.size inb_S4x2304_S1x128_2_0).toLoadRect f5) (View.readAt (Elt F) v9 (Rect.unit (s := S328x2304) ![8, 0] S320x128.size inb_S328x2304_S320x128_8_0).toLoadRect g9) (View.readAt (Elt F) v5 (Rect.unit (s := S4x2304) ![3, 0] S1x128.size inb_S4x2304_S1x128_3_0).toLoadRect f5)⟩]

/-- The keys' six lane tiles. -/
def kL (v9 : View sg .tc .vmem S328x2304 .f32) (f9 g9 : v9.ty.Contents (Elt F)) (v5 : View sg .tc .vmem S4x2304 .f32) (f5 : v5.ty.Contents (Elt F)) : List (View.Piece (Elt F) S320x768 .f32) :=
  [⟨Rect.unit (s := S320x768) ![0, 640] S320x128.size inb_S320x768_S320x128_0_640, k0_pay221 (k0_pay220 (View.readAt (Elt F) v9 (Rect.unit (s := S328x2304) ![5, 1408] S320x128.size inb_S328x2304_S320x128_5_1408).toLoadRect f9) (View.readAt (Elt F) v5 (Rect.unit (s := S4x2304) ![0, 1408] S1x128.size inb_S4x2304_S1x128_0_1408).toLoadRect f5)) (View.readAt (Elt F) v9 (Rect.unit (s := S328x2304) ![6, 1408] S320x128.size inb_S328x2304_S320x128_6_1408).toLoadRect f9) (View.readAt (Elt F) v5 (Rect.unit (s := S4x2304) ![1, 1408] S1x128.size inb_S4x2304_S1x128_1_1408).toLoadRect f5) (View.readAt (Elt F) v9 (Rect.unit (s := S328x2304) ![7, 1408] S320x128.size inb_S328x2304_S320x128_7_1408).toLoadRect f9) (View.readAt (Elt F) v5 (Rect.unit (s := S4x2304) ![2, 1408] S1x128.size inb_S4x2304_S1x128_2_1408).toLoadRect f5) (View.readAt (Elt F) v9 (Rect.unit (s := S328x2304) ![8, 1408] S320x128.size inb_S328x2304_S320x128_8_1408).toLoadRect g9) (View.readAt (Elt F) v5 (Rect.unit (s := S4x2304) ![3, 1408] S1x128.size inb_S4x2304_S1x128_3_1408).toLoadRect f5)⟩,
    ⟨Rect.unit (s := S320x768) ![0, 512] S320x128.size inb_S320x768_S320x128_0_512, k0_pay219 (View.readAt (Elt F) v9 (Rect.unit (s := S328x2304) ![5, 1280] S320x128.size inb_S328x2304_S320x128_5_1280).toLoadRect f9) (View.readAt (Elt F) v5 (Rect.unit (s := S4x2304) ![0, 1280] S1x128.size inb_S4x2304_S1x128_0_1280).toLoadRect f5) (View.readAt (Elt F) v9 (Rect.unit (s := S328x2304) ![6, 1280] S320x128.size inb_S328x2304_S320x128_6_1280).toLoadRect f9) (View.readAt (Elt F) v5 (Rect.unit (s := S4x2304) ![1, 1280] S1x128.size inb_S4x2304_S1x128_1_1280).toLoadRect f5) (View.readAt (Elt F) v9 (Rect.unit (s := S328x2304) ![7, 1280] S320x128.size inb_S328x2304_S320x128_7_1280).toLoadRect f9) (View.readAt (Elt F) v5 (Rect.unit (s := S4x2304) ![2, 1280] S1x128.size inb_S4x2304_S1x128_2_1280).toLoadRect f5) (View.readAt (Elt F) v9 (Rect.unit (s := S328x2304) ![8, 1280] S320x128.size inb_S328x2304_S320x128_8_1280).toLoadRect g9) (View.readAt (Elt F) v5 (Rect.unit (s := S4x2304) ![3, 1280] S1x128.size inb_S4x2304_S1x128_3_1280).toLoadRect f5)⟩,
    ⟨Rect.unit (s := S320x768) ![0, 384] S320x128.size inb_S320x768_S320x128_0_384, k0_pay218 (View.readAt (Elt F) v9 (Rect.unit (s := S328x2304) ![5, 1152] S320x128.size inb_S328x2304_S320x128_5_1152).toLoadRect f9) (View.readAt (Elt F) v5 (Rect.unit (s := S4x2304) ![0, 1152] S1x128.size inb_S4x2304_S1x128_0_1152).toLoadRect f5) (View.readAt (Elt F) v9 (Rect.unit (s := S328x2304) ![6, 1152] S320x128.size inb_S328x2304_S320x128_6_1152).toLoadRect f9) (View.readAt (Elt F) v5 (Rect.unit (s := S4x2304) ![1, 1152] S1x128.size inb_S4x2304_S1x128_1_1152).toLoadRect f5) (View.readAt (Elt F) v9 (Rect.unit (s := S328x2304) ![7, 1152] S320x128.size inb_S328x2304_S320x128_7_1152).toLoadRect f9) (View.readAt (Elt F) v5 (Rect.unit (s := S4x2304) ![2, 1152] S1x128.size inb_S4x2304_S1x128_2_1152).toLoadRect f5) (View.readAt (Elt F) v9 (Rect.unit (s := S328x2304) ![8, 1152] S320x128.size inb_S328x2304_S320x128_8_1152).toLoadRect g9) (View.readAt (Elt F) v5 (Rect.unit (s := S4x2304) ![3, 1152] S1x128.size inb_S4x2304_S1x128_3_1152).toLoadRect f5)⟩,
    ⟨Rect.unit (s := S320x768) ![0, 256] S320x128.size inb_S320x768_S320x128_0_256, k0_pay217 (k0_pay216 (View.readAt (Elt F) v9 (Rect.unit (s := S328x2304) ![5, 1024] S320x128.size inb_S328x2304_S320x128_5_1024).toLoadRect f9) (View.readAt (Elt F) v5 (Rect.unit (s := S4x2304) ![0, 1024] S1x128.size inb_S4x2304_S1x128_0_1024).toLoadRect f5) (View.readAt (Elt F) v9 (Rect.unit (s := S328x2304) ![6, 1024] S320x128.size inb_S328x2304_S320x128_6_1024).toLoadRect f9) (View.readAt (Elt F) v5 (Rect.unit (s := S4x2304) ![1, 1024] S1x128.size inb_S4x2304_S1x128_1_1024).toLoadRect f5) (View.readAt (Elt F) v9 (Rect.unit (s := S328x2304) ![7, 1024] S320x128.size inb_S328x2304_S320x128_7_1024).toLoadRect f9) (View.readAt (Elt F) v5 (Rect.unit (s := S4x2304) ![2, 1024] S1x128.size inb_S4x2304_S1x128_2_1024).toLoadRect f5) (View.readAt (Elt F) v9 (Rect.unit (s := S328x2304) ![8, 1024] S320x128.size inb_S328x2304_S320x128_8_1024).toLoadRect g9) (View.readAt (Elt F) v5 (Rect.unit (s := S4x2304) ![3, 1024] S1x128.size inb_S4x2304_S1x128_3_1024).toLoadRect f5))⟩,
    ⟨Rect.unit (s := S320x768) ![0, 128] S320x128.size inb_S320x768_S320x128_0_128, k0_pay215 (k0_pay213 (View.readAt (Elt F) v9 (Rect.unit (s := S328x2304) ![5, 896] S320x128.size inb_S328x2304_S320x128_5_896).toLoadRect f9) (View.readAt (Elt F) v5 (Rect.unit (s := S4x2304) ![0, 896] S1x128.size inb_S4x2304_S1x128_0_896).toLoadRect f5) (View.readAt (Elt F) v9 (Rect.unit (s := S328x2304) ![6, 896] S320x128.size inb_S328x2304_S320x128_6_896).toLoadRect f9) (View.readAt (Elt F) v5 (Rect.unit (s := S4x2304) ![1, 896] S1x128.size inb_S4x2304_S1x128_1_896).toLoadRect f5) (View.readAt (Elt F) v9 (Rect.unit (s := S328x2304) ![7, 896] S320x128.size inb_S328x2304_S320x128_7_896).toLoadRect f9) (View.readAt (Elt F) v5 (Rect.unit (s := S4x2304) ![2, 896] S1x128.size inb_S4x2304_S1x128_2_896).toLoadRect f5) (View.readAt (Elt F) v9 (Rect.unit (s := S328x2304) ![8, 896] S320x128.size inb_S328x2304_S320x128_8_896).toLoadRect g9) (View.readAt (Elt F) v5 (Rect.unit (s := S4x2304) ![3, 896] S1x128.size inb_S4x2304_S1x128_3_896).toLoadRect f5)) (k0_pay214 (View.readAt (Elt F) v9 (Rect.unit (s := S328x2304) ![5, 896] S320x128.size inb_S328x2304_S320x128_5_896).toLoadRect f9) (View.readAt (Elt F) v5 (Rect.unit (s := S4x2304) ![0, 896] S1x128.size inb_S4x2304_S1x128_0_896).toLoadRect f5) (View.readAt (Elt F) v9 (Rect.unit (s := S328x2304) ![6, 896] S320x128.size inb_S328x2304_S320x128_6_896).toLoadRect f9) (View.readAt (Elt F) v5 (Rect.unit (s := S4x2304) ![1, 896] S1x128.size inb_S4x2304_S1x128_1_896).toLoadRect f5) (View.readAt (Elt F) v9 (Rect.unit (s := S328x2304) ![7, 896] S320x128.size inb_S328x2304_S320x128_7_896).toLoadRect f9) (View.readAt (Elt F) v5 (Rect.unit (s := S4x2304) ![2, 896] S1x128.size inb_S4x2304_S1x128_2_896).toLoadRect f5) (View.readAt (Elt F) v9 (Rect.unit (s := S328x2304) ![8, 896] S320x128.size inb_S328x2304_S320x128_8_896).toLoadRect g9) (View.readAt (Elt F) v5 (Rect.unit (s := S4x2304) ![3, 896] S1x128.size inb_S4x2304_S1x128_3_896).toLoadRect f5)) (FloatOps.ofBits .f32 0x358637BD#32)⟩,
    ⟨Rect.unit (s := S320x768) ![0, 0] S320x128.size inb_S320x768_S320x128_0_0, k0_pay212 (k0_pay211 (View.readAt (Elt F) v9 (Rect.unit (s := S328x2304) ![5, 768] S320x128.size inb_S328x2304_S320x128_5_768).toLoadRect f9) (View.readAt (Elt F) v5 (Rect.unit (s := S4x2304) ![0, 768] S1x128.size inb_S4x2304_S1x128_0_768).toLoadRect f5) (View.readAt (Elt F) v9 (Rect.unit (s := S328x2304) ![6, 768] S320x128.size inb_S328x2304_S320x128_6_768).toLoadRect f9) (View.readAt (Elt F) v5 (Rect.unit (s := S4x2304) ![1, 768] S1x128.size inb_S4x2304_S1x128_1_768).toLoadRect f5) (View.readAt (Elt F) v9 (Rect.unit (s := S328x2304) ![7, 768] S320x128.size inb_S328x2304_S320x128_7_768).toLoadRect f9) (View.readAt (Elt F) v5 (Rect.unit (s := S4x2304) ![2, 768] S1x128.size inb_S4x2304_S1x128_2_768).toLoadRect f5) (View.readAt (Elt F) v9 (Rect.unit (s := S328x2304) ![8, 768] S320x128.size inb_S328x2304_S320x128_8_768).toLoadRect g9) (View.readAt (Elt F) v5 (Rect.unit (s := S4x2304) ![3, 768] S1x128.size inb_S4x2304_S1x128_3_768).toLoadRect f5))⟩]

/-- The values' six lane tiles. -/
def vL (v9 : View sg .tc .vmem S328x2304 .f32) (f9 g9 : v9.ty.Contents (Elt F)) (v5 : View sg .tc .vmem S4x2304 .f32) (f5 : v5.ty.Contents (Elt F)) : List (View.Piece (Elt F) S320x768 .f32) :=
  [⟨Rect.unit (s := S320x768) ![0, 640] S320x128.size inb_S320x768_S320x128_0_640, k0_pay233 (View.readAt (Elt F) v9 (Rect.unit (s := S328x2304) ![5, 2176] S320x128.size inb_S328x2304_S320x128_5_2176).toLoadRect f9) (View.readAt (Elt F) v5 (Rect.unit (s := S4x2304) ![0, 2176] S1x128.size inb_S4x2304_S1x128_0_2176).toLoadRect f5) (View.readAt (Elt F) v9 (Rect.unit (s := S328x2304) ![6, 2176] S320x128.size inb_S328x2304_S320x128_6_2176).toLoadRect f9) (View.readAt (Elt F) v5 (Rect.unit (s := S4x2304) ![1, 2176] S1x128.size inb_S4x2304_S1x128_1_2176).toLoadRect f5) (View.readAt (Elt F) v9 (Rect.unit (s := S328x2304) ![7, 2176] S320x128.size inb_S328x2304_S320x128_7_2176).toLoadRect f9) (View.readAt (Elt F) v5 (Rect.unit (s := S4x2304) ![2, 2176] S1x128.size inb_S4x2304_S1x128_2_2176).toLoadRect f5) (View.readAt (Elt F) v9 (Rect.unit (s := S328x2304) ![8, 2176] S320x128.size inb_S328x2304_S320x128_8_2176).toLoadRect g9) (View.readAt (Elt F) v5 (Rect.unit (s := S4x2304) ![3, 2176] S1x128.size inb_S4x2304_S1x128_3_2176).toLoadRect f5)⟩,
    ⟨Rect.unit (s := S320x768) ![0, 512] S320x128.size inb_S320x768_S320x128_0_512, k0_pay232 (k0_pay230 (View.readAt (Elt F) v9 (Rect.unit (s := S328x2304) ![5, 2048] S320x128.size inb_S328x2304_S320x128_5_2048).toLoadRect f9) (View.readAt (Elt F) v5 (Rect.unit (s := S4x2304) ![0, 2048] S1x128.size inb_S4x2304_S1x128_0_2048).toLoadRect f5) (View.readAt (Elt F) v9 (Rect.unit (s := S328x2304) ![6, 2048] S320x128.size inb_S328x2304_S320x128_6_2048).toLoadRect f9) (View.readAt (Elt F) v5 (Rect.unit (s := S4x2304) ![1, 2048] S1x128.size inb_S4x2304_S1x128_1_2048).toLoadRect f5)) (k0_pay231 (View.readAt (Elt F) v9 (Rect.unit (s := S328x2304) ![7, 2048] S320x128.size inb_S328x2304_S320x128_7_2048).toLoadRect f9) (View.readAt (Elt F) v5 (Rect.unit (s := S4x2304) ![2, 2048] S1x128.size inb_S4x2304_S1x128_2_2048).toLoadRect f5)) (View.readAt (Elt F) v9 (Rect.unit (s := S328x2304) ![8, 2048] S320x128.size inb_S328x2304_S320x128_8_2048).toLoadRect g9) (View.readAt (Elt F) v5 (Rect.unit (s := S4x2304) ![3, 2048] S1x128.size inb_S4x2304_S1x128_3_2048).toLoadRect f5)⟩,
    ⟨Rect.unit (s := S320x768) ![0, 384] S320x128.size inb_S320x768_S320x128_0_384, k0_pay229 (k0_pay228 (View.readAt (Elt F) v9 (Rect.unit (s := S328x2304) ![5, 1920] S320x128.size inb_S328x2304_S320x128_5_1920).toLoadRect f9) (View.readAt (Elt F) v5 (Rect.unit (s := S4x2304) ![0, 1920] S1x128.size inb_S4x2304_S1x128_0_1920).toLoadRect f5)) (View.readAt (Elt F) v9 (Rect.unit (s := S328x2304) ![6, 1920] S320x128.size inb_S328x2304_S320x128_6_1920).toLoadRect f9) (View.readAt (Elt F) v5 (Rect.unit (s := S4x2304) ![1, 1920] S1x128.size inb_S4x2304_S1x128_1_1920).toLoadRect f5) (View.readAt (Elt F) v9 (Rect.unit (s := S328x2304) ![7, 1920] S320x128.size inb_S328x2304_S320x128_7_1920).toLoadRect f9) (View.readAt (Elt F) v5 (Rect.unit (s := S4x2304) ![2, 1920] S1x128.size inb_S4x2304_S1x128_2_1920).toLoadRect f5) (View.readAt (Elt F) v9 (Rect.unit (s := S328x2304) ![8, 1920] S320x128.size inb_S328x2304_S320x128_8_1920).toLoadRect g9) (View.readAt (Elt F) v5 (Rect.unit (s := S4x2304) ![3, 1920] S1x128.size inb_S4x2304_S1x128_3_1920).toLoadRect f5)⟩,
    ⟨Rect.unit (s := S320x768) ![0, 256] S320x128.size inb_S320x768_S320x128_0_256, k0_pay227 (View.readAt (Elt F) v9 (Rect.unit (s := S328x2304) ![5, 1792] S320x128.size inb_S328x2304_S320x128_5_1792).toLoadRect f9) (View.readAt (Elt F) v5 (Rect.unit (s := S4x2304) ![0, 1792] S1x128.size inb_S4x2304_S1x128_0_1792).toLoadRect f5) (View.readAt (Elt F) v9 (Rect.unit (s := S328x2304) ![6, 1792] S320x128.size inb_S328x2304_S320x128_6_1792).toLoadRect f9) (View.readAt (Elt F) v5 (Rect.unit (s := S4x2304) ![1, 1792] S1x128.size inb_S4x2304_S1x128_1_1792).toLoadRect f5) (View.readAt (Elt F) v9 (Rect.unit (s := S328x2304) ![7, 1792] S320x128.size inb_S328x2304_S320x128_7_1792).toLoadRect f9) (View.readAt (Elt F) v5 (Rect.unit (s := S4x2304) ![2, 1792] S1x128.size inb_S4x2304_S1x128_2_1792).toLoadRect f5) (View.readAt (Elt F) v9 (Rect.unit (s := S328x2304) ![8, 1792] S320x128.size inb_S328x2304_S320x128_8_1792).toLoadRect g9) (View.readAt (Elt F) v5 (Rect.unit (s := S4x2304) ![3, 1792] S1x128.size inb_S4x2304_S1x128_3_1792).toLoadRect f5)⟩,
    ⟨Rect.unit (s := S320x768) ![0, 128] S320x128.size inb_S320x768_S320x128_0_128, k0_pay226 (k0_pay224 (View.readAt (Elt F) v9 (Rect.unit (s := S328x2304) ![5, 1664] S320x128.size inb_S328x2304_S320x128_5_1664).toLoadRect f9) (View.readAt (Elt F) v5 (Rect.unit (s := S4x2304) ![0, 1664] S1x128.size inb_S4x2304_S1x128_0_1664).toLoadRect f5) (View.readAt (Elt F) v9 (Rect.unit (s := S328x2304) ![6, 1664] S320x128.size inb_S328x2304_S320x128_6_1664).toLoadRect f9) (View.readAt (Elt F) v5 (Rect.unit (s := S4x2304) ![1, 1664] S1x128.size inb_S4x2304_S1x128_1_1664).toLoadRect f5) (View.readAt (Elt F) v9 (Rect.unit (s := S328x2304) ![7, 1664] S320x128.size inb_S328x2304_S320x128_7_1664).toLoadRect f9) (View.readAt (Elt F) v5 (Rect.unit (s := S4x2304) ![2, 1664] S1x128.size inb_S4x2304_S1x128_2_1664).toLoadRect f5)) (k0_pay225 (View.readAt (Elt F) v9 (Rect.unit (s := S328x2304) ![8, 1664] S320x128.size inb_S328x2304_S320x128_8_1664).toLoadRect g9) (View.readAt (Elt F) v5 (Rect.unit (s := S4x2304) ![3, 1664] S1x128.size inb_S4x2304_S1x128_3_1664).toLoadRect f5))⟩,
    ⟨Rect.unit (s := S320x768) ![0, 0] S320x128.size inb_S320x768_S320x128_0_0, k0_pay223 (k0_pay222 (View.readAt (Elt F) v9 (Rect.unit (s := S328x2304) ![5, 1536] S320x128.size inb_S328x2304_S320x128_5_1536).toLoadRect f9) (View.readAt (Elt F) v5 (Rect.unit (s := S4x2304) ![0, 1536] S1x128.size inb_S4x2304_S1x128_0_1536).toLoadRect f5) (View.readAt (Elt F) v9 (Rect.unit (s := S328x2304) ![6, 1536] S320x128.size inb_S328x2304_S320x128_6_1536).toLoadRect f9) (View.readAt (Elt F) v5 (Rect.unit (s := S4x2304) ![1, 1536] S1x128.size inb_S4x2304_S1x128_1_1536).toLoadRect f5)) (View.readAt (Elt F) v9 (Rect.unit (s := S328x2304) ![7, 1536] S320x128.size inb_S328x2304_S320x128_7_1536).toLoadRect f9) (View.readAt (Elt F) v5 (Rect.unit (s := S4x2304) ![2, 1536] S1x128.size inb_S4x2304_S1x128_2_1536).toLoadRect f5) (View.readAt (Elt F) v9 (Rect.unit (s := S328x2304) ![8, 1536] S320x128.size inb_S328x2304_S320x128_8_1536).toLoadRect g9) (View.readAt (Elt F) v5 (Rect.unit (s := S4x2304) ![3, 1536] S1x128.size inb_S4x2304_S1x128_3_1536).toLoadRect f5)⟩]

/-- The gate's inputs. -/
def zL (i : grid0.Coords) (v2 : View sg .tc .vmem S1x320x1024 .f32) (f2 : v2.ty.Contents (Elt F)) (v3 : View sg .tc .vmem S1x1024 .f32) (f3 : v3.ty.Contents (Elt F)) (v4 : View sg .tc .vmem S1024x3328 .bf16) (f4 : v4.ty.Contents (Elt F)) : List (View.Piece (Elt F) S320x768 .f32) :=
  [⟨Rect.unit (s := S320x768) ![0, 0] S320x768.size inb_S320x768_S320x768_0_0, k0_pay194 (k0_pay192 i (View.readAt (Elt F) v2 (Rect.unit (s := S1x320x1024) ![0, 0, 0] S1x320x1024.size inb_S1x320x1024_S1x320x1024_0_0_0).toLoadRect f2) (View.readAt (Elt F) v3 (Rect.unit (s := S1x1024) ![0, 0] S1x1024.size inb_S1x1024_S1x1024_0_0).toLoadRect f3)) (View.readAt (Elt F) v4 (Rect.unit (s := S1024x3328) ![0, 2304] S1024x768.size inb_S1024x3328_S1024x768_0_2304).toLoadRect f4)⟩]

/-- The write strengths above the log decays. -/
def gbL (i : grid0.Coords) (v2 : View sg .tc .vmem S1x320x1024 .f32) (f2 : v2.ty.Contents (Elt F)) (v3 : View sg .tc .vmem S1x1024 .f32) (f3 : v3.ty.Contents (Elt F)) (v4 : View sg .tc .vmem S1024x3328 .bf16) (f4 : v4.ty.Contents (Elt F)) (v6 : View sg .tc .vmem S8x128 .f32) (f6 : v6.ty.Contents (Elt F)) : List (View.Piece (Elt F) S320x256 .f32) :=
  [⟨Rect.unit (s := S320x256) ![0, 128] S320x128.size inb_S320x256_S320x128_0_128, k0_pay200 (k0_pay196 (k0_pay192 i (View.readAt (Elt F) v2 (Rect.unit (s := S1x320x1024) ![0, 0, 0] S1x320x1024.size inb_S1x320x1024_S1x320x1024_0_0_0).toLoadRect f2) (View.readAt (Elt F) v3 (Rect.unit (s := S1x1024) ![0, 0] S1x1024.size inb_S1x1024_S1x1024_0_0).toLoadRect f3)) (View.readAt (Elt F) v4 (Rect.unit (s := S1024x3328) ![0, 3072] S1024x256.size inb_S1024x3328_S1024x256_0_3072).toLoadRect f4)) (k0_pay198 (k0_pay191 i)) k0_pay199⟩,
    ⟨Rect.unit (s := S320x256) ![0, 0] S320x128.size inb_S320x256_S320x128_0_0, k0_pay197 (k0_pay191 i) (k0_pay192 i (View.readAt (Elt F) v2 (Rect.unit (s := S1x320x1024) ![0, 0, 0] S1x320x1024.size inb_S1x320x1024_S1x320x1024_0_0_0).toLoadRect f2) (View.readAt (Elt F) v3 (Rect.unit (s := S1x1024) ![0, 0] S1x1024.size inb_S1x1024_S1x1024_0_0).toLoadRect f3)) (View.readAt (Elt F) v4 (Rect.unit (s := S1024x3328) ![0, 3072] S1024x256.size inb_S1024x3328_S1024x256_0_3072).toLoadRect f4) (View.readAt (Elt F) v6 (Rect.unit (s := S8x128) ![0, 0] S1x128.size inb_S8x128_S1x128_0_0).toLoadRect f6) (View.readAt (Elt F) v6 (Rect.unit (s := S8x128) ![1, 0] S1x128.size inb_S8x128_S1x128_1_0).toLoadRect f6)⟩]

end Lists

/-! The convolved lanes, the same however a head's text is cut. -/

theorem q1_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay202 u0 c0 u1 c1 u2 c2 u3 c3 = k0_pay201 u0 c0 u1 c1 u2 c2 u3 c3 := rfl
theorem q2_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay204 u0 (k0_pay203 c0) u1 c1 u2 c2 u3 c3 = k0_pay201 u0 c0 u1 c1 u2 c2 u3 c3 := rfl
theorem q3_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay206 (k0_pay205 u0 c0) u1 c1 u2 c2 u3 c3 = k0_pay201 u0 c0 u1 c1 u2 c2 u3 c3 := rfl
theorem q4_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay208 (k0_pay207 u0 c0 u1 c1) u2 c2 u3 c3 = k0_pay201 u0 c0 u1 c1 u2 c2 u3 c3 := rfl
theorem q5_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay210 (k0_pay209 u0 c0 u1 c1 u2 c2) u3 c3 = k0_pay201 u0 c0 u1 c1 u2 c2 u3 c3 := rfl
theorem k0_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay212 (k0_pay211 u0 c0 u1 c1 u2 c2 u3 c3) = k0_pay201 u0 c0 u1 c1 u2 c2 u3 c3 := rfl
theorem k1_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay215 (k0_pay213 u0 c0 u1 c1 u2 c2 u3 c3) (k0_pay214 u0 c0 u1 c1 u2 c2 u3 c3) (FloatOps.ofBits .f32 0x358637BD#32) = k0_pay201 u0 c0 u1 c1 u2 c2 u3 c3 := rfl
theorem k2_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay217 (k0_pay216 u0 c0 u1 c1 u2 c2 u3 c3) = k0_pay201 u0 c0 u1 c1 u2 c2 u3 c3 := rfl
theorem k3_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay218 u0 c0 u1 c1 u2 c2 u3 c3 = k0_pay201 u0 c0 u1 c1 u2 c2 u3 c3 := rfl
theorem k4_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay219 u0 c0 u1 c1 u2 c2 u3 c3 = k0_pay201 u0 c0 u1 c1 u2 c2 u3 c3 := rfl
theorem k5_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay221 (k0_pay220 u0 c0) u1 c1 u2 c2 u3 c3 = k0_pay201 u0 c0 u1 c1 u2 c2 u3 c3 := rfl
theorem v0_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay223 (k0_pay222 u0 c0 u1 c1) u2 c2 u3 c3 = k0_pay227 u0 c0 u1 c1 u2 c2 u3 c3 := rfl
theorem v1_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay226 (k0_pay224 u0 c0 u1 c1 u2 c2) (k0_pay225 u3 c3) = k0_pay227 u0 c0 u1 c1 u2 c2 u3 c3 := rfl
theorem v3_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay229 (k0_pay228 u0 c0) u1 c1 u2 c2 u3 c3 = k0_pay227 u0 c0 u1 c1 u2 c2 u3 c3 := rfl
theorem v4_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay232 (k0_pay230 u0 c0 u1 c1) (k0_pay231 u2 c2) u3 c3 = k0_pay227 u0 c0 u1 c1 u2 c2 u3 c3 := rfl
theorem v5_eq (u0 : Vec F S320x128 .f32) (c0 : Vec F S1x128 .f32) (u1 : Vec F S320x128 .f32) (c1 : Vec F S1x128 .f32) (u2 : Vec F S320x128 .f32) (c2 : Vec F S1x128 .f32) (u3 : Vec F S320x128 .f32) (c3 : Vec F S1x128 .f32) :
    k0_pay233 u0 c0 u1 c1 u2 c2 u3 c3 = k0_pay227 u0 c0 u1 c1 u2 c2 u3 c3 := rfl

/-- What a grid point stores when it starts a sequence. -/
theorem run_A (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : cond0_0 i) (x0 : Vec F S1x320x1024 .f32) (x1 : Vec F S1x1024 .f32) (x2 : Vec F S1024x3328 .bf16) (x3 : Vec F S4x2304 .f32) (x4 : Vec F S8x128 .f32) (x5 : Vec F S1x128 .f32) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).1
      = (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15
      (View.readAt (Elt F) arg7.view (Rect.unit (s := S1x128) ![0, 0] S1x128.size inb_S1x128_S1x128_0_0).toLoadRect (harg7.unread x5))
      (arg10.view.writes (Elt F) arg10.view.junk (qL arg9.view (arg9.view.writes (Elt F) arg9.view.junk (convP i arg2.view (harg2.unread x0) arg3.view (harg3.unread x1) arg4.view (harg4.unread x2) ++ zeroP)) (arg9.view.writes (Elt F) arg9.view.junk (convP i arg2.view (harg2.unread x0) arg3.view (harg3.unread x1) arg4.view (harg4.unread x2) ++ zeroP)) arg5.view (harg5.unread x3))) (arg11.view.writes (Elt F) arg11.view.junk (kL arg9.view (arg9.view.writes (Elt F) arg9.view.junk (convP i arg2.view (harg2.unread x0) arg3.view (harg3.unread x1) arg4.view (harg4.unread x2) ++ zeroP)) (arg9.view.writes (Elt F) arg9.view.junk (convP i arg2.view (harg2.unread x0) arg3.view (harg3.unread x1) arg4.view (harg4.unread x2) ++ zeroP)) arg5.view (harg5.unread x3))) (arg12.view.writes (Elt F) arg12.view.junk (vL arg9.view (arg9.view.writes (Elt F) arg9.view.junk (convP i arg2.view (harg2.unread x0) arg3.view (harg3.unread x1) arg4.view (harg4.unread x2) ++ zeroP)) (arg9.view.writes (Elt F) arg9.view.junk (convP i arg2.view (harg2.unread x0) arg3.view (harg3.unread x1) arg4.view (harg4.unread x2) ++ zeroP)) arg5.view (harg5.unread x3)))
      (arg13.view.writes (Elt F) arg13.view.junk (zL i arg2.view (harg2.unread x0) arg3.view (harg3.unread x1) arg4.view (harg4.unread x2))) (arg14.view.writes (Elt F) arg14.view.junk (gbL i arg2.view (harg2.unread x0) arg3.view (harg3.unread x1) arg4.view (harg4.unread x2) arg6.view (harg6.unread x4)))
      arg8.view.junk (arg15.view.writes (Elt F) arg15.view.junk zeroS) (Scf.trips k0_t1_loop.lb k0_t1_loop.ub k0_t1_loop.st)).1
    ∧ (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.1
      = ⟨Rect.unit (s := S328x2304) ![0, 0] S8x2304.size inb_S328x2304_S8x2304_0_0, k0_pay1 (View.readAt (Elt F) arg9.view (Rect.unit (s := S328x2304) ![320, 0] S8x2304.size inb_S328x2304_S8x2304_320_0).toLoadRect (arg9.view.writes (Elt F) arg9.view.junk (convP i arg2.view (harg2.unread x0) arg3.view (harg3.unread x1) arg4.view (harg4.unread x2) ++ zeroP)))⟩ :: (convP i arg2.view (harg2.unread x0) arg3.view (harg3.unread x1) arg4.view (harg4.unread x2) ++ zeroP)
    ∧ (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5).2.2.1
      = (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15
      (View.readAt (Elt F) arg7.view (Rect.unit (s := S1x128) ![0, 0] S1x128.size inb_S1x128_S1x128_0_0).toLoadRect (harg7.unread x5))
      (arg10.view.writes (Elt F) arg10.view.junk (qL arg9.view (arg9.view.writes (Elt F) arg9.view.junk (convP i arg2.view (harg2.unread x0) arg3.view (harg3.unread x1) arg4.view (harg4.unread x2) ++ zeroP)) (arg9.view.writes (Elt F) arg9.view.junk (convP i arg2.view (harg2.unread x0) arg3.view (harg3.unread x1) arg4.view (harg4.unread x2) ++ zeroP)) arg5.view (harg5.unread x3))) (arg11.view.writes (Elt F) arg11.view.junk (kL arg9.view (arg9.view.writes (Elt F) arg9.view.junk (convP i arg2.view (harg2.unread x0) arg3.view (harg3.unread x1) arg4.view (harg4.unread x2) ++ zeroP)) (arg9.view.writes (Elt F) arg9.view.junk (convP i arg2.view (harg2.unread x0) arg3.view (harg3.unread x1) arg4.view (harg4.unread x2) ++ zeroP)) arg5.view (harg5.unread x3))) (arg12.view.writes (Elt F) arg12.view.junk (vL arg9.view (arg9.view.writes (Elt F) arg9.view.junk (convP i arg2.view (harg2.unread x0) arg3.view (harg3.unread x1) arg4.view (harg4.unread x2) ++ zeroP)) (arg9.view.writes (Elt F) arg9.view.junk (convP i arg2.view (harg2.unread x0) arg3.view (harg3.unread x1) arg4.view (harg4.unread x2) ++ zeroP)) arg5.view (harg5.unread x3)))
      (arg13.view.writes (Elt F) arg13.view.junk (zL i arg2.view (harg2.unread x0) arg3.view (harg3.unread x1) arg4.view (harg4.unread x2))) (arg14.view.writes (Elt F) arg14.view.junk (gbL i arg2.view (harg2.unread x0) arg3.view (harg3.unread x1) arg4.view (harg4.unread x2) arg6.view (harg6.unread x4)))
      arg8.view.junk (arg15.view.writes (Elt F) arg15.view.junk zeroS) (Scf.trips k0_t1_loop.lb k0_t1_loop.ub k0_t1_loop.st)).2 ++ zeroS := by
  unfold kernelRun0_A
  dsimp only
  sl_unfold_run_names
  exact ⟨rfl, rfl, rfl⟩

/-- What a grid point stores when it continues a sequence. -/
theorem run_B (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : ¬cond0_0 i) (x0 : Vec F S1x320x1024 .f32) (x1 : Vec F S1x1024 .f32) (x2 : Vec F S1024x3328 .bf16) (x3 : Vec F S4x2304 .f32) (x4 : Vec F S8x128 .f32) (x5 : Vec F S1x128 .f32) (xs0 : Vec F S328x2304 .f32) (xs6 : Vec F S6x128x128 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6).1
      = (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15
      (View.readAt (Elt F) arg7.view (Rect.unit (s := S1x128) ![0, 0] S1x128.size inb_S1x128_S1x128_0_0).toLoadRect (harg7.unread x5))
      (arg10.view.writes (Elt F) arg10.view.junk (qL arg9.view (arg9.view.writes (Elt F) (harg9.unread xs0) (convP i arg2.view (harg2.unread x0) arg3.view (harg3.unread x1) arg4.view (harg4.unread x2))) (arg9.view.writes (Elt F) arg9.view.junk (convP i arg2.view (harg2.unread x0) arg3.view (harg3.unread x1) arg4.view (harg4.unread x2))) arg5.view (harg5.unread x3))) (arg11.view.writes (Elt F) arg11.view.junk (kL arg9.view (arg9.view.writes (Elt F) (harg9.unread xs0) (convP i arg2.view (harg2.unread x0) arg3.view (harg3.unread x1) arg4.view (harg4.unread x2))) (arg9.view.writes (Elt F) arg9.view.junk (convP i arg2.view (harg2.unread x0) arg3.view (harg3.unread x1) arg4.view (harg4.unread x2))) arg5.view (harg5.unread x3))) (arg12.view.writes (Elt F) arg12.view.junk (vL arg9.view (arg9.view.writes (Elt F) (harg9.unread xs0) (convP i arg2.view (harg2.unread x0) arg3.view (harg3.unread x1) arg4.view (harg4.unread x2))) (arg9.view.writes (Elt F) arg9.view.junk (convP i arg2.view (harg2.unread x0) arg3.view (harg3.unread x1) arg4.view (harg4.unread x2))) arg5.view (harg5.unread x3)))
      (arg13.view.writes (Elt F) arg13.view.junk (zL i arg2.view (harg2.unread x0) arg3.view (harg3.unread x1) arg4.view (harg4.unread x2))) (arg14.view.writes (Elt F) arg14.view.junk (gbL i arg2.view (harg2.unread x0) arg3.view (harg3.unread x1) arg4.view (harg4.unread x2) arg6.view (harg6.unread x4)))
      arg8.view.junk (harg15.unread xs6) (Scf.trips k0_t1_loop.lb k0_t1_loop.ub k0_t1_loop.st)).1
    ∧ (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6).2.1
      = ⟨Rect.unit (s := S328x2304) ![0, 0] S8x2304.size inb_S328x2304_S8x2304_0_0, k0_pay1 (View.readAt (Elt F) arg9.view (Rect.unit (s := S328x2304) ![320, 0] S8x2304.size inb_S328x2304_S8x2304_320_0).toLoadRect (arg9.view.writes (Elt F) arg9.view.junk (convP i arg2.view (harg2.unread x0) arg3.view (harg3.unread x1) arg4.view (harg4.unread x2))))⟩ :: (convP i arg2.view (harg2.unread x0) arg3.view (harg3.unread x1) arg4.view (harg4.unread x2))
    ∧ (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6).2.2.1
      = (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15
      (View.readAt (Elt F) arg7.view (Rect.unit (s := S1x128) ![0, 0] S1x128.size inb_S1x128_S1x128_0_0).toLoadRect (harg7.unread x5))
      (arg10.view.writes (Elt F) arg10.view.junk (qL arg9.view (arg9.view.writes (Elt F) (harg9.unread xs0) (convP i arg2.view (harg2.unread x0) arg3.view (harg3.unread x1) arg4.view (harg4.unread x2))) (arg9.view.writes (Elt F) arg9.view.junk (convP i arg2.view (harg2.unread x0) arg3.view (harg3.unread x1) arg4.view (harg4.unread x2))) arg5.view (harg5.unread x3))) (arg11.view.writes (Elt F) arg11.view.junk (kL arg9.view (arg9.view.writes (Elt F) (harg9.unread xs0) (convP i arg2.view (harg2.unread x0) arg3.view (harg3.unread x1) arg4.view (harg4.unread x2))) (arg9.view.writes (Elt F) arg9.view.junk (convP i arg2.view (harg2.unread x0) arg3.view (harg3.unread x1) arg4.view (harg4.unread x2))) arg5.view (harg5.unread x3))) (arg12.view.writes (Elt F) arg12.view.junk (vL arg9.view (arg9.view.writes (Elt F) (harg9.unread xs0) (convP i arg2.view (harg2.unread x0) arg3.view (harg3.unread x1) arg4.view (harg4.unread x2))) (arg9.view.writes (Elt F) arg9.view.junk (convP i arg2.view (harg2.unread x0) arg3.view (harg3.unread x1) arg4.view (harg4.unread x2))) arg5.view (harg5.unread x3)))
      (arg13.view.writes (Elt F) arg13.view.junk (zL i arg2.view (harg2.unread x0) arg3.view (harg3.unread x1) arg4.view (harg4.unread x2))) (arg14.view.writes (Elt F) arg14.view.junk (gbL i arg2.view (harg2.unread x0) arg3.view (harg3.unread x1) arg4.view (harg4.unread x2) arg6.view (harg6.unread x4)))
      arg8.view.junk (harg15.unread xs6) (Scf.trips k0_t1_loop.lb k0_t1_loop.ub k0_t1_loop.st)).2 := by
  unfold kernelRun0_B
  dsimp only
  sl_unfold_run_names
  exact ⟨rfl, rfl, rfl⟩

end Cert.Delta.K

end
-- ==== Proof.Delta.Rows.lean ====
/- What the scratch buffers hold when the chunk loop starts: the rows of the mixer's queries, keys, values and gate inputs,
   and the lanes of log decays and write strengths. -/
module

public import proofs.«01_k».proof.Proof.Delta.Pre
public import proofs.«01_k».proof.Proof.Delta.Pieces
public import Idealize.ShloMosaic.Lib.WritesUnit

@[expose] public section

set_option maxRecDepth 16384

noncomputable section

namespace Cert.Delta.K

open Idealize.ShloMosaic Idealize.ShloMosaic.TcCoe Idealize.ShloMosaic.Tactic Idealize.ShloMosaic.Pointwise
open Cert.KernelIdeal Cert.KernelIdeal.Gen

variable {W : Weights} {H : ℕ → Fin 1024 → ℝ}

/-- A load from a whole buffer holding `x`. -/
theorem load_unread {sig : RefSig} {κ : Kind} {sp : Space} {s : Shape} {e : EltTy} {Val : EltTy → Type} {v : Memref sig κ sp s e}
    (hv : v.IsWhole) (x : s.Idx → Val e) {off size : Fin s.rank → ℕ} (inb : ∀ a, off a + size a ≤ s.size a)
    (i : (Rect.unit off size inb).shape.Idx) (y : s.Idx) (hy : ∀ a, (y a).val = off a + (i a).val) :
    v.view.readAt Val (Rect.unit off size inb).toLoadRect (hv.unread x) i = x y :=
  (read_unit v.view (hv.unread x) inb i y hy).trans (congrFun (hv.read_unread x) y)

/-- Offsets and a place in a matrix. -/
theorem at2 {n m n' m' : ℕ} {off : Fin 2 → ℕ} {a b : ℕ} (ho : off = ![a, b]) (i : Fin n') (j : Fin m') (r : Fin n) (c : Fin m)
    (hr : r.val = a + i.val) (hc : c.val = b + j.val) :
    ∀ k : Fin 2, ((ix2 r c : (⟨2, ![n, m]⟩ : Shape).Idx) k).val = off k + ((ix2 i j : (⟨2, ![n', m']⟩ : Shape).Idx) k).val := by
  subst ho
  intro k
  match k with
  | ⟨0, _⟩ => exact hr
  | ⟨1, _⟩ => exact hc

/-- The convolution's tap `j` of row `r` lies in row `5 + j + r` of the buffer. -/
def Tap (W : Weights) (H : ℕ → Fin 1024 → ℝ) (x : S328x2304.Idx → EReal) (p : ℕ) (j : Fin 4) : Prop :=
  ∀ (r : Fin 320) (c : Fin 2304), x (ix2 ⟨5 + j.val + r.val, by omega⟩ c) = (up3 W H (p + (r.val + j.val)) c : EReal)

/-- The three rows before row `p`, carried in rows 5 to 7. -/
def Carry (W : Weights) (H : ℕ → Fin 1024 → ℝ) (x : S328x2304.Idx → EReal) (p : ℕ) : Prop :=
  ∀ (s : Fin 3) (c : Fin 2304), x (ix2 ⟨5 + s.val, by omega⟩ c) = (up3 W H (p + s.val) c : EReal)

section

variable {sg : RefSig}

/-- Rows 8 on hold the block's projections. -/
theorem low_at (v : View sg .tc .vmem S328x2304 .f32) (f : v.ty.Contents (Elt Ideal)) {p : ℕ} {w : Vec Ideal S320x2304 .f32}
    (hw : ∀ (r : Fin 320) (c : Fin 2304), w (ix2 r c) = (proj W H (p + r.val) ⟨c.val, by omega⟩ : EReal))
    (L : List (View.Piece (Elt Ideal) S328x2304 .f32)) (s : ℕ) (h3 : 3 ≤ s) (hs : s < 323) (c : Fin 2304) :
    v.read (Elt Ideal) (v.writes (Elt Ideal) f (⟨Rect.unit (s := S328x2304) ![8, 0] S320x2304.size inb_S328x2304_S320x2304_8_0, w⟩ :: L)) (ix2 ⟨5 + s, by omega⟩ c)
      = (up3 W H (p + s) c : EReal) := by
  refine (View.read_writes_cons_unit_of_mem (Val := Elt Ideal) (e := .f32) (s := S328x2304) v f inb_S328x2304_S320x2304_8_0 w L (ix2 ⟨5 + s, by omega⟩ c)
    (ix2 ⟨s - 3, by omega⟩ c) rfl (at2 (a := 8) (b := 0) rfl _ _ _ _ (by show 5 + s = 8 + (s - 3); omega) (Nat.zero_add _).symm)).trans ?_
  rw [hw]
  unfold up3
  rw [if_neg (by omega)]
  congr 2
  show p + (s - 3) = p + s - 3
  omega

/-- Rows above 8 are what they were. -/
theorem high_at (v : View sg .tc .vmem S328x2304 .f32) (f : v.ty.Contents (Elt Ideal)) (w : Vec Ideal S320x2304 .f32)
    (L : List (View.Piece (Elt Ideal) S328x2304 .f32)) (s : ℕ) (hs : s < 3) (c : Fin 2304) :
    v.read (Elt Ideal) (v.writes (Elt Ideal) f (⟨Rect.unit (s := S328x2304) ![8, 0] S320x2304.size inb_S328x2304_S320x2304_8_0, w⟩ :: L)) (ix2 ⟨5 + s, by omega⟩ c)
      = v.read (Elt Ideal) (v.writes (Elt Ideal) f L) (ix2 ⟨5 + s, by omega⟩ c) :=
  View.read_writes_cons_unit_of_not_mem (Val := Elt Ideal) (e := .f32) (s := S328x2304) v f inb_S328x2304_S320x2304_8_0 w L _ rfl ⟨0, by decide⟩
    (Or.inl (by show 5 + s < 8; omega))

/-- All four taps, over the carried rows. -/
theorem taps_of (v : View sg .tc .vmem S328x2304 .f32) (f : v.ty.Contents (Elt Ideal)) {p : ℕ} {w : Vec Ideal S320x2304 .f32}
    (hw : ∀ (r : Fin 320) (c : Fin 2304), w (ix2 r c) = (proj W H (p + r.val) ⟨c.val, by omega⟩ : EReal))
    (L : List (View.Piece (Elt Ideal) S328x2304 .f32)) (hc : Carry W H (v.read (Elt Ideal) (v.writes (Elt Ideal) f L)) p) (j : Fin 4) :
    Tap W H (v.read (Elt Ideal) (v.writes (Elt Ideal) f (⟨Rect.unit (s := S328x2304) ![8, 0] S320x2304.size inb_S328x2304_S320x2304_8_0, w⟩ :: L))) p j := by
  intro r c
  have hi : (⟨5 + j.val + r.val, by omega⟩ : Fin 328) = ⟨5 + (r.val + j.val), by omega⟩ := Fin.ext (by show 5 + j.val + r.val = 5 + (r.val + j.val); omega)
  rw [hi]
  by_cases h : r.val + j.val < 3
  · exact (high_at v f w L _ h c).trans (hc ⟨r.val + j.val, h⟩ c)
  · exact low_at v f hw L _ (by omega) (by omega) c

theorem tap_at (v : View sg .tc .vmem S328x2304 .f32) (f : v.ty.Contents (Elt Ideal)) {p : ℕ} (j : Fin 4)
    (h : Tap W H (v.read (Elt Ideal) f) p j) (ix : Fin 128 → Fin 2304) (lo : ℕ) (hix : ∀ e, (ix e).val = lo + e.val)
    {off : Fin 2 → ℕ} (inb : ∀ a : Fin 2, off a + S320x128.size a ≤ S328x2304.size a) (ho : off = ![5 + j.val, lo]) (r : Fin 320) (e : Fin 128) :
    v.readAt (Elt Ideal) (Rect.unit (s := S328x2304) off S320x128.size inb).toLoadRect f (ix2 r e)
      = (up3 W H (p + (r.val + j.val)) (ix e) : EReal) :=
  (read_unit v f inb (ix2 r e) (ix2 ⟨5 + j.val + r.val, by omega⟩ (ix e)) (at2 ho _ _ _ _ rfl (hix e))).trans (h r (ix e))

theorem cw_at (v : View sg .tc .vmem S4x2304 .f32) (f : v.ty.Contents (Elt Ideal))
    (h : ∀ (j : Fin 4) c, v.read (Elt Ideal) f (ix2 j c) = (W.conv j c : EReal)) (j : Fin 4)
    (ix : Fin 128 → Fin 2304) (lo : ℕ) (hix : ∀ e, (ix e).val = lo + e.val)
    {off : Fin 2 → ℕ} (inb : ∀ a : Fin 2, off a + S1x128.size a ≤ S4x2304.size a) (ho : off = ![j.val, lo]) (e : Fin 128) :
    v.readAt (Elt Ideal) (Rect.unit (s := S4x2304) off S1x128.size inb).toLoadRect f (ix2 0 e) = (W.conv j (ix e) : EReal) :=
  (read_unit v f inb (ix2 0 e) (ix2 j (ix e)) (at2 ho _ _ _ _ (Nat.add_zero _).symm (hix e))).trans (h j (ix e))

/-- A block's six lane tiles as one function. -/
def rowsVal (f : Fin 6 → ℕ → Fin 128 → ℝ) (p : ℕ) (y : S320x768.Idx) : EReal :=
  (f ⟨(y 1).val / 128, by have : (y 1).val < 768 := (y 1).isLt; omega⟩ (p + (y 0).val) ⟨(y 1).val % 128, Nat.mod_lt _ (by norm_num)⟩ : EReal)

theorem rowsVal_at (f : Fin 6 → ℕ → Fin 128 → ℝ) (p : ℕ) (r : Fin 320) (hd : Fin 6) (d : Fin 128) :
    rowsVal f p (ix2 r ⟨128 * hd.val + d.val, by omega⟩) = (f hd (p + r.val) d : EReal) := by
  unfold rowsVal
  congr 2
  · exact Fin.ext (by show (128 * hd.val + d.val) / 128 = hd.val; omega)
  · exact Fin.ext (by show (128 * hd.val + d.val) % 128 = d.val; omega)

theorem rows_piece (f : Fin 6 → ℕ → Fin 128 → ℝ) (p : ℕ) (hd : Fin 6) {off : Fin 2 → ℕ}
    (inb : ∀ a : Fin 2, off a + S320x128.size a ≤ S320x768.size a) (ho : off = ![0, 128 * hd.val]) (w : S320x128.Idx → EReal)
    (hw : ∀ (r : Fin 320) (e : Fin 128), w (ix2 r e) = (f hd (p + r.val) e : EReal)) (x : S320x128.Idx) :
    w x = rowsVal f p ((Rect.unit (s := S320x768) off S320x128.size inb).emb x) := by
  have h0 : (x 0).val < 320 := (x 0).isLt
  have h1 : (x 1).val < 128 := (x 1).isLt
  have hx : x = ix2 (x 0) (x 1) := by
    funext a
    match a with
    | ⟨0, _⟩ => rfl
    | ⟨1, _⟩ => rfl
  refine (congrArg w hx).trans ((hw (x 0) (x 1)).trans ((rowsVal_at f p (x 0) hd (x 1)).symm.trans (congrArg (rowsVal f p) ?_)))
  subst ho
  funext a
  match a with
  | ⟨0, _⟩ => exact Fin.ext (by show (x 0).val = 0 + 1 * (x 0).val; omega)
  | ⟨1, _⟩ => exact Fin.ext (by show 128 * hd.val + (x 1).val = 128 * hd.val + 1 * (x 1).val; omega)

variable {v9 : View sg .tc .vmem S328x2304 .f32} {f9 g9 : v9.ty.Contents (Elt Ideal)} {v5 : View sg .tc .vmem S4x2304 .f32}
  {f5 : v5.ty.Contents (Elt Ideal)} {p : ℕ}
  (hu0 : Tap W H (v9.read (Elt Ideal) f9) p 0) (hu1 : Tap W H (v9.read (Elt Ideal) f9) p 1) (hu2 : Tap W H (v9.read (Elt Ideal) f9) p 2)
  (hu3 : Tap W H (v9.read (Elt Ideal) g9) p 3) (h5 : ∀ (j : Fin 4) c, v5.read (Elt Ideal) f5 (ix2 j c) = (W.conv j c : EReal))

include hu0 hu1 hu2 hu3 h5

theorem convN_rows (ix : Fin 128 → Fin 2304) (lo : ℕ) (hix : ∀ e, (ix e).val = lo + e.val)
    {a0 : Fin 2 → ℕ} (i0 : ∀ a : Fin 2, a0 a + S320x128.size a ≤ S328x2304.size a) (ha0 : a0 = ![5, lo]) {a1 : Fin 2 → ℕ} (i1 : ∀ a : Fin 2, a1 a + S320x128.size a ≤ S328x2304.size a) (ha1 : a1 = ![6, lo]) {a2 : Fin 2 → ℕ} (i2 : ∀ a : Fin 2, a2 a + S320x128.size a ≤ S328x2304.size a) (ha2 : a2 = ![7, lo]) {a3 : Fin 2 → ℕ} (i3 : ∀ a : Fin 2, a3 a + S320x128.size a ≤ S328x2304.size a) (ha3 : a3 = ![8, lo])
    {b0 : Fin 2 → ℕ} (j0 : ∀ a : Fin 2, b0 a + S1x128.size a ≤ S4x2304.size a) (hb0 : b0 = ![0, lo]) {b1 : Fin 2 → ℕ} (j1 : ∀ a : Fin 2, b1 a + S1x128.size a ≤ S4x2304.size a) (hb1 : b1 = ![1, lo]) {b2 : Fin 2 → ℕ} (j2 : ∀ a : Fin 2, b2 a + S1x128.size a ≤ S4x2304.size a) (hb2 : b2 = ![2, lo]) {b3 : Fin 2 → ℕ} (j3 : ∀ a : Fin 2, b3 a + S1x128.size a ≤ S4x2304.size a) (hb3 : b3 = ![3, lo]) (r : Fin 320) (e : Fin 128) :
    k0_pay201 (v9.readAt (Elt Ideal) (Rect.unit (s := S328x2304) a0 S320x128.size i0).toLoadRect f9) (v5.readAt (Elt Ideal) (Rect.unit (s := S4x2304) b0 S1x128.size j0).toLoadRect f5) (v9.readAt (Elt Ideal) (Rect.unit (s := S328x2304) a1 S320x128.size i1).toLoadRect f9) (v5.readAt (Elt Ideal) (Rect.unit (s := S4x2304) b1 S1x128.size j1).toLoadRect f5) (v9.readAt (Elt Ideal) (Rect.unit (s := S328x2304) a2 S320x128.size i2).toLoadRect f9) (v5.readAt (Elt Ideal) (Rect.unit (s := S4x2304) b2 S1x128.size j2).toLoadRect f5) (v9.readAt (Elt Ideal) (Rect.unit (s := S328x2304) a3 S320x128.size i3).toLoadRect g9) (v5.readAt (Elt Ideal) (Rect.unit (s := S4x2304) b3 S1x128.size j3).toLoadRect f5) (ix2 r e) = (unit (fun e => mixed W H (p + r.val) (ix e)) e : EReal) :=
  convN_at (U := fun n e => up3 W H (p + n) (ix e)) (C := fun j e => W.conv j (ix e))
    (fun r e => tap_at v9 f9 0 hu0 ix lo hix i0 ha0 r e) (fun r e => tap_at v9 f9 1 hu1 ix lo hix i1 ha1 r e) (fun r e => tap_at v9 f9 2 hu2 ix lo hix i2 ha2 r e) (fun r e => tap_at v9 g9 3 hu3 ix lo hix i3 ha3 r e) (fun e => cw_at v5 f5 h5 0 ix lo hix j0 hb0 e) (fun e => cw_at v5 f5 h5 1 ix lo hix j1 hb1 e) (fun e => cw_at v5 f5 h5 2 ix lo hix j2 hb2 e) (fun e => cw_at v5 f5 h5 3 ix lo hix j3 hb3 e) r e

theorem convV_rows (ix : Fin 128 → Fin 2304) (lo : ℕ) (hix : ∀ e, (ix e).val = lo + e.val)
    {a0 : Fin 2 → ℕ} (i0 : ∀ a : Fin 2, a0 a + S320x128.size a ≤ S328x2304.size a) (ha0 : a0 = ![5, lo]) {a1 : Fin 2 → ℕ} (i1 : ∀ a : Fin 2, a1 a + S320x128.size a ≤ S328x2304.size a) (ha1 : a1 = ![6, lo]) {a2 : Fin 2 → ℕ} (i2 : ∀ a : Fin 2, a2 a + S320x128.size a ≤ S328x2304.size a) (ha2 : a2 = ![7, lo]) {a3 : Fin 2 → ℕ} (i3 : ∀ a : Fin 2, a3 a + S320x128.size a ≤ S328x2304.size a) (ha3 : a3 = ![8, lo])
    {b0 : Fin 2 → ℕ} (j0 : ∀ a : Fin 2, b0 a + S1x128.size a ≤ S4x2304.size a) (hb0 : b0 = ![0, lo]) {b1 : Fin 2 → ℕ} (j1 : ∀ a : Fin 2, b1 a + S1x128.size a ≤ S4x2304.size a) (hb1 : b1 = ![1, lo]) {b2 : Fin 2 → ℕ} (j2 : ∀ a : Fin 2, b2 a + S1x128.size a ≤ S4x2304.size a) (hb2 : b2 = ![2, lo]) {b3 : Fin 2 → ℕ} (j3 : ∀ a : Fin 2, b3 a + S1x128.size a ≤ S4x2304.size a) (hb3 : b3 = ![3, lo]) (r : Fin 320) (e : Fin 128) :
    k0_pay227 (v9.readAt (Elt Ideal) (Rect.unit (s := S328x2304) a0 S320x128.size i0).toLoadRect f9) (v5.readAt (Elt Ideal) (Rect.unit (s := S4x2304) b0 S1x128.size j0).toLoadRect f5) (v9.readAt (Elt Ideal) (Rect.unit (s := S328x2304) a1 S320x128.size i1).toLoadRect f9) (v5.readAt (Elt Ideal) (Rect.unit (s := S4x2304) b1 S1x128.size j1).toLoadRect f5) (v9.readAt (Elt Ideal) (Rect.unit (s := S328x2304) a2 S320x128.size i2).toLoadRect f9) (v5.readAt (Elt Ideal) (Rect.unit (s := S4x2304) b2 S1x128.size j2).toLoadRect f5) (v9.readAt (Elt Ideal) (Rect.unit (s := S328x2304) a3 S320x128.size i3).toLoadRect g9) (v5.readAt (Elt Ideal) (Rect.unit (s := S4x2304) b3 S1x128.size j3).toLoadRect f5) (ix2 r e) = (mixed W H (p + r.val) (ix e) : EReal) :=
  convV_at (U := fun n e => up3 W H (p + n) (ix e)) (C := fun j e => W.conv j (ix e))
    (fun r e => tap_at v9 f9 0 hu0 ix lo hix i0 ha0 r e) (fun r e => tap_at v9 f9 1 hu1 ix lo hix i1 ha1 r e) (fun r e => tap_at v9 f9 2 hu2 ix lo hix i2 ha2 r e) (fun r e => tap_at v9 g9 3 hu3 ix lo hix i3 ha3 r e) (fun e => cw_at v5 f5 h5 0 ix lo hix j0 hb0 e) (fun e => cw_at v5 f5 h5 1 ix lo hix j1 hb1 e) (fun e => cw_at v5 f5 h5 2 ix lo hix j2 hb2 e) (fun e => cw_at v5 f5 h5 3 ix lo hix j3 hb3 e) r e

theorem qL_rows (v10 : View sg .tc .vmem S320x768 .f32) (f10 : v10.ty.Contents (Elt Ideal)) :
    Rows (v10.read (Elt Ideal) (v10.writes (Elt Ideal) f10 (qL v9 f9 g9 v5 f5))) (qv W H) p := by
  intro r hd d
  refine (View.read_writes_apply_of_pieces (Val := Elt Ideal) (e := .f32) v10 f10 (rowsVal (qv W H) p) (qL v9 f9 g9 v5 f5) ?_ (ix2 r ⟨128 * hd.val + d.val, by omega⟩) ?_).trans (rowsVal_at _ _ r hd d)
  · intro q hq x
    simp only [qL, List.mem_cons, List.not_mem_nil, or_false] at hq
    rcases hq with rfl | rfl | rfl | rfl | rfl | rfl
    · exact rows_piece (qv W H) p 5 (off := ![0, 640]) inb_S320x768_S320x128_0_640 rfl _ (fun r e => (congrFun (q5_eq ..) _).trans (convN_rows hu0 hu1 hu2 hu3 h5 (fun e => ⟨128 * (5 : Fin 6).val + e.val, by have : (5 : Fin 6).val = 5 := rfl; omega⟩) 640 (fun e => by show 128 * (5 : Fin 6).val + e.val = 640 + e.val; have : (5 : Fin 6).val = 5 := rfl; omega) inb_S328x2304_S320x128_5_640 rfl inb_S328x2304_S320x128_6_640 rfl inb_S328x2304_S320x128_7_640 rfl inb_S328x2304_S320x128_8_640 rfl inb_S4x2304_S1x128_0_640 rfl inb_S4x2304_S1x128_1_640 rfl inb_S4x2304_S1x128_2_640 rfl inb_S4x2304_S1x128_3_640 rfl r e)) x
    · exact rows_piece (qv W H) p 4 (off := ![0, 512]) inb_S320x768_S320x128_0_512 rfl _ (fun r e => (congrFun (q4_eq ..) _).trans (convN_rows hu0 hu1 hu2 hu3 h5 (fun e => ⟨128 * (4 : Fin 6).val + e.val, by have : (4 : Fin 6).val = 4 := rfl; omega⟩) 512 (fun e => by show 128 * (4 : Fin 6).val + e.val = 512 + e.val; have : (4 : Fin 6).val = 4 := rfl; omega) inb_S328x2304_S320x128_5_512 rfl inb_S328x2304_S320x128_6_512 rfl inb_S328x2304_S320x128_7_512 rfl inb_S328x2304_S320x128_8_512 rfl inb_S4x2304_S1x128_0_512 rfl inb_S4x2304_S1x128_1_512 rfl inb_S4x2304_S1x128_2_512 rfl inb_S4x2304_S1x128_3_512 rfl r e)) x
    · exact rows_piece (qv W H) p 3 (off := ![0, 384]) inb_S320x768_S320x128_0_384 rfl _ (fun r e => (congrFun (q3_eq ..) _).trans (convN_rows hu0 hu1 hu2 hu3 h5 (fun e => ⟨128 * (3 : Fin 6).val + e.val, by have : (3 : Fin 6).val = 3 := rfl; omega⟩) 384 (fun e => by show 128 * (3 : Fin 6).val + e.val = 384 + e.val; have : (3 : Fin 6).val = 3 := rfl; omega) inb_S328x2304_S320x128_5_384 rfl inb_S328x2304_S320x128_6_384 rfl inb_S328x2304_S320x128_7_384 rfl inb_S328x2304_S320x128_8_384 rfl inb_S4x2304_S1x128_0_384 rfl inb_S4x2304_S1x128_1_384 rfl inb_S4x2304_S1x128_2_384 rfl inb_S4x2304_S1x128_3_384 rfl r e)) x
    · exact rows_piece (qv W H) p 2 (off := ![0, 256]) inb_S320x768_S320x128_0_256 rfl _ (fun r e => (congrFun (q2_eq ..) _).trans (convN_rows hu0 hu1 hu2 hu3 h5 (fun e => ⟨128 * (2 : Fin 6).val + e.val, by have : (2 : Fin 6).val = 2 := rfl; omega⟩) 256 (fun e => by show 128 * (2 : Fin 6).val + e.val = 256 + e.val; have : (2 : Fin 6).val = 2 := rfl; omega) inb_S328x2304_S320x128_5_256 rfl inb_S328x2304_S320x128_6_256 rfl inb_S328x2304_S320x128_7_256 rfl inb_S328x2304_S320x128_8_256 rfl inb_S4x2304_S1x128_0_256 rfl inb_S4x2304_S1x128_1_256 rfl inb_S4x2304_S1x128_2_256 rfl inb_S4x2304_S1x128_3_256 rfl r e)) x
    · exact rows_piece (qv W H) p 1 (off := ![0, 128]) inb_S320x768_S320x128_0_128 rfl _ (fun r e => (congrFun (q1_eq ..) _).trans (convN_rows hu0 hu1 hu2 hu3 h5 (fun e => ⟨128 * (1 : Fin 6).val + e.val, by have : (1 : Fin 6).val = 1 := rfl; omega⟩) 128 (fun e => by show 128 * (1 : Fin 6).val + e.val = 128 + e.val; have : (1 : Fin 6).val = 1 := rfl; omega) inb_S328x2304_S320x128_5_128 rfl inb_S328x2304_S320x128_6_128 rfl inb_S328x2304_S320x128_7_128 rfl inb_S328x2304_S320x128_8_128 rfl inb_S4x2304_S1x128_0_128 rfl inb_S4x2304_S1x128_1_128 rfl inb_S4x2304_S1x128_2_128 rfl inb_S4x2304_S1x128_3_128 rfl r e)) x
    · exact rows_piece (qv W H) p 0 (off := ![0, 0]) inb_S320x768_S320x128_0_0 rfl _ (fun r e => convN_rows hu0 hu1 hu2 hu3 h5 (fun e => ⟨128 * (0 : Fin 6).val + e.val, by have : (0 : Fin 6).val = 0 := rfl; omega⟩) 0 (fun e => by show 128 * (0 : Fin 6).val + e.val = 0 + e.val; have : (0 : Fin 6).val = 0 := rfl; omega) inb_S328x2304_S320x128_5_0 rfl inb_S328x2304_S320x128_6_0 rfl inb_S328x2304_S320x128_7_0 rfl inb_S328x2304_S320x128_8_0 rfl inb_S4x2304_S1x128_0_0 rfl inb_S4x2304_S1x128_1_0 rfl inb_S4x2304_S1x128_2_0 rfl inb_S4x2304_S1x128_3_0 rfl r e) x
  · exact View.cover_of_tiledL (s := S320x768) _ S320x128.size (by sl_kernel_rfl) _

theorem kL_rows (v10 : View sg .tc .vmem S320x768 .f32) (f10 : v10.ty.Contents (Elt Ideal)) :
    Rows (v10.read (Elt Ideal) (v10.writes (Elt Ideal) f10 (kL v9 f9 g9 v5 f5))) (kv W H) p := by
  intro r hd d
  refine (View.read_writes_apply_of_pieces (Val := Elt Ideal) (e := .f32) v10 f10 (rowsVal (kv W H) p) (kL v9 f9 g9 v5 f5) ?_ (ix2 r ⟨128 * hd.val + d.val, by omega⟩) ?_).trans (rowsVal_at _ _ r hd d)
  · intro q hq x
    simp only [kL, List.mem_cons, List.not_mem_nil, or_false] at hq
    rcases hq with rfl | rfl | rfl | rfl | rfl | rfl
    · exact rows_piece (kv W H) p 5 (off := ![0, 640]) inb_S320x768_S320x128_0_640 rfl _ (fun r e => (congrFun (k5_eq ..) _).trans (convN_rows hu0 hu1 hu2 hu3 h5 (fun e => ⟨768 + (128 * (5 : Fin 6).val + e.val), by have : (5 : Fin 6).val = 5 := rfl; omega⟩) 1408 (fun e => by show 768 + (128 * (5 : Fin 6).val + e.val) = 1408 + e.val; have : (5 : Fin 6).val = 5 := rfl; omega) inb_S328x2304_S320x128_5_1408 rfl inb_S328x2304_S320x128_6_1408 rfl inb_S328x2304_S320x128_7_1408 rfl inb_S328x2304_S320x128_8_1408 rfl inb_S4x2304_S1x128_0_1408 rfl inb_S4x2304_S1x128_1_1408 rfl inb_S4x2304_S1x128_2_1408 rfl inb_S4x2304_S1x128_3_1408 rfl r e)) x
    · exact rows_piece (kv W H) p 4 (off := ![0, 512]) inb_S320x768_S320x128_0_512 rfl _ (fun r e => (congrFun (k4_eq ..) _).trans (convN_rows hu0 hu1 hu2 hu3 h5 (fun e => ⟨768 + (128 * (4 : Fin 6).val + e.val), by have : (4 : Fin 6).val = 4 := rfl; omega⟩) 1280 (fun e => by show 768 + (128 * (4 : Fin 6).val + e.val) = 1280 + e.val; have : (4 : Fin 6).val = 4 := rfl; omega) inb_S328x2304_S320x128_5_1280 rfl inb_S328x2304_S320x128_6_1280 rfl inb_S328x2304_S320x128_7_1280 rfl inb_S328x2304_S320x128_8_1280 rfl inb_S4x2304_S1x128_0_1280 rfl inb_S4x2304_S1x128_1_1280 rfl inb_S4x2304_S1x128_2_1280 rfl inb_S4x2304_S1x128_3_1280 rfl r e)) x
    · exact rows_piece (kv W H) p 3 (off := ![0, 384]) inb_S320x768_S320x128_0_384 rfl _ (fun r e => (congrFun (k3_eq ..) _).trans (convN_rows hu0 hu1 hu2 hu3 h5 (fun e => ⟨768 + (128 * (3 : Fin 6).val + e.val), by have : (3 : Fin 6).val = 3 := rfl; omega⟩) 1152 (fun e => by show 768 + (128 * (3 : Fin 6).val + e.val) = 1152 + e.val; have : (3 : Fin 6).val = 3 := rfl; omega) inb_S328x2304_S320x128_5_1152 rfl inb_S328x2304_S320x128_6_1152 rfl inb_S328x2304_S320x128_7_1152 rfl inb_S328x2304_S320x128_8_1152 rfl inb_S4x2304_S1x128_0_1152 rfl inb_S4x2304_S1x128_1_1152 rfl inb_S4x2304_S1x128_2_1152 rfl inb_S4x2304_S1x128_3_1152 rfl r e)) x
    · exact rows_piece (kv W H) p 2 (off := ![0, 256]) inb_S320x768_S320x128_0_256 rfl _ (fun r e => (congrFun (k2_eq ..) _).trans (convN_rows hu0 hu1 hu2 hu3 h5 (fun e => ⟨768 + (128 * (2 : Fin 6).val + e.val), by have : (2 : Fin 6).val = 2 := rfl; omega⟩) 1024 (fun e => by show 768 + (128 * (2 : Fin 6).val + e.val) = 1024 + e.val; have : (2 : Fin 6).val = 2 := rfl; omega) inb_S328x2304_S320x128_5_1024 rfl inb_S328x2304_S320x128_6_1024 rfl inb_S328x2304_S320x128_7_1024 rfl inb_S328x2304_S320x128_8_1024 rfl inb_S4x2304_S1x128_0_1024 rfl inb_S4x2304_S1x128_1_1024 rfl inb_S4x2304_S1x128_2_1024 rfl inb_S4x2304_S1x128_3_1024 rfl r e)) x
    · exact rows_piece (kv W H) p 1 (off := ![0, 128]) inb_S320x768_S320x128_0_128 rfl _ (fun r e => (congrFun (k1_eq ..) _).trans (convN_rows hu0 hu1 hu2 hu3 h5 (fun e => ⟨768 + (128 * (1 : Fin 6).val + e.val), by have : (1 : Fin 6).val = 1 := rfl; omega⟩) 896 (fun e => by show 768 + (128 * (1 : Fin 6).val + e.val) = 896 + e.val; have : (1 : Fin 6).val = 1 := rfl; omega) inb_S328x2304_S320x128_5_896 rfl inb_S328x2304_S320x128_6_896 rfl inb_S328x2304_S320x128_7_896 rfl inb_S328x2304_S320x128_8_896 rfl inb_S4x2304_S1x128_0_896 rfl inb_S4x2304_S1x128_1_896 rfl inb_S4x2304_S1x128_2_896 rfl inb_S4x2304_S1x128_3_896 rfl r e)) x
    · exact rows_piece (kv W H) p 0 (off := ![0, 0]) inb_S320x768_S320x128_0_0 rfl _ (fun r e => (congrFun (k0_eq ..) _).trans (convN_rows hu0 hu1 hu2 hu3 h5 (fun e => ⟨768 + (128 * (0 : Fin 6).val + e.val), by have : (0 : Fin 6).val = 0 := rfl; omega⟩) 768 (fun e => by show 768 + (128 * (0 : Fin 6).val + e.val) = 768 + e.val; have : (0 : Fin 6).val = 0 := rfl; omega) inb_S328x2304_S320x128_5_768 rfl inb_S328x2304_S320x128_6_768 rfl inb_S328x2304_S320x128_7_768 rfl inb_S328x2304_S320x128_8_768 rfl inb_S4x2304_S1x128_0_768 rfl inb_S4x2304_S1x128_1_768 rfl inb_S4x2304_S1x128_2_768 rfl inb_S4x2304_S1x128_3_768 rfl r e)) x
  · exact View.cover_of_tiledL (s := S320x768) _ S320x128.size (by sl_kernel_rfl) _

theorem vL_rows (v10 : View sg .tc .vmem S320x768 .f32) (f10 : v10.ty.Contents (Elt Ideal)) :
    Rows (v10.read (Elt Ideal) (v10.writes (Elt Ideal) f10 (vL v9 f9 g9 v5 f5))) (vv W H) p := by
  intro r hd d
  refine (View.read_writes_apply_of_pieces (Val := Elt Ideal) (e := .f32) v10 f10 (rowsVal (vv W H) p) (vL v9 f9 g9 v5 f5) ?_ (ix2 r ⟨128 * hd.val + d.val, by omega⟩) ?_).trans (rowsVal_at _ _ r hd d)
  · intro q hq x
    simp only [vL, List.mem_cons, List.not_mem_nil, or_false] at hq
    rcases hq with rfl | rfl | rfl | rfl | rfl | rfl
    · exact rows_piece (vv W H) p 5 (off := ![0, 640]) inb_S320x768_S320x128_0_640 rfl _ (fun r e => (congrFun (v5_eq ..) _).trans (convV_rows hu0 hu1 hu2 hu3 h5 (fun e => ⟨1536 + (128 * (5 : Fin 6).val + e.val), by have : (5 : Fin 6).val = 5 := rfl; omega⟩) 2176 (fun e => by show 1536 + (128 * (5 : Fin 6).val + e.val) = 2176 + e.val; have : (5 : Fin 6).val = 5 := rfl; omega) inb_S328x2304_S320x128_5_2176 rfl inb_S328x2304_S320x128_6_2176 rfl inb_S328x2304_S320x128_7_2176 rfl inb_S328x2304_S320x128_8_2176 rfl inb_S4x2304_S1x128_0_2176 rfl inb_S4x2304_S1x128_1_2176 rfl inb_S4x2304_S1x128_2_2176 rfl inb_S4x2304_S1x128_3_2176 rfl r e)) x
    · exact rows_piece (vv W H) p 4 (off := ![0, 512]) inb_S320x768_S320x128_0_512 rfl _ (fun r e => (congrFun (v4_eq ..) _).trans (convV_rows hu0 hu1 hu2 hu3 h5 (fun e => ⟨1536 + (128 * (4 : Fin 6).val + e.val), by have : (4 : Fin 6).val = 4 := rfl; omega⟩) 2048 (fun e => by show 1536 + (128 * (4 : Fin 6).val + e.val) = 2048 + e.val; have : (4 : Fin 6).val = 4 := rfl; omega) inb_S328x2304_S320x128_5_2048 rfl inb_S328x2304_S320x128_6_2048 rfl inb_S328x2304_S320x128_7_2048 rfl inb_S328x2304_S320x128_8_2048 rfl inb_S4x2304_S1x128_0_2048 rfl inb_S4x2304_S1x128_1_2048 rfl inb_S4x2304_S1x128_2_2048 rfl inb_S4x2304_S1x128_3_2048 rfl r e)) x
    · exact rows_piece (vv W H) p 3 (off := ![0, 384]) inb_S320x768_S320x128_0_384 rfl _ (fun r e => (congrFun (v3_eq ..) _).trans (convV_rows hu0 hu1 hu2 hu3 h5 (fun e => ⟨1536 + (128 * (3 : Fin 6).val + e.val), by have : (3 : Fin 6).val = 3 := rfl; omega⟩) 1920 (fun e => by show 1536 + (128 * (3 : Fin 6).val + e.val) = 1920 + e.val; have : (3 : Fin 6).val = 3 := rfl; omega) inb_S328x2304_S320x128_5_1920 rfl inb_S328x2304_S320x128_6_1920 rfl inb_S328x2304_S320x128_7_1920 rfl inb_S328x2304_S320x128_8_1920 rfl inb_S4x2304_S1x128_0_1920 rfl inb_S4x2304_S1x128_1_1920 rfl inb_S4x2304_S1x128_2_1920 rfl inb_S4x2304_S1x128_3_1920 rfl r e)) x
    · exact rows_piece (vv W H) p 2 (off := ![0, 256]) inb_S320x768_S320x128_0_256 rfl _ (fun r e => convV_rows hu0 hu1 hu2 hu3 h5 (fun e => ⟨1536 + (128 * (2 : Fin 6).val + e.val), by have : (2 : Fin 6).val = 2 := rfl; omega⟩) 1792 (fun e => by show 1536 + (128 * (2 : Fin 6).val + e.val) = 1792 + e.val; have : (2 : Fin 6).val = 2 := rfl; omega) inb_S328x2304_S320x128_5_1792 rfl inb_S328x2304_S320x128_6_1792 rfl inb_S328x2304_S320x128_7_1792 rfl inb_S328x2304_S320x128_8_1792 rfl inb_S4x2304_S1x128_0_1792 rfl inb_S4x2304_S1x128_1_1792 rfl inb_S4x2304_S1x128_2_1792 rfl inb_S4x2304_S1x128_3_1792 rfl r e) x
    · exact rows_piece (vv W H) p 1 (off := ![0, 128]) inb_S320x768_S320x128_0_128 rfl _ (fun r e => (congrFun (v1_eq ..) _).trans (convV_rows hu0 hu1 hu2 hu3 h5 (fun e => ⟨1536 + (128 * (1 : Fin 6).val + e.val), by have : (1 : Fin 6).val = 1 := rfl; omega⟩) 1664 (fun e => by show 1536 + (128 * (1 : Fin 6).val + e.val) = 1664 + e.val; have : (1 : Fin 6).val = 1 := rfl; omega) inb_S328x2304_S320x128_5_1664 rfl inb_S328x2304_S320x128_6_1664 rfl inb_S328x2304_S320x128_7_1664 rfl inb_S328x2304_S320x128_8_1664 rfl inb_S4x2304_S1x128_0_1664 rfl inb_S4x2304_S1x128_1_1664 rfl inb_S4x2304_S1x128_2_1664 rfl inb_S4x2304_S1x128_3_1664 rfl r e)) x
    · exact rows_piece (vv W H) p 0 (off := ![0, 0]) inb_S320x768_S320x128_0_0 rfl _ (fun r e => (congrFun (v0_eq ..) _).trans (convV_rows hu0 hu1 hu2 hu3 h5 (fun e => ⟨1536 + (128 * (0 : Fin 6).val + e.val), by have : (0 : Fin 6).val = 0 := rfl; omega⟩) 1536 (fun e => by show 1536 + (128 * (0 : Fin 6).val + e.val) = 1536 + e.val; have : (0 : Fin 6).val = 0 := rfl; omega) inb_S328x2304_S320x128_5_1536 rfl inb_S328x2304_S320x128_6_1536 rfl inb_S328x2304_S320x128_7_1536 rfl inb_S328x2304_S320x128_8_1536 rfl inb_S4x2304_S1x128_0_1536 rfl inb_S4x2304_S1x128_1_1536 rfl inb_S4x2304_S1x128_2_1536 rfl inb_S4x2304_S1x128_3_1536 rfl r e)) x
  · exact View.cover_of_tiledL (s := S320x768) _ S320x128.size (by sl_kernel_rfl) _

end

section

variable {sg : RefSig} (i : grid0.Coords) {v2 : View sg .tc .vmem S1x320x1024 .f32} {f2 : v2.ty.Contents (Elt Ideal)}
  {v3 : View sg .tc .vmem S1x1024 .f32} {f3 : v3.ty.Contents (Elt Ideal)} {v4 : View sg .tc .vmem S1024x3328 .bf16} {f4 : v4.ty.Contents (Elt Ideal)}
  {v6 : View sg .tc .vmem S8x128 .f32} {f6 : v6.ty.Contents (Elt Ideal)}
  (h2 : ∀ (r : Fin 320) d, v2.read (Elt Ideal) f2 (ix3 0 r d) = (H (base i + r.val) d : EReal))
  (h3 : ∀ d, v3.read (Elt Ideal) f3 (ix2 0 d) = (W.npre d : EReal))

include h2 h3 in
theorem hn_load (r : Fin 320) (d : Fin 1024) : k0_pay192 i (View.readAt (Elt Ideal) v2 (Rect.unit (s := S1x320x1024) ![0, 0, 0] S1x320x1024.size inb_S1x320x1024_S1x320x1024_0_0_0).toLoadRect f2) (View.readAt (Elt Ideal) v3 (Rect.unit (s := S1x1024) ![0, 0] S1x1024.size inb_S1x1024_S1x1024_0_0).toLoadRect f3) (ix2 r d) = (hn W H (base i + r.val) d : EReal) :=
  hn_at i (fun r d => (read_unit v2 f2 inb_S1x320x1024_S1x320x1024_0_0_0 (ix3 0 r d) (ix3 0 r d) (fun a => by
      match a with
      | ⟨0, _⟩ => exact (Nat.zero_add _).symm
      | ⟨1, _⟩ => exact (Nat.zero_add _).symm
      | ⟨2, _⟩ => exact (Nat.zero_add _).symm)).trans (h2 r d))
    (fun d => (read_unit v3 f3 inb_S1x1024_S1x1024_0_0 (ix2 0 d) (ix2 0 d) (at2 rfl _ _ _ _ (Nat.zero_add _).symm (Nat.zero_add _).symm)).trans (h3 d)) r d

include h2 h3 in
theorem proj_load (h4 : ∀ d (c : Fin 3072), v4.read (Elt Ideal) f4 (ix2 d ⟨c.val, by omega⟩) = (W.w d ⟨c.val, by omega⟩ : EReal))
    (r : Fin 320) (c : Fin 2304) :
    k0_pay193 i (View.readAt (Elt Ideal) v2 (Rect.unit (s := S1x320x1024) ![0, 0, 0] S1x320x1024.size inb_S1x320x1024_S1x320x1024_0_0_0).toLoadRect f2) (View.readAt (Elt Ideal) v3 (Rect.unit (s := S1x1024) ![0, 0] S1x1024.size inb_S1x1024_S1x1024_0_0).toLoadRect f3) (View.readAt (Elt Ideal) v4 (Rect.unit (s := S1024x3328) ![0, 0] S1024x2304.size inb_S1024x3328_S1024x2304_0_0).toLoadRect f4) (ix2 r c) = (proj W H (base i + r.val) ⟨c.val, by omega⟩ : EReal) :=
  convproj_at i (hn_load i h2 h3) (fun d c => (read_unit v4 f4 inb_S1024x3328_S1024x2304_0_0 (ix2 d c) (ix2 d ⟨c.val, by omega⟩)
    (at2 rfl _ _ _ _ (Nat.zero_add _).symm (Nat.zero_add _).symm)).trans (h4 d ⟨c.val, by omega⟩)) r c

include h2 h3 in
theorem zL_rows (h4 : ∀ d (c : Fin 3072), v4.read (Elt Ideal) f4 (ix2 d ⟨c.val, by omega⟩) = (W.w d ⟨c.val, by omega⟩ : EReal))
    (v13 : View sg .tc .vmem S320x768 .f32) (f13 : v13.ty.Contents (Elt Ideal)) :
    Rows (v13.read (Elt Ideal) (v13.writes (Elt Ideal) f13 (zL i v2 f2 v3 f3 v4 f4))) (zv W H) (base i) := by
  intro r hd d
  unfold zL
  refine (View.read_writes_cons_unit_of_mem (Val := Elt Ideal) (e := .f32) (s := S320x768) v13 f13 inb_S320x768_S320x768_0_0 _ [] _
    (ix2 r ⟨128 * hd.val + d.val, by omega⟩) rfl (at2 rfl _ _ _ _ (Nat.zero_add _).symm (Nat.zero_add _).symm)).trans ?_
  exact z_at (base i) (hn_load i h2 h3) (fun d c => (read_unit v4 f4 inb_S1024x3328_S1024x768_0_2304 (ix2 d c) (ix2 d ⟨2304 + c.val, by omega⟩)
    (at2 rfl _ _ _ _ (Nat.zero_add _).symm rfl)).trans (h4 d ⟨2304 + c.val, by omega⟩)) r ⟨128 * hd.val + d.val, by omega⟩

include h2 h3 in
theorem gbL_lanes (hg : ∀ d (hd : Fin 6), v4.read (Elt Ideal) f4 (ix2 d ⟨3072 + hd.val, by omega⟩) = (W.w d ⟨3072 + hd.val, by omega⟩ : EReal))
    (hb : ∀ d (hd : Fin 6), v4.read (Elt Ideal) f4 (ix2 d ⟨3072 + (128 + hd.val), by omega⟩) = (W.w d ⟨3078 + hd.val, by omega⟩ : EReal))
    (ha : ∀ hd : Fin 6, v6.read (Elt Ideal) f6 (ix2 0 ⟨hd.val, by omega⟩) = (W.alog hd : EReal))
    (ht : ∀ hd : Fin 6, v6.read (Elt Ideal) f6 (ix2 1 ⟨hd.val, by omega⟩) = (W.dtb hd : EReal))
    (v14 : View sg .tc .vmem S320x256 .f32) (f14 : v14.ty.Contents (Elt Ideal)) :
    Lanes (v14.read (Elt Ideal) (v14.writes (Elt Ideal) f14 (gbL i v2 f2 v3 f3 v4 f4 v6 f6))) (gv W H) (bv W H) (base i) := by
  intro r hd
  unfold gbL
  constructor
  · refine (View.read_writes_cons_unit_of_not_mem (Val := Elt Ideal) (e := .f32) (s := S320x256) v14 f14 inb_S320x256_S320x128_0_128 _ _ _ rfl ⟨1, by decide⟩
      (Or.inl (by show 0 + hd.val < 128; omega))).trans ?_
    refine (View.read_writes_cons_unit_of_mem (Val := Elt Ideal) (e := .f32) (s := S320x256) v14 f14 inb_S320x256_S320x128_0_0 _ [] _
      (ix2 r ⟨hd.val, by omega⟩) rfl (at2 rfl _ _ _ _ (Nat.zero_add _).symm rfl)).trans ?_
    exact g_at i (hn_load i h2 h3) hd (fun d => (read_unit v4 f4 inb_S1024x3328_S1024x256_0_3072 (ix2 d ⟨hd.val, by omega⟩) (ix2 d ⟨3072 + hd.val, by omega⟩)
        (at2 rfl _ _ _ _ (Nat.zero_add _).symm rfl)).trans (hg d hd))
      ((read_unit v6 f6 inb_S8x128_S1x128_0_0 (ix2 0 ⟨hd.val, by omega⟩) (ix2 0 ⟨hd.val, by omega⟩) (at2 rfl _ _ _ _ rfl (Nat.zero_add _).symm)).trans (ha hd))
      ((read_unit v6 f6 inb_S8x128_S1x128_1_0 (ix2 0 ⟨hd.val, by omega⟩) (ix2 1 ⟨hd.val, by omega⟩) (at2 rfl _ _ _ _ rfl (Nat.zero_add _).symm)).trans (ht hd)) r
  · refine (View.read_writes_cons_unit_of_mem (Val := Elt Ideal) (e := .f32) (s := S320x256) v14 f14 inb_S320x256_S320x128_0_128 _ _ _
      (ix2 r ⟨hd.val, by omega⟩) rfl (at2 rfl _ _ _ _ (Nat.zero_add _).symm rfl)).trans ?_
    exact b_at i (hn_load i h2 h3) hd (fun d => (read_unit v4 f4 inb_S1024x3328_S1024x256_0_3072 (ix2 d ⟨128 + hd.val, by omega⟩) (ix2 d ⟨3072 + (128 + hd.val), by omega⟩)
        (at2 rfl _ _ _ _ (Nat.zero_add _).symm rfl)).trans (hb d hd)) r

end

end Cert.Delta.K

end
-- ==== Proof.Delta.Point.lean ====
/- One grid point of the kernel, read in real numbers: the block of the output it leaves is the mixer's rows, and the
   buffers it carries on hold the last three rows' projections and the states after its 320 rows. -/
module

public import proofs.«01_k».proof.Proof.Delta.Rows
public import proofs.«01_k».proof.Proof.KI.Value

@[expose] public section

set_option maxRecDepth 16384

noncomputable section

namespace Cert.Delta.K

open Idealize.ShloMosaic Idealize.ShloMosaic.TcCoe Idealize.ShloMosaic.Tactic Idealize.ShloMosaic.Pointwise
open Cert.KernelIdeal Cert.KernelIdeal.Gen

variable {W : Weights} {H : ℕ → Fin 1024 → ℝ}

/-- The six blocks a grid point is given hold the rows from `p` on and the weights. -/
structure In (W : Weights) (H : ℕ → Fin 1024 → ℝ) (p : ℕ) (x0 : Vec Ideal S1x320x1024 .f32) (x1 : Vec Ideal S1x1024 .f32)
    (x2 : Vec Ideal S1024x3328 .bf16) (x3 : Vec Ideal S4x2304 .f32) (x4 : Vec Ideal S8x128 .f32) (x5 : Vec Ideal S1x128 .f32) : Prop where
  h : ∀ (r : Fin 320) d, x0 (ix3 0 r d) = (H (p + r.val) d : EReal)
  npre : ∀ d, x1 (ix2 0 d) = (W.npre d : EReal)
  w : ∀ d (c : Fin 3072), x2 (ix2 d ⟨c.val, by omega⟩) = (W.w d ⟨c.val, by omega⟩ : EReal)
  wg : ∀ d (hd : Fin 6), x2 (ix2 d ⟨3072 + hd.val, by omega⟩) = (W.w d ⟨3072 + hd.val, by omega⟩ : EReal)
  wb : ∀ d (hd : Fin 6), x2 (ix2 d ⟨3072 + (128 + hd.val), by omega⟩) = (W.w d ⟨3078 + hd.val, by omega⟩ : EReal)
  conv : ∀ (j : Fin 4) c, x3 (ix2 j c) = (W.conv j c : EReal)
  alog : ∀ hd : Fin 6, x4 (ix2 0 ⟨hd.val, by omega⟩) = (W.alog hd : EReal)
  dtb : ∀ hd : Fin 6, x4 (ix2 1 ⟨hd.val, by omega⟩) = (W.dtb hd : EReal)
  norm : ∀ e, x5 (ix2 0 e) = (W.norm e : EReal)

theorem pay1_at (x : Vec Ideal S8x2304 .f32) (y : S8x2304.Idx) : k0_pay1 (F := Ideal) x y = x y := by
  have hy : y = ix2 (y 0) (y 1) := by
    funext a
    match a with
    | ⟨0, _⟩ => rfl
    | ⟨1, _⟩ => rfl
  rw [hy]
  pointwise [k0_pay1]

section

variable {sg : RefSig}

theorem zeroP_at (v : View sg .tc .vmem S328x2304 .f32) (f : v.ty.Contents (Elt Ideal)) (s : Fin 3) (c : Fin 2304) :
    v.read (Elt Ideal) (v.writes (Elt Ideal) f zeroP) (ix2 ⟨5 + s.val, by omega⟩ c) = (0 : EReal) := by
  unfold zeroP
  refine (View.read_writes_cons_unit_of_mem (Val := Elt Ideal) (e := .f32) (s := S328x2304) v f inb_S328x2304_S8x2304_0_0 _ [] _
    (ix2 ⟨5 + s.val, by omega⟩ c) rfl (at2 rfl _ _ _ _ (Nat.zero_add _).symm (Nat.zero_add _).symm)).trans ?_
  pointwise [k0_pay189]

theorem zeroS_at (v : View sg .tc .vmem S6x128x128 .f32) (f : v.ty.Contents (Elt Ideal)) (hd : Fin 6) (d e : Fin 128) :
    v.read (Elt Ideal) (v.writes (Elt Ideal) f zeroS) (ix3 hd d e) = (0 : EReal) := by
  unfold zeroS
  refine (View.read_writes_cons_unit_of_mem (Val := Elt Ideal) (e := .f32) (s := S6x128x128) v f inb_S6x128x128_S6x128x128_0_0_0 _ [] _
    (ix3 hd d e) rfl (fun a => by
      match a with
      | ⟨0, _⟩ => exact (Nat.zero_add _).symm
      | ⟨1, _⟩ => exact (Nat.zero_add _).symm
      | ⟨2, _⟩ => exact (Nat.zero_add _).symm)).trans ?_
  pointwise [k0_pay190]

/-- The last tap lies in the block's own rows. -/
theorem tap3_of (v : View sg .tc .vmem S328x2304 .f32) (f : v.ty.Contents (Elt Ideal)) {p : ℕ} {w : Vec Ideal S320x2304 .f32}
    (hw : ∀ (r : Fin 320) (c : Fin 2304), w (ix2 r c) = (proj W H (p + r.val) ⟨c.val, by omega⟩ : EReal))
    (L : List (View.Piece (Elt Ideal) S328x2304 .f32)) :
    Tap W H (v.read (Elt Ideal) (v.writes (Elt Ideal) f (⟨Rect.unit (s := S328x2304) ![8, 0] S320x2304.size inb_S328x2304_S320x2304_8_0, w⟩ :: L))) p 3 := by
  intro r c
  have hi : (⟨5 + (3 : Fin 4).val + r.val, by have : (3 : Fin 4).val = 3 := rfl; omega⟩ : Fin 328) = ⟨5 + (r.val + 3), by omega⟩ :=
    Fin.ext (by show 5 + 3 + r.val = 5 + (r.val + 3); omega)
  rw [hi]
  exact low_at v f hw L (r.val + 3) (by omega) (by omega) c

end

/-- A sequence's first point: its block of the output, the carried rows and the states it leaves. -/
theorem point_A (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : cond0_0 i) (x0 : Vec Ideal S1x320x1024 .f32) (x1 : Vec Ideal S1x1024 .f32) (x2 : Vec Ideal S1024x3328 .bf16) (x3 : Vec Ideal S4x2304 .f32) (x4 : Vec Ideal S8x128 .f32) (x5 : Vec Ideal S1x128 .f32)
    (hin : In W H (base i) x0 x1 x2 x3 x4 x5) (hb : base i = 0) :
    (∀ y, out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 y = tileOut (gv W H) (bv W H) (qv W H) (kv W H) (vv W H) (zv W H) W.norm (base i) y)
    ∧ Carry W H (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5) (base i + 320)
    ∧ States (sout0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5) (gv W H) (bv W H) (kv W H) (vv W H) (base i + 320) := by
  obtain ⟨hL6, hL0, hL15⟩ := run_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5
  have h2 : ∀ (r : Fin 320) d, arg2.view.read (Elt Ideal) (harg2.unread x0) (ix3 0 r d) = (H (base i + r.val) d : EReal) :=
    fun r d => (congrFun (harg2.read_unread x0) _).trans (hin.h r d)
  have h3 : ∀ d, arg3.view.read (Elt Ideal) (harg3.unread x1) (ix2 0 d) = (W.npre d : EReal) :=
    fun d => (congrFun (harg3.read_unread x1) _).trans (hin.npre d)
  have h4 : ∀ d (c : Fin 3072), arg4.view.read (Elt Ideal) (harg4.unread x2) (ix2 d ⟨c.val, by omega⟩) = (W.w d ⟨c.val, by omega⟩ : EReal) :=
    fun d c => (congrFun (harg4.read_unread x2) _).trans (hin.w d c)
  have hg : ∀ d (hd : Fin 6), arg4.view.read (Elt Ideal) (harg4.unread x2) (ix2 d ⟨3072 + hd.val, by omega⟩) = (W.w d ⟨3072 + hd.val, by omega⟩ : EReal) :=
    fun d hd => (congrFun (harg4.read_unread x2) _).trans (hin.wg d hd)
  have hbt : ∀ d (hd : Fin 6), arg4.view.read (Elt Ideal) (harg4.unread x2) (ix2 d ⟨3072 + (128 + hd.val), by omega⟩) = (W.w d ⟨3078 + hd.val, by omega⟩ : EReal) :=
    fun d hd => (congrFun (harg4.read_unread x2) _).trans (hin.wb d hd)
  have h5 : ∀ (j : Fin 4) c, arg5.view.read (Elt Ideal) (harg5.unread x3) (ix2 j c) = (W.conv j c : EReal) :=
    fun j c => (congrFun (harg5.read_unread x3) _).trans (hin.conv j c)
  have ha : ∀ hd : Fin 6, arg6.view.read (Elt Ideal) (harg6.unread x4) (ix2 0 ⟨hd.val, by omega⟩) = (W.alog hd : EReal) :=
    fun hd => (congrFun (harg6.read_unread x4) _).trans (hin.alog hd)
  have ht : ∀ hd : Fin 6, arg6.view.read (Elt Ideal) (harg6.unread x4) (ix2 1 ⟨hd.val, by omega⟩) = (W.dtb hd : EReal) :=
    fun hd => (congrFun (harg6.read_unread x4) _).trans (hin.dtb hd)
  have hN : ∀ e, View.readAt (Elt Ideal) arg7.view (Rect.unit (s := S1x128) ![0, 0] S1x128.size inb_S1x128_S1x128_0_0).toLoadRect (harg7.unread x5) (ix2 0 e) = (W.norm e : EReal) :=
    fun e => (load_unread harg7 x5 inb_S1x128_S1x128_0_0 (ix2 0 e) (ix2 0 e) (at2 rfl _ _ _ _ (Nat.zero_add _).symm (Nat.zero_add _).symm)).trans (hin.norm e)
  have hproj := proj_load i h2 h3 h4
  have hcar : Carry W H (arg9.view.read (Elt Ideal) (arg9.view.writes (Elt Ideal) arg9.view.junk zeroP)) (base i) := fun s c => (zeroP_at arg9.view arg9.view.junk s c).trans (by rw [hb, up3_pad W H (by omega), EReal.coe_zero])
  have hu : ∀ j, Tap W H (arg9.view.read (Elt Ideal) (arg9.view.writes (Elt Ideal) arg9.view.junk (convP i arg2.view (harg2.unread x0) arg3.view (harg3.unread x1) arg4.view (harg4.unread x2) ++ zeroP))) (base i) j := fun j => taps_of arg9.view arg9.view.junk hproj zeroP hcar j
  have hu3 : Tap W H (arg9.view.read (Elt Ideal) (arg9.view.writes (Elt Ideal) arg9.view.junk (convP i arg2.view (harg2.unread x0) arg3.view (harg3.unread x1) arg4.view (harg4.unread x2) ++ zeroP))) (base i) 3 := hu 3
  have hq := qL_rows (hu 0) (hu 1) (hu 2) hu3 h5 arg10.view arg10.view.junk
  have hk := kL_rows (hu 0) (hu 1) (hu 2) hu3 h5 arg11.view arg11.view.junk
  have hv := vL_rows (hu 0) (hu 1) (hu 2) hu3 h5 arg12.view arg12.view.junk
  have hz := zL_rows i h2 h3 h4 arg13.view arg13.view.junk
  have hgb := gbL_lanes i h2 h3 hg hbt ha ht arg14.view arg14.view.junk
  have hS : States (arg15.view.read (Elt Ideal) (arg15.view.writes (Elt Ideal) arg15.view.junk zeroS)) (gv W H) (bv W H) (kv W H) (vv W H) (base i) := fun hd d e => (zeroS_at arg15.view arg15.view.junk hd d e).trans (by rw [hb]; exact EReal.coe_zero.symm)
  have T := trips_spec Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ arg8.view.junk _ hq hk hv hz hgb hN hS 5 le_rfl
  refine ⟨fun y => ?_, fun s c' => ?_, fun hd d e => ?_⟩
  · refine View.read_writes_apply_of_pieces (Val := Elt Ideal) (e := .f32) VO0_6 VO0_6.junk (tileOut (gv W H) (bv W H) (qv W H) (kv W H) (vv W H) (zv W H) W.norm (base i)) _ ?_ y
      (cover0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 y)
    rw [hL6]
    exact T.2
  · unfold sout0_A_0
    rw [hL0]
    refine (View.read_writes_cons_unit_of_mem (Val := Elt Ideal) (e := .f32) (s := S328x2304) VS0_0 VS0_0.junk inb_S328x2304_S8x2304_0_0 _ _ _
      (ix2 ⟨5 + s.val, by omega⟩ c') rfl (at2 rfl _ _ _ _ (Nat.zero_add _).symm (Nat.zero_add _).symm)).trans ?_
    refine (pay1_at _ _).trans ?_
    refine (read_unit arg9.view _ inb_S328x2304_S8x2304_320_0 _ (ix2 ⟨5 + (320 + s.val), by omega⟩ c') (at2 rfl _ _ _ _ (by show 5 + (320 + s.val) = 320 + (5 + s.val); omega) (Nat.zero_add _).symm)).trans ?_
    refine (low_at arg9.view arg9.view.junk hproj _ (320 + s.val) (by omega) (by omega) c').trans ?_
    rw [Nat.add_assoc]
  · unfold sout0_A_6
    refine (View.read_writes_apply_eq (Val := Elt Ideal) (e := .f32) VS0_6 VS0_6.junk arg15.view arg15.view.junk _ _
      (scover0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 _)).trans ?_
    rw [hL15, View.writes_append]
    exact T.1 hd d e

/-- A point that goes on with a sequence: its block of the output, the carried rows and the states it leaves. -/
theorem point_B (c : Dev nD) (i : grid0.Coords) (arg2 : Memref sig .tc .vmem S1x320x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S4x2304 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S1x320x768 .f32) (harg8 : arg8.IsWhole) (arg9 : Memref sig .tc .vmem S328x2304 .f32) (harg9 : arg9.IsWhole) (arg10 : Memref sig .tc .vmem S320x768 .f32) (harg10 : arg10.IsWhole) (arg11 : Memref sig .tc .vmem S320x768 .f32) (harg11 : arg11.IsWhole) (arg12 : Memref sig .tc .vmem S320x768 .f32) (harg12 : arg12.IsWhole) (arg13 : Memref sig .tc .vmem S320x768 .f32) (harg13 : arg13.IsWhole) (arg14 : Memref sig .tc .vmem S320x256 .f32) (harg14 : arg14.IsWhole) (arg15 : Memref sig .tc .vmem S6x128x128 .f32) (harg15 : arg15.IsWhole) (hc0 : ¬cond0_0 i) (x0 : Vec Ideal S1x320x1024 .f32) (x1 : Vec Ideal S1x1024 .f32) (x2 : Vec Ideal S1024x3328 .bf16) (x3 : Vec Ideal S4x2304 .f32) (x4 : Vec Ideal S8x128 .f32) (x5 : Vec Ideal S1x128 .f32) (xs0 : Vec Ideal S328x2304 .f32) (xs6 : Vec Ideal S6x128x128 .f32)
    (hin : In W H (base i) x0 x1 x2 x3 x4 x5) (hx0 : Carry W H xs0 (base i)) (hx6 : States xs6 (gv W H) (bv W H) (kv W H) (vv W H) (base i)) :
    (∀ y, out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6 y = tileOut (gv W H) (bv W H) (qv W H) (kv W H) (vv W H) (zv W H) W.norm (base i) y)
    ∧ Carry W H (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6) (base i + 320)
    ∧ States (sout0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6) (gv W H) (bv W H) (kv W H) (vv W H) (base i + 320) := by
  obtain ⟨hL6, hL0, hL15⟩ := run_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6
  have h2 : ∀ (r : Fin 320) d, arg2.view.read (Elt Ideal) (harg2.unread x0) (ix3 0 r d) = (H (base i + r.val) d : EReal) :=
    fun r d => (congrFun (harg2.read_unread x0) _).trans (hin.h r d)
  have h3 : ∀ d, arg3.view.read (Elt Ideal) (harg3.unread x1) (ix2 0 d) = (W.npre d : EReal) :=
    fun d => (congrFun (harg3.read_unread x1) _).trans (hin.npre d)
  have h4 : ∀ d (c : Fin 3072), arg4.view.read (Elt Ideal) (harg4.unread x2) (ix2 d ⟨c.val, by omega⟩) = (W.w d ⟨c.val, by omega⟩ : EReal) :=
    fun d c => (congrFun (harg4.read_unread x2) _).trans (hin.w d c)
  have hg : ∀ d (hd : Fin 6), arg4.view.read (Elt Ideal) (harg4.unread x2) (ix2 d ⟨3072 + hd.val, by omega⟩) = (W.w d ⟨3072 + hd.val, by omega⟩ : EReal) :=
    fun d hd => (congrFun (harg4.read_unread x2) _).trans (hin.wg d hd)
  have hbt : ∀ d (hd : Fin 6), arg4.view.read (Elt Ideal) (harg4.unread x2) (ix2 d ⟨3072 + (128 + hd.val), by omega⟩) = (W.w d ⟨3078 + hd.val, by omega⟩ : EReal) :=
    fun d hd => (congrFun (harg4.read_unread x2) _).trans (hin.wb d hd)
  have h5 : ∀ (j : Fin 4) c, arg5.view.read (Elt Ideal) (harg5.unread x3) (ix2 j c) = (W.conv j c : EReal) :=
    fun j c => (congrFun (harg5.read_unread x3) _).trans (hin.conv j c)
  have ha : ∀ hd : Fin 6, arg6.view.read (Elt Ideal) (harg6.unread x4) (ix2 0 ⟨hd.val, by omega⟩) = (W.alog hd : EReal) :=
    fun hd => (congrFun (harg6.read_unread x4) _).trans (hin.alog hd)
  have ht : ∀ hd : Fin 6, arg6.view.read (Elt Ideal) (harg6.unread x4) (ix2 1 ⟨hd.val, by omega⟩) = (W.dtb hd : EReal) :=
    fun hd => (congrFun (harg6.read_unread x4) _).trans (hin.dtb hd)
  have hN : ∀ e, View.readAt (Elt Ideal) arg7.view (Rect.unit (s := S1x128) ![0, 0] S1x128.size inb_S1x128_S1x128_0_0).toLoadRect (harg7.unread x5) (ix2 0 e) = (W.norm e : EReal) :=
    fun e => (load_unread harg7 x5 inb_S1x128_S1x128_0_0 (ix2 0 e) (ix2 0 e) (at2 rfl _ _ _ _ (Nat.zero_add _).symm (Nat.zero_add _).symm)).trans (hin.norm e)
  have hproj := proj_load i h2 h3 h4
  have hcar : Carry W H (arg9.view.read (Elt Ideal) (arg9.view.writes (Elt Ideal) (harg9.unread xs0) [])) (base i) := fun s c => (congrFun (harg9.read_unread xs0) _).trans (hx0 s c)
  have hu : ∀ j, Tap W H (arg9.view.read (Elt Ideal) (arg9.view.writes (Elt Ideal) (harg9.unread xs0) (convP i arg2.view (harg2.unread x0) arg3.view (harg3.unread x1) arg4.view (harg4.unread x2)))) (base i) j := fun j => taps_of arg9.view (harg9.unread xs0) hproj [] hcar j
  have hu3 : Tap W H (arg9.view.read (Elt Ideal) (arg9.view.writes (Elt Ideal) arg9.view.junk (convP i arg2.view (harg2.unread x0) arg3.view (harg3.unread x1) arg4.view (harg4.unread x2)))) (base i) 3 := tap3_of arg9.view arg9.view.junk hproj []
  have hq := qL_rows (hu 0) (hu 1) (hu 2) hu3 h5 arg10.view arg10.view.junk
  have hk := kL_rows (hu 0) (hu 1) (hu 2) hu3 h5 arg11.view arg11.view.junk
  have hv := vL_rows (hu 0) (hu 1) (hu 2) hu3 h5 arg12.view arg12.view.junk
  have hz := zL_rows i h2 h3 h4 arg13.view arg13.view.junk
  have hgb := gbL_lanes i h2 h3 hg hbt ha ht arg14.view arg14.view.junk
  have hS : States (arg15.view.read (Elt Ideal) (harg15.unread xs6)) (gv W H) (bv W H) (kv W H) (vv W H) (base i) := fun hd d e => (congrFun (harg15.read_unread xs6) _).trans (hx6 hd d e)
  have T := trips_spec Variants.none c none i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ arg8.view.junk _ hq hk hv hz hgb hN hS 5 le_rfl
  refine ⟨fun y => ?_, fun s c' => ?_, fun hd d e => ?_⟩
  · refine View.read_writes_apply_of_pieces (Val := Elt Ideal) (e := .f32) VO0_6 VO0_6.junk (tileOut (gv W H) (bv W H) (qv W H) (kv W H) (vv W H) (zv W H) W.norm (base i)) _ ?_ y
      (cover0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6 y)
    rw [hL6]
    exact T.2
  · unfold sout0_B_0
    rw [hL0]
    refine (View.read_writes_cons_unit_of_mem (Val := Elt Ideal) (e := .f32) (s := S328x2304) VS0_0 VS0_0.junk inb_S328x2304_S8x2304_0_0 _ _ _
      (ix2 ⟨5 + s.val, by omega⟩ c') rfl (at2 rfl _ _ _ _ (Nat.zero_add _).symm (Nat.zero_add _).symm)).trans ?_
    refine (pay1_at _ _).trans ?_
    refine (read_unit arg9.view _ inb_S328x2304_S8x2304_320_0 _ (ix2 ⟨5 + (320 + s.val), by omega⟩ c') (at2 rfl _ _ _ _ (by show 5 + (320 + s.val) = 320 + (5 + s.val); omega) (Nat.zero_add _).symm)).trans ?_
    refine (low_at arg9.view arg9.view.junk hproj _ (320 + s.val) (by omega) (by omega) c').trans ?_
    rw [Nat.add_assoc]
  · unfold sout0_B_6
    refine (View.read_writes_apply_eq (Val := Elt Ideal) (e := .f32) VS0_6 VS0_6.junk arg15.view (harg15.unread xs6) _ _
      (scover0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 xs0 xs6 _)).trans ?_
    rw [hL15]
    exact T.1 hd d e

end Cert.Delta.K

end
-- ==== Proof.Delta.Blocks.lean ====
/- The blocks a grid point is given, read off the arguments: 320 rows of one sequence, and the weights as the host laid them out. -/
module

public import proofs.«01_k».proof.Proof.Delta.Args
public import proofs.«01_k».proof.Proof.Delta.Point
public import Idealize.ShloMosaic.Lib.Pipeline.ValueKit

@[expose] public section

set_option maxRecDepth 16384

noncomputable section

namespace Cert.Delta.K

open Idealize.ShloMosaic Idealize.ShloMosaic.TcCoe Idealize.ShloMosaic.Tactic Idealize.ShloMosaic.Pointwise
open Cert.KernelIdeal Cert.KernelIdeal.Gen

variable (m : (ℓ : Loc nD τ sig) → Buf (Elt Ideal) ℓ) (c : Dev nD)

/-- Every window's block index (decided over the grid). -/
theorem idx : ∀ t : Fin cfg0.N, win0_0.index t = ![t.val / 26, t.val % 26, 0] ∧ win0_1.index t = ![0, 0] ∧ win0_2.index t = ![0, 0]
    ∧ win0_3.index t = ![0, 0] ∧ win0_4.index t = ![0, 0] ∧ win0_5.index t = ![0, 0] ∧ t.val / 26 < 4 :=
  (by decide +kernel : ∀ t : Fin grid0.N, _)

theorem coords1 : ∀ t : Fin cfg0.N, ((grid0.coords t) 1).val = t.val % 26 :=
  (by decide +kernel : ∀ t : Fin grid0.N, _)

theorem blk0 (t : Fin cfg0.N) (r : Fin 320) (d : Fin 1024) :
    iblk m c 0 t (ix3 0 r d) = m ((c : Thread nD τ).loc main_arg0) (ix3 ⟨t.val / 26, (idx t).2.2.2.2.2.2⟩ ⟨320 * (t.val % 26) + r.val, by omega⟩ d) := by
  blk_ext! [iblk, V, idx t]

theorem blk3 (t : Fin cfg0.N) (j : Fin 4) (k : Fin 2304) : iblk m c 3 t (ix2 j k) = m ((c : Thread nD τ).loc main_arg3) (ix2 j k) := by
  blk_ext! [iblk, V, idx t]

theorem blk1 (t : Fin cfg0.N) (d : Fin 1024) : iblk m c 1 t (ix2 0 d) = V m c main_v0 (ix2 0 d) := by blk_ext! [iblk, idx t]

theorem blk2 (t : Fin cfg0.N) (d : Fin 1024) (k : Fin 3328) : iblk m c 2 t (ix2 d k) = V m c main_v7 (ix2 d k) := by blk_ext! [iblk, idx t]

theorem blk4 (t : Fin cfg0.N) (j : Fin 8) (k : Fin 128) : iblk m c 4 t (ix2 j k) = V m c main_v13 (ix2 j k) := by blk_ext! [iblk, idx t]

theorem blk5 (t : Fin cfg0.N) (e : Fin 128) : iblk m c 5 t (ix2 0 e) = V m c main_v14 (ix2 0 e) := by blk_ext! [iblk, idx t]

theorem V0 (d : Fin 1024) : V m c main_v0 (ix2 0 d) = m ((c : Thread nD τ).loc main_arg1) (ix1 d) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

theorem V14 (d : Fin 128) : V m c main_v14 (ix2 0 d) = m ((c : Thread nD τ).loc main_arg6) (ix1 d) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  pointwise

/-- The weights as the host lays them out: the columns of q, k, v and z, then the two groups of six gate columns, each in 128 columns of its own. -/
def hostW (w : Vec Ideal S1024x7832 .f32) : Vec Ideal S1024x3328 .bf16 :=
  truncf (F := Ideal) FTy.bf16
    (concatenate S1024x3328 1
      [⟨S1024x3072, extractStridedSlice S1024x3072 ![0, 0] w slices_S1024x7832_S1024x3072_0_0⟩,
        ⟨S1024x128, pad S1024x128 ![0, 0] ![0, 122] ![0, 0] (extractStridedSlice S1024x6 ![0, 3072] w slices_S1024x7832_S1024x6_0_3072)
          (sitofp (F := Ideal) FTy.f32 (constantI S_ 32 0#32)) pads_S1024x6_S1024x128_000_01220 h_S_⟩,
        ⟨S1024x128, pad S1024x128 ![0, 0] ![0, 122] ![0, 0] (extractStridedSlice S1024x6 ![0, 3078] w slices_S1024x7832_S1024x6_0_3078)
          (sitofp (F := Ideal) FTy.f32 (constantI S_ 32 0#32)) pads_S1024x6_S1024x128_000_01220 h_S_⟩]
      concatenates_S1024x3072_S1024x128_S1024x128_S1024x3328_d1) bitsLt_bf16_f32

theorem after_app (l l' : List (HloOp τ sig (Elt Ideal))) (σ : Valuation τ sig (Elt Ideal)) :
    StableHlo.after (l ++ l') σ = StableHlo.after l' (StableHlo.after l σ) := by
  induction l generalizing σ with
  | nil => rfl
  | cons op l ih => exact ih _

/-- The host operations before the weights are put together, and those after. -/
abbrev hostPre : List (HloOp τ sig (Elt Ideal)) := List.flatten [hostOps0, hostOps0_1, hostOps0_2, hostOps0_3]
abbrev hostPost : List (HloOp τ sig (Elt Ideal)) := List.flatten [hostOps0_5, hostOps0_6, hostOps0_7, hostOps0_8, hostOps0_9, hostOps0_10]

theorem post7 (σ : Valuation τ sig (Elt Ideal)) : StableHlo.after hostPost σ (Proc.devRef .tc main_v7) = σ (Proc.devRef .tc main_v7) :=
  StableHlo.after_of_forall_not_mem (b := Proc.devRef .tc main_v7) _ _ (List.forall_iff_forall_mem.mp (by
    simp only [hostPost, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem mid7 (σ : Valuation τ sig (Elt Ideal)) : StableHlo.after hostOps0_4 σ (Proc.devRef .tc main_v7) =
    truncf (F := Ideal) FTy.bf16
      (concatenate S1024x3328 1
        [⟨S1024x3072, (σ (Proc.devRef .tc main_v1) : Vec Ideal S1024x3072 .f32)⟩, ⟨S1024x128, (σ (Proc.devRef .tc main_v3) : Vec Ideal S1024x128 .f32)⟩,
          ⟨S1024x128, (σ (Proc.devRef .tc main_v5) : Vec Ideal S1024x128 .f32)⟩]
        concatenates_S1024x3072_S1024x128_S1024x128_S1024x3328_d1) bitsLt_bf16_f32 := by
  simp only [hostOps0_4, StableHlo.after_cons, StableHlo.after_nil]
  refine (StableHlo.nullary_result_ne main_c_1 _ _ _ ?_).trans ?_
  · decide
  refine (StableHlo.unary_result ..).trans ?_
  refine (congrArg (fun x => truncf (F := Ideal) FTy.bf16 x bitsLt_bf16_f32) (StableHlo.nary_result ..)).trans ?_
  rfl

theorem pre1 : StableHlo.after hostPre (fun b => m (c, b)) (Proc.devRef .tc main_v1) =
    extractStridedSlice S1024x3072 ![0, 0] (m ((c : Thread nD τ).loc main_arg2)) slices_S1024x7832_S1024x3072_0_0 := by
  simp only [hostPre, hostOps0, hostOps0_1, hostOps0_2, hostOps0_3, List.flatten_cons, List.flatten_nil, List.append_nil, List.cons_append, List.nil_append]
  entry_read
  rfl

theorem pre3 : StableHlo.after hostPre (fun b => m (c, b)) (Proc.devRef .tc main_v3) =
    pad S1024x128 ![0, 0] ![0, 122] ![0, 0] (extractStridedSlice S1024x6 ![0, 3072] (m ((c : Thread nD τ).loc main_arg2) : Vec Ideal S1024x7832 .f32) slices_S1024x7832_S1024x6_0_3072)
      (sitofp (F := Ideal) FTy.f32 (constantI S_ 32 0#32)) pads_S1024x6_S1024x128_000_01220 h_S_ := by
  simp only [hostPre, hostOps0, hostOps0_1, hostOps0_2, hostOps0_3, List.flatten_cons, List.flatten_nil, List.append_nil, List.cons_append, List.nil_append]
  entry_read
  rfl

theorem pre5 : StableHlo.after hostPre (fun b => m (c, b)) (Proc.devRef .tc main_v5) =
    pad S1024x128 ![0, 0] ![0, 122] ![0, 0] (extractStridedSlice S1024x6 ![0, 3078] (m ((c : Thread nD τ).loc main_arg2) : Vec Ideal S1024x7832 .f32) slices_S1024x7832_S1024x6_0_3078)
      (sitofp (F := Ideal) FTy.f32 (constantI S_ 32 0#32)) pads_S1024x6_S1024x128_000_01220 h_S_ := by
  simp only [hostPre, hostOps0, hostOps0_1, hostOps0_2, hostOps0_3, List.flatten_cons, List.flatten_nil, List.append_nil, List.cons_append, List.nil_append]
  entry_read
  rfl

theorem V7 : V m c main_v7 = hostW (m ((c : Thread nD τ).loc main_arg2)) := by
  have e : V m c main_v7 = StableHlo.after (hostPre ++ (hostOps0_4 ++ hostPost)) (fun b => m (c, b)) (Proc.devRef .tc main_v7) := rfl
  rw [e, after_app, after_app, post7, mid7, pre1, pre3, pre5]
  rfl

theorem hostW0 (w : Vec Ideal S1024x7832 .f32) (d : Fin 1024) (k : Fin 3072) : hostW w (ix2 d ⟨k.val, by omega⟩) = w (ix2 d ⟨k.val, by omega⟩) := by
  unfold hostW
  pointwise

theorem hostWg (w : Vec Ideal S1024x7832 .f32) (d : Fin 1024) (k : Fin 6) : hostW w (ix2 d ⟨3072 + k.val, by omega⟩) = w (ix2 d ⟨3072 + k.val, by omega⟩) := by
  unfold hostW
  pointwise
  exact dif_pos (by omega)

theorem hostWb (w : Vec Ideal S1024x7832 .f32) (d : Fin 1024) (k : Fin 6) : hostW w (ix2 d ⟨3072 + (128 + k.val), by omega⟩) = w (ix2 d ⟨3078 + k.val, by omega⟩) := by
  unfold hostW
  pointwise

/-- The six logs and six shifts of the heads, a row of 128 lanes each. -/
def hostP (a b : Vec Ideal S6 .f32) : Vec Ideal S8x128 .f32 :=
  pad S8x128 ![0, 0] ![6, 0] ![0, 0]
    (concatenate S2x128 0
      [⟨S1x128, broadcastInDim S1x128 ![1] bcast_S128_S1x128_1
          (pad S128 ![0] ![122] ![0] a (sitofp (F := Ideal) FTy.f32 (constantI S_ 32 0#32)) pads_S6_S128_01220 h_S_)⟩,
        ⟨S1x128, broadcastInDim S1x128 ![1] bcast_S128_S1x128_1
          (pad S128 ![0] ![122] ![0] b (sitofp (F := Ideal) FTy.f32 (constantI S_ 32 0#32)) pads_S6_S128_01220 h_S_)⟩]
      concatenates_S1x128_S1x128_S2x128_d0)
    (sitofp (F := Ideal) FTy.f32 (constantI S_ 32 0#32)) pads_S2x128_S8x128_060_000 h_S_

theorem V13 : V m c main_v13 = hostP (m ((c : Thread nD τ).loc main_arg4)) (m ((c : Thread nD τ).loc main_arg5)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  set_option maxHeartbeats 2000000 in entry_read
  rfl

theorem hostP0 (a b : Vec Ideal S6 .f32) (k : Fin 6) : hostP a b (ix2 0 ⟨k.val, by omega⟩) = a (ix1 k) := by
  unfold hostP
  pointwise
  exact dif_pos (by omega)

theorem hostP1 (a b : Vec Ideal S6 .f32) (k : Fin 6) : hostP a b (ix2 1 ⟨k.val, by omega⟩) = b (ix1 k) := by
  unfold hostP
  pointwise
  exact dif_pos (by omega)

/-- A point's blocks hold the rows of its sequence from `320 * (t % 26)` on, and the weights. -/
theorem in_of {W : Weights} {H : Fin 4 → ℕ → Fin 1024 → ℝ}
    (ha : Args W H (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))) (t : Fin cfg0.N) :
    In W (H ⟨t.val / 26, (idx t).2.2.2.2.2.2⟩) (base (grid0.coords t)) (iblk m c 0 t) (iblk m c 1 t) (iblk m c 2 t) (iblk m c 3 t)
      (iblk m c 4 t) (iblk m c 5 t) where
  h r d := (blk0 m c t r d).trans ((ha.h _ _ d).trans (by unfold base; rw [coords1 t]))
  npre d := (blk1 m c t d).trans ((V0 m c d).trans (ha.npre d))
  w d k := (blk2 m c t d _).trans ((congrFun (V7 m c) _).trans ((hostW0 _ d k).trans (ha.w d _)))
  wg d k := (blk2 m c t d _).trans ((congrFun (V7 m c) _).trans ((hostWg _ d k).trans (ha.w d _)))
  wb d k := (blk2 m c t d _).trans ((congrFun (V7 m c) _).trans ((hostWb _ d k).trans (ha.w d _)))
  conv j k := (blk3 m c t j k).trans (ha.conv j k)
  alog k := (blk4 m c t 0 _).trans ((congrFun (V13 m c) _).trans ((hostP0 _ _ k).trans (ha.alog k)))
  dtb k := (blk4 m c t 1 _).trans ((congrFun (V13 m c) _).trans ((hostP1 _ _ k).trans (ha.dtb k)))
  norm e := (blk5 m c t e).trans ((V14 m c e).trans (ha.norm e))

end Cert.Delta.K

end
-- ==== Proof.Delta.Grid.lean ====
/- From the points to the array: what each grid point leaves, by recursion over the points, and the array the call returns. -/
module

public import proofs.«01_k».proof.Proof.Delta.Blocks

@[expose] public section

set_option maxRecDepth 16384

noncomputable section

namespace Cert.Delta.K

open Idealize.ShloMosaic Idealize.ShloMosaic.TcCoe Idealize.ShloMosaic.Tactic Idealize.ShloMosaic.Pointwise
open Cert.KernelIdeal Cert.KernelIdeal.Gen Cert.KernelIdeal.Value

variable (m : (ℓ : Loc nD τ sig) → Buf (Elt Ideal) ℓ) (c : Dev nD)

/-- The sequence a point works on. -/
def batch (t : Fin cfg0.N) : Fin 4 := ⟨t.val / 26, (idx t).2.2.2.2.2.2⟩

/-- What a point leaves: its rows of the output, the carried rows before the convolution, and the states. -/
def Left (W : Weights) (H : ℕ → Fin 1024 → ℝ) (p : ℕ) (o : Vec Ideal S1x320x768 .f32 × Vec Ideal S328x2304 .f32 × Vec Ideal S6x128x128 .f32) : Prop :=
  (∀ y, o.1 y = tileOut (gv W H) (bv W H) (qv W H) (kv W H) (vv W H) (zv W H) W.norm p y)
    ∧ Carry W H o.2.1 (p + 320) ∧ States o.2.2 (gv W H) (bv W H) (kv W H) (vv W H) (p + 320)

theorem left_mk {W : Weights} {H : ℕ → Fin 1024 → ℝ} {p : ℕ} {o : Vec Ideal S1x320x768 .f32} {x : Vec Ideal S328x2304 .f32} {S : Vec Ideal S6x128x128 .f32}
    (h : (∀ y, o y = tileOut (gv W H) (bv W H) (qv W H) (kv W H) (vv W H) (zv W H) W.norm p y)
      ∧ Carry W H x (p + 320) ∧ States S (gv W H) (bv W H) (kv W H) (vv W H) (p + 320)) : Left W H p (o, x, S) := h

variable {W : Weights} {H : Fin 4 → ℕ → Fin 1024 → ℝ}
  (ha : Args W H (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)))

theorem base_eq (t : Fin cfg0.N) : base (grid0.coords t) = 320 * (t.val % 26) := by unfold base; rw [coords1 t]

include ha in
theorem left_A (t : Fin cfg0.N) (acc) (h0 : t.val % 26 = 0) :
    Left W (H (batch t)) (320 * (t.val % 26)) (stAt0 m c t.val t.isLt acc) := by
  rw [← base_eq t, stAt0_A m c t acc h0]
  exact left_mk (point_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (iblk m c 0 t) (iblk m c 1 t) (iblk m c 2 t) (iblk m c 3 t) (iblk m c 4 t) (iblk m c 5 t) (in_of m c ha t) ((base_eq t).trans (by rw [h0])))

include ha in
theorem left_B (t : Fin cfg0.N) (acc : Vec Ideal S1x320x768 .f32 × Vec Ideal S328x2304 .f32 × Vec Ideal S6x128x128 .f32) (h0 : ¬ t.val % 26 = 0)
    (h1 : Carry W (H (batch t)) acc.2.1 (320 * (t.val % 26)))
    (h2 : States acc.2.2 (gv W (H (batch t))) (bv W (H (batch t))) (kv W (H (batch t))) (vv W (H (batch t))) (320 * (t.val % 26))) :
    Left W (H (batch t)) (320 * (t.val % 26)) (stAt0 m c t.val t.isLt acc) := by
  rw [← base_eq t] at h1 h2 ⊢
  rw [stAt0_B m c t acc h0]
  exact left_mk (point_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (iblk m c 0 t) (iblk m c 1 t) (iblk m c 2 t) (iblk m c 3 t) (iblk m c 4 t) (iblk m c 5 t) acc.2.1 acc.2.2 (in_of m c ha t) h1 h2)

include ha in
theorem left_all : ∀ (n : ℕ) (hn : n < cfg0.N), Left W (H (batch ⟨n, hn⟩)) (320 * (n % 26)) (outsAt0 m c n hn)
  | 0, hn => by
    rw [outsAt0_zero m c hn]
    exact left_A m c ha ⟨0, hn⟩ _ rfl
  | n + 1, hn => by
    rw [outsAt0_succ m c n hn]
    by_cases h0 : (n + 1) % 26 = 0
    · exact left_A m c ha ⟨n + 1, hn⟩ _ h0
    · have hp := left_all n (Nat.lt_of_succ_lt hn)
      have hb : batch ⟨n + 1, hn⟩ = batch ⟨n, Nat.lt_of_succ_lt hn⟩ := Fin.ext (show (n + 1) / 26 = n / 26 by omega)
      have hm : 320 * ((n + 1) % 26) = 320 * (n % 26) + 320 := by omega
      refine left_B m c ha ⟨n + 1, hn⟩ _ h0 ?_ ?_
      · show Carry W (H (batch ⟨n + 1, hn⟩)) _ (320 * ((n + 1) % 26))
        rw [hb, hm]; exact hp.2.1
      · show States _ (gv W (H (batch ⟨n + 1, hn⟩))) (bv W (H (batch ⟨n + 1, hn⟩))) (kv W (H (batch ⟨n + 1, hn⟩))) (vv W (H (batch ⟨n + 1, hn⟩))) (320 * ((n + 1) % 26))
        rw [hb, hm]; exact hp.2.2

theorem N_eq : cfg0.N = 104 := (by decide +kernel : grid0.N = 104)

include ha in
/-- The array the call returns: the mixer's rows, head by head. -/
theorem result_eq (b : Fin 4) (p : Fin 8320) (x : Fin 768) :
    G6 m c (ix3 b p x) = (out W (H b) ⟨x.val / 128, by omega⟩ p.val ⟨x.val % 128, Nat.mod_lt _ (by norm_num)⟩ : EReal) := by
  have hpt : pt6Of (ix3 b p x) = 26 * b.val + p.val / 320 := by
    show 26 * (b.val / 1 - 0) + 1 * (p.val / 320 - 0) + 1 * (x.val / 768 - 0) = _
    omega
  have hlt : pt6Of (ix3 b p x) < cfg0.N := by rw [hpt, N_eq]; omega
  unfold G6
  rw [dif_pos hlt, ← outsAt0_sweep m c _ hlt, (left_all m c ha _ hlt).1]
  have hb : batch ⟨pt6Of (ix3 b p x), hlt⟩ = b := Fin.ext (by show pt6Of (ix3 b p x) / 26 = b.val; rw [hpt]; omega)
  rw [hb]
  have hm : 320 * (pt6Of (ix3 b p x) % 26) + p.val % 320 = p.val := by rw [hpt]; omega
  unfold tileOut
  show (rowOut _ _ _ _ _ _ _ ⟨x.val % 768 / 128, _⟩ (320 * (pt6Of (ix3 b p x) % 26) + p.val % 320) ⟨x.val % 768 % 128, _⟩ : EReal) = _
  have hx : x.val % 768 = x.val := Nat.mod_eq_of_lt x.isLt
  have e1 : (⟨x.val % 768 / 128, by omega⟩ : Fin 6) = ⟨x.val / 128, by omega⟩ := Fin.ext (by show x.val % 768 / 128 = x.val / 128; rw [hx])
  have e2 : (⟨x.val % 768 % 128, Nat.mod_lt _ (by norm_num)⟩ : Fin 128) = ⟨x.val % 128, Nat.mod_lt _ (by norm_num)⟩ := Fin.ext (by show x.val % 768 % 128 = x.val % 128; rw [hx])
  rw [hm, e1, e2]
  rfl

end Cert.Delta.K

end
-- ==== Proof.Delta.RefRows.lean ====
/- The reference's rows before its loop, as real numbers: normalised, projected, convolved. -/
module

public import proofs.«01_k».proof.Proof.Delta.Args
public import proofs.«01_k».proof.Proof.RefI.StepRun
public import Idealize.ShloMosaic.Lib.Pointwise

@[expose] public section

set_option maxRecDepth 16384

noncomputable section

namespace Cert.Delta.R

open Idealize.ShloMosaic Idealize.ShloMosaic.Pointwise
open Cert.ReferenceIdeal Cert.ReferenceIdeal.Gen Cert.ReferenceIdeal.Step

variable {W : Weights} {H : Fin 4 → ℕ → Fin 1024 → ℝ}
  {a0 : (⟨S4x8320x1024, .f32⟩ : BufTy).Contents (Elt Ideal)} {a1 : (⟨S1024, .f32⟩ : BufTy).Contents (Elt Ideal)}
  {a2 : (⟨S1024x7832, .f32⟩ : BufTy).Contents (Elt Ideal)} {a3 : (⟨S4x2304, .f32⟩ : BufTy).Contents (Elt Ideal)}
  {a4 a5 : (⟨S6, .f32⟩ : BufTy).Contents (Elt Ideal)} {a6 : (⟨S128, .f32⟩ : BufTy).Contents (Elt Ideal)}
  (ha : Args W H a0 a1 a2 a3 a4 a5 a6)

include ha

theorem hn_ref (b : Fin 4) (r : Fin 8208) (d : Fin 1024) : A_main_v13 (F := Ideal) a0 a1 a2 a3 a4 a5 (ix3 b r d) = (hn W (H b) (112 + r.val) d : EReal) := by
  pointwise [A_main_v0, A_main_v1, A_main_v2, A_main_v3, A_main_v5, A_main_v7, A_main_v8, A_main_v9, A_main_v10, A_main_v11, A_main_v12, A_main_v13, K_main_cst, K_main_cst_0, K_main_v4, K_main_cst_1, K_main_v6]
  simp only [ha.h, ha.npre, ← EReal.coe_mul, ← coe_sum, ofBits_1024, ofBits_eps,
    rs_mean _ _ (Finset.sum_nonneg fun x _ => mul_self_nonneg _) (by norm_num : (0 : ℝ) < 1024)]
  unfold hn
  rw [if_neg (by omega)]

theorem proj_ref (b : Fin 4) (r : Fin 8208) (c : Fin 3084) : A_main_v15 (F := Ideal) a0 a1 a2 a3 a4 a5 (ix3 b r c) = (proj W (H b) (112 + r.val) ⟨c.val, by omega⟩ : EReal) := by
  pointwise [A_main_v15, A_main_v14]
  simp only [hn_ref ha, ha.w, ← EReal.coe_mul, ← coe_sum]
  rfl

theorem up3_ref (b : Fin 4) (n : Fin 8211) (c : Fin 2304) : A_main_v17 (F := Ideal) a0 a1 a2 a3 a4 a5 (ix3 b n c) = (up3 W (H b) (112 + n.val) c : EReal) := by
  pointwise [A_main_v17, A_main_v16, K_main_call0_v0, K_main_c]
  unfold up3
  rw [if_neg (by omega)]
  by_cases h : 3 ≤ n.val ∧ n.val - 3 < 8208
  · rw [dif_pos h, proj_ref ha]
    have e : 112 + (n.val - 3) = 112 + n.val - 3 := by omega
    show (proj W (H b) (112 + (n.val - 3)) _ : EReal) = _
    rw [e]
  · rw [dif_neg h, proj_pad W (H b) (by have := n.isLt; omega)]
    show (((0#32 : BitVec 32).toInt : ℝ) : EReal) = _
    simp

theorem mixed_ref (b : Fin 4) (r : Fin 8208) (c : Fin 2304) : A_main_v53 (F := Ideal) a0 a1 a2 a3 a4 a5 (ix3 b r c) = (mixed W (H b) (112 + r.val) c : EReal) := by
  pointwise [A_main_v18, A_main_v19, A_main_v20, A_main_v21, A_main_v22, A_main_v23, A_main_v25, A_main_v26, A_main_v27, A_main_v28, A_main_v29, A_main_v30, A_main_v31, A_main_v32, A_main_v33, A_main_v34, A_main_v35, A_main_v36, A_main_v37, A_main_v38, A_main_v39, A_main_v40, A_main_v41, A_main_v42, A_main_v43, A_main_v44, A_main_v45, A_main_v46, A_main_v47, A_main_v48, A_main_v50, A_main_v52, A_main_v53, K_main_cst_2, K_main_v24, K_main_cst_3, K_main_v49, K_main_cst_4, K_main_v51]
  simp only [up3_ref ha, ha.conv, ← EReal.coe_mul, ← EReal.coe_add, sig_quot]
  have e1 : 112 + (1 + r.val) = 112 + r.val + 1 := by omega
  have e2 : 112 + (2 + r.val) = 112 + r.val + 2 := by omega
  have e3 : 112 + (3 + r.val) = 112 + r.val + 3 := by omega
  rw [e1, e2, e3]
  rfl

end Cert.Delta.R

end
-- ==== Proof.Delta.RefHeads.lean ====
/- The reference's rows split into heads: the queries and keys scaled to length one, the values, the gates. -/
module

public import proofs.«01_k».proof.Proof.Delta.Args
public import proofs.«01_k».proof.Proof.RefI.StepRun
public import Idealize.ShloMosaic.Lib.Pointwise

@[expose] public section

set_option maxRecDepth 16384

noncomputable section

namespace Cert.Delta.R

open Idealize.ShloMosaic Idealize.ShloMosaic.Pointwise
open Cert.ReferenceIdeal Cert.ReferenceIdeal.Gen Cert.ReferenceIdeal.Step

/-- The projected columns lie among the weights' columns. -/
theorem wide (c : Fin 3084) : c.val < 7832 := by omega

/-- A row of 768 split into six heads of 128. -/
theorem split_heads {α : Type} (x : S4x8208x768.Idx → α) (h : S4x8208x768.ShapeCasts S4x8208x6x128) (b : Fin 4) (r : Fin 8208) (hd : Fin 6) (e : Fin 128) :
    shapeCast S4x8208x6x128 x h (ix4 b r hd e) = x (ix3 b r ⟨128 * hd.val + e.val, by omega⟩) :=
  shapeCast_apply _ _ _ _ (by
    rw [Shape.rowMajor_val_three, Shape.rowMajor_val_four]
    show (b.val * 8208 + r.val) * 768 + (128 * hd.val + e.val) = ((b.val * 8208 + r.val) * 6 + hd.val) * 128 + e.val
    omega)

theorem col_spread {α : Type} (x : S4x8208x6x1.Idx → α) (b : Fin 4) (r : Fin 8208) (hd : Fin 6) (e : Fin 128) :
    broadcastInDim S4x8208x6x128 ![0, 1, 2, 3] bcast_S4x8208x6x1_S4x8208x6x128_0_1_2_3 x (ix4 b r hd e) = x (ix4 b r hd 0) :=
  broadcastInDim_apply _ _ _ _ _ fun a => by
    match a with
    | ⟨0, _⟩ => rfl
    | ⟨1, _⟩ => rfl
    | ⟨2, _⟩ => rfl
    | ⟨3, _⟩ => rfl

theorem col_split {α : Type} (x : S4x8208x6.Idx → α) (b : Fin 4) (r : Fin 8208) (hd : Fin 6) (e : Fin 1) :
    broadcastInDim S4x8208x6x1 ![0, 1, 2] bcast_S4x8208x6_S4x8208x6x1_0_1_2 x (ix4 b r hd e) = x (ix3 b r hd) :=
  broadcastInDim_apply _ _ _ _ _ fun a => by
    match a with
    | ⟨0, _⟩ => rfl
    | ⟨1, _⟩ => rfl
    | ⟨2, _⟩ => rfl

/-- Rows scaled to length one, whatever array they lie in. -/
theorem unit_at (x : (⟨S4x8208x6x128, .f32⟩ : BufTy).Contents (Elt Ideal)) (y : Fin 128 → ℝ) (b : Fin 4) (r : Fin 8208) (hd : Fin 6)
    (hx : ∀ e, x (ix4 b r hd e) = (y e : EReal)) (e : Fin 128) :
    mulf x (broadcastInDim S4x8208x6x128 ![0, 1, 2, 3] bcast_S4x8208x6x1_S4x8208x6x128_0_1_2_3 (Host.rsqrt (addf (broadcastInDim S4x8208x6x1 ![0, 1, 2] bcast_S4x8208x6_S4x8208x6x1_0_1_2 (Host.reduceAdd (mulf x x) (constant (F := Ideal) S_ .f32 0x00000000#32) reducesTo_S4x8208x6x128_S4x8208x6_d3 h_S_)) (broadcastInDim S4x8208x6x1 ![] bcast_S_S4x8208x6x1 (constant S_ .f32 0x358637BD#32))))) (ix4 b r hd e) = (unit y e : EReal) := by
  pointwise
  simp only [hx, ← EReal.coe_mul, ofBits_eps, ← coe_sum]
  rw [rs_sum _ (Finset.sum_nonneg fun x _ => mul_self_nonneg _), ← EReal.coe_mul]
  rfl

variable {W : Weights} {H : Fin 4 → ℕ → Fin 1024 → ℝ}
  {a0 : (⟨S4x8320x1024, .f32⟩ : BufTy).Contents (Elt Ideal)} {a1 : (⟨S1024, .f32⟩ : BufTy).Contents (Elt Ideal)}
  {a2 : (⟨S1024x7832, .f32⟩ : BufTy).Contents (Elt Ideal)} {a3 : (⟨S4x2304, .f32⟩ : BufTy).Contents (Elt Ideal)}
  {a4 a5 : (⟨S6, .f32⟩ : BufTy).Contents (Elt Ideal)} {a6 : (⟨S128, .f32⟩ : BufTy).Contents (Elt Ideal)}
  (ha : Args W H a0 a1 a2 a3 a4 a5 a6)
  (hp : ∀ (b : Fin 4) (r : Fin 8208) (c : Fin 3084), A_main_v15 (F := Ideal) a0 a1 a2 a3 a4 a5 (ix3 b r c) = (proj W (H b) (112 + r.val) ⟨c.val, wide c⟩ : EReal))
  (hm : ∀ (b : Fin 4) (r : Fin 8208) (c : Fin 2304), A_main_v53 (F := Ideal) a0 a1 a2 a3 a4 a5 (ix3 b r c) = (mixed W (H b) (112 + r.val) c : EReal))

section
include hm

theorem q0_ref (b : Fin 4) (r : Fin 8208) (hd : Fin 6) (e : Fin 128) :
    A_main_v58 (F := Ideal) a0 a1 a2 a3 a4 a5 (ix4 b r hd e) = (mixed W (H b) (112 + r.val) ⟨128 * hd.val + e.val, by omega⟩ : EReal) := by
  unfold A_main_v58
  rw [split_heads]
  unfold A_main_v57
  pointwise
  rw [hm]

theorem k0_ref (b : Fin 4) (r : Fin 8208) (hd : Fin 6) (e : Fin 128) :
    A_main_v60 (F := Ideal) a0 a1 a2 a3 a4 a5 (ix4 b r hd e) = (mixed W (H b) (112 + r.val) ⟨768 + (128 * hd.val + e.val), by omega⟩ : EReal) := by
  unfold A_main_v60
  rw [split_heads]
  unfold A_main_v59
  pointwise
  rw [hm]

theorem v0_ref (b : Fin 4) (r : Fin 8208) (hd : Fin 6) (e : Fin 128) :
    A_main_v62 (F := Ideal) a0 a1 a2 a3 a4 a5 (ix4 b r hd e) = (mixed W (H b) (112 + r.val) ⟨1536 + (128 * hd.val + e.val), by omega⟩ : EReal) := by
  unfold A_main_v62
  rw [split_heads]
  unfold A_main_v61
  pointwise
  rw [hm]

end

include hm in
theorem q1_ref (b : Fin 4) (r : Fin 8208) (hd : Fin 6) (e : Fin 128) : A_main_v92 (F := Ideal) a0 a1 a2 a3 a4 a5 (ix4 b r hd e) = (qv W (H b) hd (112 + r.val) e : EReal) := by
  unfold A_main_v92 A_main_v91 A_main_v90 A_main_v89 A_main_v87 A_main_v86 A_main_v85 K_main_v88 K_main_cst_8 K_main_cst_9
  exact unit_at _ (fun e => mixed W (H b) (112 + r.val) ⟨128 * hd.val + e.val, by omega⟩) b r hd (fun e => q0_ref hm b r hd e) e

include hm in
theorem k1_ref (b : Fin 4) (r : Fin 8208) (hd : Fin 6) (e : Fin 128) : A_main_v100 (F := Ideal) a0 a1 a2 a3 a4 a5 (ix4 b r hd e) = (kv W (H b) hd (112 + r.val) e : EReal) := by
  unfold A_main_v100 A_main_v99 A_main_v98 A_main_v97 A_main_v95 A_main_v94 A_main_v93 K_main_v96 K_main_cst_10 K_main_cst_11
  exact unit_at _ (fun e => mixed W (H b) (112 + r.val) ⟨768 + (128 * hd.val + e.val), by omega⟩) b r hd (fun e => k0_ref hm b r hd e) e

section
include hm

theorem q_ref (b : Fin 4) (r : Fin 8208) (hd : Fin 6) (e : Fin 128) : A_main_v101 (F := Ideal) a0 a1 a2 a3 a4 a5 (ix4 r b hd e) = (qv W (H b) hd (112 + r.val) e : EReal) := by
  pointwise [A_main_v101]
  exact q1_ref hm b r hd e

theorem k_ref (b : Fin 4) (r : Fin 8208) (hd : Fin 6) (e : Fin 128) : A_main_v102 (F := Ideal) a0 a1 a2 a3 a4 a5 (ix4 r b hd e) = (kv W (H b) hd (112 + r.val) e : EReal) := by
  pointwise [A_main_v102]
  exact k1_ref hm b r hd e

theorem v_ref (b : Fin 4) (r : Fin 8208) (hd : Fin 6) (e : Fin 128) : A_main_v103 (F := Ideal) a0 a1 a2 a3 a4 a5 (ix4 r b hd e) = (vv W (H b) hd (112 + r.val) e : EReal) := by
  pointwise [A_main_v103]
  exact v0_ref hm b r hd e

end

include hp in
theorem z_ref (b : Fin 4) (r : Fin 8208) (hd : Fin 6) (e : Fin 128) : A_main_v106 (F := Ideal) a0 a1 a2 a3 a4 a5 (ix4 r b hd e) = (zv W (H b) hd (112 + r.val) e : EReal) := by
  pointwise [A_main_v106]
  unfold A_main_v84
  rw [split_heads]
  unfold A_main_v54
  pointwise
  rw [hp]
  rfl

include ha hp in
theorem g_ref (b : Fin 4) (r : Fin 8208) (hd : Fin 6) : A_main_v104 (F := Ideal) a0 a1 a2 a3 a4 a5 (ix3 r b hd) = (gv W (H b) hd (112 + r.val) : EReal) := by
  pointwise [A_main_v104, A_main_v77, A_main_v76, A_main_v75, A_main_v74, A_main_v73, A_main_v72, A_main_v71, A_main_v70, A_main_v69, A_main_v67, A_main_v66, A_main_v65, A_main_v64, A_main_v63, A_main_v55, K_main_cst_5, K_main_v68]
  simp only [hp, ha.alog, ha.dtb, ← EReal.coe_add, softplus_real, Ideal.exp_coe, ← EReal.coe_neg, ← EReal.coe_mul]
  unfold gv
  rw [if_neg (by omega)]

include hp in
theorem b_ref (b : Fin 4) (r : Fin 8208) (hd : Fin 6) : A_main_v105 (F := Ideal) a0 a1 a2 a3 a4 a5 (ix3 r b hd) = (bv W (H b) hd (112 + r.val) : EReal) := by
  pointwise [A_main_v105, A_main_v83, A_main_v81, A_main_v79, A_main_v78, A_main_v56, K_main_cst_6, K_main_v80, K_main_cst_7, K_main_v82]
  simp only [hp, sig_quot]
  unfold bv
  rw [if_neg (by omega)]

end Cert.Delta.R

end
-- ==== Proof.Delta.RefStep.lean ====
/- One trip of the reference's loop, as real numbers: a token read, the states stepped, its row stored. -/
module

public import proofs.«01_k».proof.Proof.Delta.Args
public import proofs.«01_k».proof.Proof.RefI.StepRun
public import Idealize.ShloMosaic.Lib.Pointwise
public import Idealize.ShloMosaic.Lib.DynamicIndex

@[expose] public section

set_option maxRecDepth 16384

noncomputable section

namespace Cert.Delta.R

open Idealize.ShloMosaic Idealize.ShloMosaic.Pointwise
open Cert.ReferenceIdeal Cert.ReferenceIdeal.Gen Cert.ReferenceIdeal.Step

theorem toInt_word (j : ℕ) (hj : j < 8208) : (BitVec.ofNat 32 j).toInt = (j : ℤ) := by
  have h : (BitVec.ofNat 32 j).toNat = j := by rw [BitVec.toNat_ofNat]; exact Nat.mod_eq_of_lt (by omega)
  rw [BitVec.toInt_eq_toNat_of_lt (by rw [h]; omega), h]

theorem fits4 (j : ℕ) (hj : j < 8208) : S8208x4x6x128.Slices ![j, 0, 0, 0] S1x4x6x128 :=
  ⟨rfl, fun a => by
    match a with
    | ⟨0, _⟩ => show j + 1 ≤ 8208; omega
    | ⟨1, _⟩ => show 0 + 4 ≤ 4; omega
    | ⟨2, _⟩ => show 0 + 6 ≤ 6; omega
    | ⟨3, _⟩ => show 0 + 128 ≤ 128; omega⟩

theorem fits3 (j : ℕ) (hj : j < 8208) : S8208x4x6.Slices ![j, 0, 0] S1x4x6 :=
  ⟨rfl, fun a => by
    match a with
    | ⟨0, _⟩ => show j + 1 ≤ 8208; omega
    | ⟨1, _⟩ => show 0 + 4 ≤ 4; omega
    | ⟨2, _⟩ => show 0 + 6 ≤ 6; omega⟩

/-- A trip's row of the queries, keys, values or gates. -/
theorem row4 (x : (⟨S8208x4x6x128, .f32⟩ : BufTy).Contents (Elt Ideal)) (j : ℕ) (hj : j < 8208) (b : Fin 4) (hd : Fin 6) (e : Fin 128) :
    shapeCast S4x6x128 (Host.dynamicSlice S1x4x6x128 x (fun k => (((![(constantI S_ 32 (BitVec.ofNat 32 j) : (⟨S_, .i32⟩ : BufTy).Contents (Elt Ideal)), (constantI S_ 32 0#32), (constantI S_ 32 0#32), (constantI S_ 32 0#32)] : Fin 4 → (⟨S_, .i32⟩ : BufTy).Contents (Elt Ideal))) k (Shape.Idx.first h_S_)).toInt) sliceFits_S8208x4x6x128_S1x4x6x128) shapeCasts_S1x4x6x128_S4x6x128 (ix3 b hd e)
      = x (ix4 ⟨j, hj⟩ b hd e) := by
  rw [Host.dynamicSlice_eq_extractStridedSlice _ _ _ ![j, 0, 0, 0] _ (fits4 j hj) (fun a => by
    match a with
    | ⟨0, _⟩ => exact toInt_word j hj
    | ⟨1, _⟩ => rfl
    | ⟨2, _⟩ => rfl
    | ⟨3, _⟩ => rfl)]
  refine (shapeCast_apply _ _ _ (ix4 0 b hd e) (by
    rw [Shape.rowMajor_val_three, Shape.rowMajor_val_four]
    show ((0 * 4 + b.val) * 6 + hd.val) * 128 + e.val = (b.val * 6 + hd.val) * 128 + e.val
    omega)).trans ?_
  unfold extractStridedSlice
  refine congrArg x (funext fun a => Fin.ext ?_)
  match a with
  | ⟨0, _⟩ => rfl
  | ⟨1, _⟩ => exact Nat.zero_add _
  | ⟨2, _⟩ => exact Nat.zero_add _
  | ⟨3, _⟩ => exact Nat.zero_add _

theorem row3 (x : (⟨S8208x4x6, .f32⟩ : BufTy).Contents (Elt Ideal)) (j : ℕ) (hj : j < 8208) (b : Fin 4) (hd : Fin 6) :
    shapeCast S4x6 (Host.dynamicSlice S1x4x6 x (fun k => (((![(constantI S_ 32 (BitVec.ofNat 32 j) : (⟨S_, .i32⟩ : BufTy).Contents (Elt Ideal)), (constantI S_ 32 0#32), (constantI S_ 32 0#32)] : Fin 3 → (⟨S_, .i32⟩ : BufTy).Contents (Elt Ideal))) k (Shape.Idx.first h_S_)).toInt) sliceFits_S8208x4x6_S1x4x6) shapeCasts_S1x4x6_S4x6 (ix2 b hd) = x (ix3 ⟨j, hj⟩ b hd) := by
  rw [Host.dynamicSlice_eq_extractStridedSlice _ _ _ ![j, 0, 0] _ (fits3 j hj) (fun a => by
    match a with
    | ⟨0, _⟩ => exact toInt_word j hj
    | ⟨1, _⟩ => rfl
    | ⟨2, _⟩ => rfl)]
  refine (shapeCast_apply _ _ _ (ix3 0 b hd) (by
    rw [Shape.rowMajor_val_three, Shape.rowMajor_val_two]
    show (0 * 4 + b.val) * 6 + hd.val = b.val * 6 + hd.val
    omega)).trans ?_
  unfold extractStridedSlice
  refine congrArg x (funext fun a => Fin.ext ?_)
  match a with
  | ⟨0, _⟩ => rfl
  | ⟨1, _⟩ => exact Nat.zero_add _
  | ⟨2, _⟩ => exact Nat.zero_add _

/-- What a state carries along unchanged. -/
structure Consts (W : Weights) (H : Fin 4 → ℕ → Fin 1024 → ℝ) (s : State Ideal) : Prop where
  q : ∀ (b : Fin 4) (r : Fin 8208) (hd : Fin 6) (e : Fin 128), s.main_v109_0 (ix4 r b hd e) = (qv W (H b) hd (112 + r.val) e : EReal)
  k : ∀ (b : Fin 4) (r : Fin 8208) (hd : Fin 6) (e : Fin 128), s.main_v109_1 (ix4 r b hd e) = (kv W (H b) hd (112 + r.val) e : EReal)
  v : ∀ (b : Fin 4) (r : Fin 8208) (hd : Fin 6) (e : Fin 128), s.main_v109_2 (ix4 r b hd e) = (vv W (H b) hd (112 + r.val) e : EReal)
  g : ∀ (b : Fin 4) (r : Fin 8208) (hd : Fin 6), s.main_v109_3 (ix3 r b hd) = (gv W (H b) hd (112 + r.val) : EReal)
  b : ∀ (b : Fin 4) (r : Fin 8208) (hd : Fin 6), s.main_v109_4 (ix3 r b hd) = (bv W (H b) hd (112 + r.val) : EReal)
  z : ∀ (b : Fin 4) (r : Fin 8208) (hd : Fin 6) (e : Fin 128), s.main_v109_5 (ix4 r b hd e) = (zv W (H b) hd (112 + r.val) e : EReal)
  norm : ∀ e : Fin 128, s.main_v109_6 (ix1 e) = (W.norm e : EReal)

variable {W : Weights} {H : Fin 4 → ℕ → Fin 1024 → ℝ} {s : State Ideal} (hc : Consts W H s) {j : ℕ} (hj : j < 8208)

section
include hc hj

theorem b4_at (b : Fin 4) (hd : Fin 6) (e : Fin 128) : b4 (F := Ideal) j s (ix3 b hd e) = (qv W (H b) hd (112 + j) e : EReal) :=
  (row4 s.main_v109_0 j hj b hd e).trans (hc.q b ⟨j, hj⟩ hd e)

theorem b9_at (b : Fin 4) (hd : Fin 6) (e : Fin 128) : b9 (F := Ideal) j s (ix3 b hd e) = (kv W (H b) hd (112 + j) e : EReal) :=
  (row4 s.main_v109_1 j hj b hd e).trans (hc.k b ⟨j, hj⟩ hd e)

theorem b14_at (b : Fin 4) (hd : Fin 6) (e : Fin 128) : b14 (F := Ideal) j s (ix3 b hd e) = (vv W (H b) hd (112 + j) e : EReal) :=
  (row4 s.main_v109_2 j hj b hd e).trans (hc.v b ⟨j, hj⟩ hd e)

theorem b18_at (b : Fin 4) (hd : Fin 6) : b18 (F := Ideal) j s (ix2 b hd) = (gv W (H b) hd (112 + j) : EReal) :=
  (row3 s.main_v109_3 j hj b hd).trans (hc.g b ⟨j, hj⟩ hd)

theorem b22_at (b : Fin 4) (hd : Fin 6) : b22 (F := Ideal) j s (ix2 b hd) = (bv W (H b) hd (112 + j) : EReal) :=
  (row3 s.main_v109_4 j hj b hd).trans (hc.b b ⟨j, hj⟩ hd)

theorem b27_at (b : Fin 4) (hd : Fin 6) (e : Fin 128) : b27 (F := Ideal) j s (ix3 b hd e) = (zv W (H b) hd (112 + j) e : EReal) :=
  (row4 s.main_v109_5 j hj b hd e).trans (hc.z b ⟨j, hj⟩ hd e)

variable (hs : ∀ (b : Fin 4) (hd : Fin 6) (d e : Fin 128), s.main_v109_8 (ix4 b hd d e) = (state W (H b) hd (112 + j) d e : EReal))
include hs

/-- The states after the token. -/
theorem b47_at (b : Fin 4) (hd : Fin 6) (d e : Fin 128) :
    b47 (F := Ideal) j s (ix4 b hd d e) = (state W (H b) hd (112 + (j + 1)) d e : EReal) := by
  pointwise [b28, b29, b30, b31, b32, b33, b34, b35, b36, b37, b38, b39, b40, b41, b42, b43, b44, b45, b46, b47]
  simp only [b9_at hc hj, b14_at hc hj, b18_at hc hj, b22_at hc hj, hs, Ideal.exp_coe, ← EReal.coe_mul, ← coe_sum, ← EReal.coe_sub, ← EReal.coe_add]
  rfl

theorem b51_at (b : Fin 4) (hd : Fin 6) (e : Fin 128) : b51 (F := Ideal) j s (ix3 b hd e) = (oread W (H b) hd (112 + j) e : EReal) := by
  pointwise [b48, b49, b50, b51]
  simp only [b4_at hc hj, b47_at hc hj hs, ofBits_scale, ← EReal.coe_mul, ← coe_sum]
  rfl

/-- The token's row of the output. -/
theorem b77_at (b : Fin 4) (hd : Fin 6) (e : Fin 128) : b77 (F := Ideal) j s (ix3 b hd e) = (out W (H b) hd (112 + j) e : EReal) := by
  pointwise [b52, b53, b54, b55, b56, b57, b58, b59, b60, b61, b62, b63, b64, b65, b66, b67, b68, b69, b70, b71, b72, b73, b74, b75, b76, b77]
  simp only [b27_at hc hj, b51_at hc hj hs, hc.norm, ofBits_eps, ofBits_128, ← EReal.coe_mul, ← coe_sum, sig_quot,
    rs_mean _ _ (Finset.sum_nonneg fun x _ => mul_self_nonneg _) (by norm_num : (0 : ℝ) < 128)]
  rfl

end

/-- The output after the token: its row is the token's, the others are as they were. -/
theorem b82_at (s : State Ideal) {j : ℕ} (hj : j < 8208) (i : Fin 8208) (b : Fin 4) (hd : Fin 6) (e : Fin 128) :
    b82 (F := Ideal) j s (ix4 i b hd e) = if i.val = j then b77 (F := Ideal) j s (ix3 b hd e) else s.main_v109_9 (ix4 i b hd e) := by
  show Host.dynamicUpdateSlice (s.main_v109_9) (b78 (F := Ideal) j s) (fun k => (((![(constantI S_ 32 (BitVec.ofNat 32 j) : (⟨S_, .i32⟩ : BufTy).Contents (Elt Ideal)), (constantI S_ 32 0#32), (constantI S_ 32 0#32), (constantI S_ 32 0#32)] : Fin 4 → (⟨S_, .i32⟩ : BufTy).Contents (Elt Ideal))) k (Shape.Idx.first h_S_)).toInt) updateFits_S8208x4x6x128_S1x4x6x128 (ix4 i b hd e) = _
  rw [Host.dynamicUpdateSlice_eq_updateSlice _ _ _ _ ![j, 0, 0, 0] (fun a => by
    match a with
    | ⟨0, _⟩ => show (min (max (BitVec.ofNat 32 j).toInt 0) ((8208 - 1 : ℕ) : ℤ)).toNat = j; rw [toInt_word j hj]; omega
    | ⟨1, _⟩ => rfl
    | ⟨2, _⟩ => rfl
    | ⟨3, _⟩ => rfl) (fits4 j hj)]
  have hx : b78 (F := Ideal) j s (ix4 0 b hd e) = b77 (F := Ideal) j s (ix3 b hd e) := by pointwise [b78]
  unfold updateSlice
  by_cases h : i.val = j
  · rw [if_pos h, dif_pos (fun a => by
      match a with
      | ⟨0, _⟩ => show j ≤ i.val ∧ i.val < j + 1; omega
      | ⟨1, _⟩ => show 0 ≤ b.val ∧ b.val < 0 + 4; omega
      | ⟨2, _⟩ => show 0 ≤ hd.val ∧ hd.val < 0 + 6; omega
      | ⟨3, _⟩ => show 0 ≤ e.val ∧ e.val < 0 + 128; omega), ← hx]
    refine congrArg (b78 (F := Ideal) j s) (funext fun a => Fin.ext ?_)
    match a with
    | ⟨0, _⟩ => show i.val - j = 0; omega
    | ⟨1, _⟩ => rfl
    | ⟨2, _⟩ => rfl
    | ⟨3, _⟩ => rfl
  · rw [if_neg h, dif_neg fun hin => h (by
      have h0 : j ≤ i.val ∧ i.val < j + 1 := hin (0 : Fin 4)
      omega)]

end Cert.Delta.R

end
-- ==== Proof.Delta.RefLoop.lean ====
/- The reference's loop run to its end: what its states hold, and the rows it leaves. -/
module

public import proofs.«01_k».proof.Proof.Delta.RefRows
public import proofs.«01_k».proof.Proof.Delta.RefHeads
public import proofs.«01_k».proof.Proof.Delta.RefStep

@[expose] public section

set_option maxRecDepth 16384

noncomputable section

namespace Cert.Delta.R

open Idealize.ShloMosaic Idealize.ShloMosaic.Pointwise
open Cert.ReferenceIdeal Cert.ReferenceIdeal.Gen Cert.ReferenceIdeal.Step

/-- The loop's state before each trip. -/
def refIter (s : State Ideal) : ℕ → State Ideal
  | 0 => s
  | n + 1 => step n (refIter s n)

variable {W : Weights} {H : Fin 4 → ℕ → Fin 1024 → ℝ}
  {a0 : (⟨S4x8320x1024, .f32⟩ : BufTy).Contents (Elt Ideal)} {a1 : (⟨S1024, .f32⟩ : BufTy).Contents (Elt Ideal)}
  {a2 : (⟨S1024x7832, .f32⟩ : BufTy).Contents (Elt Ideal)} {a3 : (⟨S4x2304, .f32⟩ : BufTy).Contents (Elt Ideal)}
  {a4 a5 : (⟨S6, .f32⟩ : BufTy).Contents (Elt Ideal)} {a6 : (⟨S128, .f32⟩ : BufTy).Contents (Elt Ideal)}

/-- What the loop starts from. -/
theorem init_consts (ha : Args W H a0 a1 a2 a3 a4 a5 a6) : Consts W H (init (F := Ideal) a6 a0 a1 a2 a3 a4 a5) where
  q b r hd e := q_ref (mixed_ref ha) b r hd e
  k b r hd e := k_ref (mixed_ref ha) b r hd e
  v b r hd e := v_ref (mixed_ref ha) b r hd e
  g b r hd := g_ref ha (proj_ref ha) b r hd
  b b r hd := b_ref (proj_ref ha) b r hd
  z b r hd e := z_ref (proj_ref ha) b r hd e
  norm e := ha.norm e

theorem step_consts {s : State Ideal} (hc : Consts W H s) (j : ℕ) : Consts W H (step j s) :=
  ⟨hc.q, hc.k, hc.v, hc.g, hc.b, hc.z, hc.norm⟩

/-- The states before trip `n`, and the rows the trips before it wrote. -/
structure At (W : Weights) (H : Fin 4 → ℕ → Fin 1024 → ℝ) (n : ℕ) (s : State Ideal) : Prop where
  consts : Consts W H s
  states : ∀ (b : Fin 4) (hd : Fin 6) (d e : Fin 128), s.main_v109_8 (ix4 b hd d e) = (state W (H b) hd (112 + n) d e : EReal)
  rows : ∀ (i : Fin 8208) (b : Fin 4) (hd : Fin 6) (e : Fin 128), i.val < n →
    s.main_v109_9 (ix4 i b hd e) = (out W (H b) hd (112 + i.val) e : EReal)

theorem at_init (ha : Args W H a0 a1 a2 a3 a4 a5 a6) : At W H 0 (init (F := Ideal) a6 a0 a1 a2 a3 a4 a5) where
  consts := init_consts ha
  states b hd d e := by
    rw [state_pad W (H b) hd (le_refl 112) d e]
    show K_main_v107 (F := Ideal) (ix4 b hd d e) = _
    pointwise [K_main_v107, K_main_cst_12]
    simp
  rows i b hd e h := absurd h (Nat.not_lt_zero _)

theorem at_step {s : State Ideal} {j : ℕ} (hj : j < 8208) (h : At W H j s) : At W H (j + 1) (step j s) where
  consts := step_consts h.consts j
  states b hd d e := by
    rw [step_main_v109_8]
    exact b47_at h.consts hj h.states b hd d e
  rows i b hd e hi := by
    rw [step_main_v109_9, b82_at s hj]
    by_cases hij : i.val = j
    · rw [if_pos hij, b77_at h.consts hj h.states, hij]
    · rw [if_neg hij]
      exact h.rows i b hd e (by omega)

theorem at_iter {s : State Ideal} (h : At W H 0 s) : ∀ n : ℕ, n ≤ 8208 → At W H n (refIter s n)
  | 0, _ => h
  | n + 1, hn => at_step (by omega) (at_iter h n (by omega))

/-- Six heads of 128 joined to a row of 768. -/
theorem join_heads {α : Type} (x : S4x8208x6x128.Idx → α) (h : S4x8208x6x128.ShapeCasts S4x8208x768) (b : Fin 4) (r : Fin 8208) (c : Fin 768) :
    shapeCast S4x8208x768 x h (ix3 b r c) = x (ix4 b r ⟨c.val / 128, by omega⟩ ⟨c.val % 128, Nat.mod_lt _ (by norm_num)⟩) :=
  shapeCast_apply _ _ _ _ (by
    rw [Shape.rowMajor_val_three, Shape.rowMajor_val_four]
    show ((b.val * 8208 + r.val) * 6 + c.val / 128) * 128 + c.val % 128 = (b.val * 8208 + r.val) * 768 + c.val
    omega)

/-- The rows, joined, the padding before them. -/
theorem padded (x : S4x8208x768.Idx → EReal) (b : Fin 4) (p : Fin 8320) (c : Fin 768) :
    pad S4x8320x768 ![0, 112, 0] ![0, 0, 0] ![0, 0, 0] x (sitofp (F := Ideal) .f32 (constantI S_ 32 0#32)) pads_S4x8208x768_S4x8320x768_000_11200_000 h_S_ (ix3 b p c) =
      if h : 112 ≤ p.val then x (ix3 b ⟨p.val - 112, by omega⟩ c) else 0 := by
  pointwise
  have z : (FloatOps.sitofp (F := Ideal) .f32 0#32 : EReal) = 0 := by
    show (((0#32 : BitVec 32).toInt : ℝ) : EReal) = _
    simp
  rw [z]
  by_cases h : 112 ≤ p.val
  · rw [dif_pos h, dif_pos ⟨h, by omega⟩]
  · rw [dif_neg h, dif_neg fun h' => h h'.1]

/-- The reference's result: every token's gated row; nothing before the first token. -/
theorem ref_result (ha : Args W H a0 a1 a2 a3 a4 a5 a6) (b : Fin 4) (p : Fin 8320) (x : Fin 768) :
    R_main_v112 (refIter (init (F := Ideal) a6 a0 a1 a2 a3 a4 a5) 8208) (ix3 b p x) =
      (out W (H b) ⟨x.val / 128, by omega⟩ p.val ⟨x.val % 128, Nat.mod_lt _ (by norm_num)⟩ : EReal) := by
  have h := at_iter (at_init ha) 8208 (le_refl _)
  generalize refIter (init (F := Ideal) a6 a0 a1 a2 a3 a4 a5) 8208 = s at h ⊢
  unfold R_main_v112
  rw [padded]
  by_cases hp : 112 ≤ p.val
  · rw [dif_pos hp, join_heads]
    have t : ∀ (r : Fin 8208) (hd : Fin 6) (e : Fin 128), transpose S4x8208x6x128 [1, 0, 2, 3] s.main_v109_9 transposes_S8208x4x6x128_S4x8208x6x128_1_0_2_3 (ix4 b r hd e) = s.main_v109_9 (ix4 r b hd e) := fun r hd e => by
      pointwise
    rw [t]
    refine (h.rows ⟨p.val - 112, by omega⟩ b _ _ (by show p.val - 112 < 8208; omega)).trans ?_
    have e : 112 + (p.val - 112) = p.val := by omega
    show (out W (H b) _ (112 + (p.val - 112)) _ : EReal) = _
    rw [e]
  · rw [dif_neg hp, out_pad W (H b) _ (by omega)]
    simp

end Cert.Delta.R

end
-- ==== Proof.lean ====
module

public import proofs.«01_k».proof.Defs
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Out.Kernel
public import proofs.«01_k».proof.Proof.Out.Ref
public import proofs.«01_k».proof.Proof.KP.Frame
public import proofs.«01_k».proof.Proof.KI.Frame
public import proofs.«01_k».proof.Proof.KI.Value
public import proofs.«01_k».proof.Proof.RefI.StepRun
public import proofs.«01_k».proof.Proof.Delta.Finite
public import proofs.«01_k».proof.Proof.Delta.Grid
public import proofs.«01_k».proof.Proof.Delta.RefLoop
public import Idealize.ShloMosaic.Adequacy
public import Idealize.ShloMosaic.Init

@[expose] public section

noncomputable section

namespace Cert.Proof

open Idealize.ShloMosaic Idealize.SL.Sem

/-- The reference runs and leaves its arguments; it declares no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- An index of the result is its three coordinates. -/
theorem idx_eta (i : (⟨3, ![4, 8320, 768]⟩ : Shape).Idx) : i = ix3 (i 0) (i 1) (i 2) := by
  funext k
  match k with
  | ⟨0, _⟩ => rfl
  | ⟨1, _⟩ => rfl
  | ⟨2, _⟩ => rfl

/-- The kernel's result is the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => Cert.KernelIdeal.Value.G6 m c, Cert.KernelIdeal.Value.run (F := Ideal) m ρ, ?_⟩
  have hrun := Cert.ReferenceIdeal.StepRun.run_iter (F := Ideal) m' ρ'
    (fun c => Cert.Delta.R.refIter (Cert.ReferenceIdeal.StepRun.initState m' c)) (fun c => rfl) (fun c n => rfl)
  refine (θ_run _ _ _).mono (fun _ h c => ⟨(h c).1.trans ?_, (h c).2⟩) hrun
  obtain ⟨W, H, ha⟩ := Cert.Delta.Finite.args _ _ _ _ _ _ _ (hpre c)
  obtain ⟨e0, e1, e2, e3, e4, e5, e6⟩ := hagree c
  unfold Cert.ReferenceIdeal.StepRun.initState
  rw [e0, e1, e2, e3, e4, e5, e6]
  funext i
  rw [idx_eta i]
  exact (Cert.Delta.R.ref_result ha (i 0) (i 1) (i 2)).trans (Cert.Delta.K.result_eq m c ha (i 0) (i 1) (i 2)).symm

/-- The second reference runs and leaves its arguments; it declares no semaphore. -/
theorem frame_ri2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem idx_eta2 (i : (⟨3, ![4, 8320, 1024]⟩ : Shape).Idx) : i = ix3 (i 0) (i 1) (i 2) := by
  funext k
  match k with
  | ⟨0, _⟩ => rfl
  | ⟨1, _⟩ => rfl
  | ⟨2, _⟩ => rfl

/-- The output projection's result is the reference's. -/
theorem algebraic2 : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => (Cert.Kernel2Ideal.Gen.dats m 0 c).arrAt 8 Cert.Kernel2Ideal.cfg0.N, Cert.Kernel2Ideal.Value.run_blocks (F := Ideal) m ρ, ?_⟩
  refine (θ_run _ _ _).mono (fun _ h c => ⟨(h c).1.trans ?_, (h c).2⟩) (Cert.Reference2Ideal.Value.run (F := Ideal) m' ρ')
  obtain ⟨e0, e1, e2, e3, e4, e5⟩ := hagree c
  rw [e0, e1, e2, e3, e4, e5]
  funext i
  rw [idx_eta2 i]
  exact (Cert.Out.R.result_at _ _ _ _ _ _ (i 0) (i 1) (i 2)).trans (Cert.Out.K.array_at m c (i 0) (i 1) (i 2)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_ri,
  fun m ρ _ => frame_ri m ρ trivial,
  fun m ρ _ => Cert.Kernel2.Gen.frame m ρ,
  fun m ρ _ => Cert.Kernel2Ideal.Gen.frame m ρ,
  frame_ri2,
  trivial,
  algebraic,
  trivial,
  algebraic2⟩

end Cert.Proof

end
